-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 256]⟩ ⟨2, ![512, 2048]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨4, ![2, 128, 32, 64]⟩ ⟨4, ![2, 1024, 32, 64]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 128, 32, 64]⟩ ⟨4, ![2, 1024, 32, 64]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![256, 512]⟩ ⟨2, ![2048, 512]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v33) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S2x128x512 : Shape := ⟨3, ![2, 128, 512]⟩
abbrev S512x256 : Shape := ⟨2, ![512, 256]⟩
abbrev S2x128x32x64 : Shape := ⟨4, ![2, 128, 32, 64]⟩
abbrev S256x512 : Shape := ⟨2, ![256, 512]⟩
abbrev S_ : Shape := ⟨0, ![]⟩

class Facts : Prop where
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S2x128x32x64 : S_.BroadcastsInDim S2x128x32x64 (![] : Fin 0 → Fin S2x128x32x64.rank)
  reducesTo_S2x128x32x64_S_d0_1_2_3 : S2x128x32x64.ReducesTo [0, 1, 2, 3] S_

variable [Facts]

def fn {F : FTy → Type} [FloatOps F] (main_arg0 : FVec F S2x128x512 .f32) (main_arg1 : FVec F S512x256 .f32) (main_arg2 : FVec F S2x128x32x64 .f32) (main_arg3 : FVec F S2x128x32x64 .f32) (main_arg4 : FVec F S256x512 .f32) : IVec S_ 1 :=
  let main_v0 : FVec F S2x128x512 .f32 := Host.absf main_arg0
  let main_cst : FVec F S_ .f32 := constant S_ .f32 0x7F800000#32
  let main_v1 : FVec F S2x128x512 .f32 := broadcastInDim S2x128x512 ![] bcast_S_S2x128x512 main_cst
  let main_v2 : IVec S2x128x512 1 := cmpf .olt main_v0 main_v1
  let main_c : IVec S_ 1 := constantI S_ 1 1#1
  let main_v3 : IVec S_ 1 := (fun x v => Host.reduce IntOp.andi x v reducesTo_S2x128x512_S_d0_1_2 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S2x128x32x64 .f32 := Host.absf main_arg2
  let main_cst_2 : FVec F S_ .f32 := constant S_ .f32 0x7F800000#32
  let main_v10 : FVec F S2x128x32x64 .f32 := broadcastInDim S2x128x32x64 ![] bcast_S_S2x128x32x64 main_cst_2
  let main_v11 : IVec S2x128x32x64 1 := cmpf .olt main_v9 main_v10
  let main_c_3 : IVec S_ 1 := constantI S_ 1 1#1
  let main_v12 : IVec S_ 1 := (fun x v => Host.reduce IntOp.andi x v reducesTo_S2x128x32x64_S_d0_1_2_3 h_S_) main_v11 main_c_3
  let main_v13 : IVec S_ 1 := andi main_v8 main_v12
  main_v13
-- ==== Pre_finite_scores_ReferenceIdeal.lean ====
abbrev S2x128x512 : Shape := ⟨3, ![2, 128, 512]⟩
abbrev S512x2048 : Shape := ⟨2, ![512, 2048]⟩
abbrev S2x1024x32x64 : Shape := ⟨4, ![2, 1024, 32, 64]⟩
abbrev S2048x512 : Shape := ⟨2, ![2048, 512]⟩
abbrev S_ : Shape := ⟨0, ![]⟩

class Facts : Prop where
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x2048 : S_.BroadcastsInDim S512x2048 (![] : Fin 0 → Fin S512x2048.rank)
  reducesTo_S512x2048_S_d0_1 : S512x2048.ReducesTo [0, 1] S_
  bcast_S_S2x1024x32x64 : S_.BroadcastsInDim S2x1024x32x64 (![] : Fin 0 → Fin S2x1024x32x64.rank)
  reducesTo_S2x1024x32x64_S_d0_1_2_3 : S2x1024x32x64.ReducesTo [0, 1, 2, 3] S_

variable [Facts]

def fn {F : FTy → Type} [FloatOps F] (main_arg0 : FVec F S2x128x512 .f32) (main_arg1 : FVec F S512x2048 .f32) (main_arg2 : FVec F S2x1024x32x64 .f32) (main_arg3 : FVec F S2x1024x32x64 .f32) (main_arg4 : FVec F S2048x512 .f32) : IVec S_ 1 :=
  let main_v0 : FVec F S2x128x512 .f32 := Host.absf main_arg0
  let main_cst : FVec F S_ .f32 := constant S_ .f32 0x7F800000#32
  let main_v1 : FVec F S2x128x512 .f32 := broadcastInDim S2x128x512 ![] bcast_S_S2x128x512 main_cst
  let main_v2 : IVec S2x128x512 1 := cmpf .olt main_v0 main_v1
  let main_c : IVec S_ 1 := constantI S_ 1 1#1
  let main_v3 : IVec S_ 1 := (fun x v => Host.reduce IntOp.andi x v reducesTo_S2x128x512_S_d0_1_2 h_S_) main_v2 main_c
  let main_v4 : FVec F S512x2048 .f32 := Host.absf main_arg1
  let main_cst_0 : FVec F S_ .f32 := constant S_ .f32 0x7F800000#32
  let main_v5 : FVec F S512x2048 .f32 := broadcastInDim S512x2048 ![] bcast_S_S512x2048 main_cst_0
  let main_v6 : IVec S512x2048 1 := cmpf .olt main_v4 main_v5
  let main_c_1 : IVec S_ 1 := constantI S_ 1 1#1
  let main_v7 : IVec S_ 1 := (fun x v => Host.reduce IntOp.andi x v reducesTo_S512x2048_S_d0_1 h_S_) main_v6 main_c_1
  let main_v8 : IVec S_ 1 := andi main_v3 main_v7
  let main_v9 : FVec F S2x1024x32x64 .f32 := Host.absf main_arg2
  let main_cst_2 : FVec F S_ .f32 := constant S_ .f32 0x7F800000#32
  let main_v10 : FVec F S2x1024x32x64 .f32 := broadcastInDim S2x1024x32x64 ![] bcast_S_S2x1024x32x64 main_cst_2
  let main_v11 : IVec S2x1024x32x64 1 := cmpf .olt main_v9 main_v10
  let main_c_3 : IVec S_ 1 := constantI S_ 1 1#1
  let main_v12 : IVec S_ 1 := (fun x v => Host.reduce IntOp.andi x v reducesTo_S2x1024x32x64_S_d0_1_2_3 h_S_) main_v11 main_c_3
  let main_v13 : IVec S_ 1 := andi main_v8 main_v12
  main_v13
-- ==== Kernel.lean ====
abbrev S2x128x512 : Shape := ⟨3, ![2, 128, 512]⟩
abbrev S512x256 : Shape := ⟨2, ![512, 256]⟩
abbrev S2x128x32x64 : Shape := ⟨4, ![2, 128, 32, 64]⟩
abbrev S256x512 : Shape := ⟨2, ![256, 512]⟩
abbrev S7x2x2x128x4x64 : Shape := ⟨6, ![7, 2, 2, 128, 4, 64]⟩
abbrev S2x2x128x4x64 : Shape := ⟨5, ![2, 2, 128, 4, 64]⟩
abbrev S3x256x512 : Shape := ⟨3, ![3, 256, 512]⟩
abbrev S7 : Shape := ⟨1, ![7]⟩
abbrev S_ : Shape := ⟨0, ![]⟩
abbrev S3 : Shape := ⟨1, ![3]⟩
abbrev S2x128x4x64 : Shape := ⟨4, ![2, 128, 4, 64]⟩
abbrev S1x1x2x128x4x64 : Shape := ⟨6, ![1, 1, 2, 128, 4, 64]⟩
abbrev S1 : Shape := ⟨1, ![1]⟩
abbrev S1x2x2x128x4x64 : Shape := ⟨6, ![1, 2, 2, 128, 4, 64]⟩
abbrev S1x2x128x4x64 : Shape := ⟨5, ![1, 2, 128, 4, 64]⟩
abbrev S256x256 : Shape := ⟨2, ![256, 256]⟩
abbrev S128x128 : Shape := ⟨2, ![128, 128]⟩
abbrev S128x512 : Shape := ⟨2, ![128, 512]⟩
abbrev S128x64 : Shape := ⟨2, ![128, 64]⟩
abbrev S1x1x128x1x64 : Shape := ⟨5, ![1, 1, 128, 1, 64]⟩
abbrev S128 : Shape := ⟨1, ![128]⟩
abbrev S128x1 : Shape := ⟨2, ![128, 1]⟩
abbrev S64x512 : Shape := ⟨2, ![64, 512]⟩
abbrev S1x256x512 : Shape := ⟨3, ![1, 256, 512]⟩

abbrev nBuf : Space → Nat
  | .hbm => 6
  | .vmem => 11
  | .smem => 0
  | _ => 0

abbrev bufTy : (tb : Table) → Fin (tcTables nBuf tb) → BufTy
  | .hbm, ⟨0, _⟩ => ⟨S2x128x512, .f32⟩
  | .hbm, ⟨1, _⟩ => ⟨S512x256, .f32⟩
  | .hbm, ⟨2, _⟩ => ⟨S2x128x32x64, .f32⟩
  | .hbm, ⟨3, _⟩ => ⟨S2x128x32x64, .f32⟩
  | .hbm, ⟨4, _⟩ => ⟨S256x512, .f32⟩
  | .hbm, ⟨5, _⟩ => ⟨S2x128x512, .f32⟩
  | .local _ .vmem, ⟨0, _⟩ => ⟨S2x128x512, .f32⟩
  | .local _ .vmem, ⟨1, _⟩ => ⟨S512x256, .f32⟩
  | .local _ .vmem, ⟨2, _⟩ => ⟨S2x128x32x64, .f32⟩
  | .local _ .vmem, ⟨3, _⟩ => ⟨S2x128x32x64, .f32⟩
  | .local _ .vmem, ⟨4, _⟩ => ⟨S256x512, .f32⟩
  | .local _ .vmem, ⟨5, _⟩ => ⟨S2x128x512, .f32⟩
  | .local _ .vmem, ⟨6, _⟩ => ⟨S7x2x2x128x4x64, .bf16⟩
  | .local _ .vmem, ⟨7, _⟩ => ⟨S2x2x128x4x64, .bf16⟩
  | .local _ .vmem, ⟨8, _⟩ => ⟨S256x512, .f32⟩
  | .local _ .vmem, ⟨9, _⟩ => ⟨S256x512, .bf16⟩
  | .local _ .vmem, ⟨10, _⟩ => ⟨S3x256x512, .bf16⟩
  | _, _ => ⟨S2x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 2 → Bool
  | ⟨0, _⟩ => true
  | ⟨1, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  (ofTc nBuf bufTy 2 20 bufScoped semScoped dmaSemScoped tileCredit tileCredit_eq_zero tileCredit_pos).withBarriers [(0, 1)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 1

abbrev nD : Nat := 8
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .ne v2 c0_i32
  let v5 : BitVec 32 := Scalar.extui v4
  let c0_i32_0 : BitVec 32 := 0#32
  let v6 : BitVec 1 := Scalar.cmpi .ne v5 c0_i32_0
  v6

def k0_dev1 : Nat :=
  let c0_i32_279 : BitVec 32 := 0#32
  let c0_i32_277 : BitVec 32 := 0#32
  let c1_i32_278 : BitVec 32 := 1#32
  let v399 : BitVec 32 := Scalar.muli c0_i32_277 c1_i32_278
  let v400 : BitVec 32 := Scalar.addi c0_i32_279 v399
  v400.toNat
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v7 : BitVec 1 := Scalar.cmpi .ne v2 c1_i32_1
  let v8 : BitVec 32 := Scalar.extui v7
  let c0_i32_2 : BitVec 32 := 0#32
  let v9 : BitVec 1 := Scalar.cmpi .ne v8 c0_i32_2
  v9

def k0_dev2 : Nat :=
  let c0_i32_279 : BitVec 32 := 0#32
  let c1_i32_277 : BitVec 32 := 1#32
  let c1_i32_278 : BitVec 32 := 1#32
  let v399 : BitVec 32 := Scalar.muli c1_i32_277 c1_i32_278
  let v400 : BitVec 32 := Scalar.addi c0_i32_279 v399
  v400.toNat
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v10 : BitVec 1 := Scalar.cmpi .ne v2 c2_i32
  let v11 : BitVec 32 := Scalar.extui v10
  let c0_i32_3 : BitVec 32 := 0#32
  let v12 : BitVec 1 := Scalar.cmpi .ne v11 c0_i32_3
  v12

def k0_dev3 : Nat :=
  let c0_i32_279 : BitVec 32 := 0#32
  let c2_i32_277 : BitVec 32 := 2#32
  let c1_i32_278 : BitVec 32 := 1#32
  let v399 : BitVec 32 := Scalar.muli c2_i32_277 c1_i32_278
  let v400 : BitVec 32 := Scalar.addi c0_i32_279 v399
  v400.toNat
def k0_cond4 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v13 : BitVec 1 := Scalar.cmpi .ne v2 c3_i32
  let v14 : BitVec 32 := Scalar.extui v13
  let c0_i32_4 : BitVec 32 := 0#32
  let v15 : BitVec 1 := Scalar.cmpi .ne v14 c0_i32_4
  v15

def k0_dev4 : Nat :=
  let c0_i32_279 : BitVec 32 := 0#32
  let c3_i32_277 : BitVec 32 := 3#32
  let c1_i32_278 : BitVec 32 := 1#32
  let v399 : BitVec 32 := Scalar.muli c3_i32_277 c1_i32_278
  let v400 : BitVec 32 := Scalar.addi c0_i32_279 v399
  v400.toNat
def k0_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 1 := Scalar.cmpi .ne v2 c4_i32
  let v17 : BitVec 32 := Scalar.extui v16
  let c0_i32_5 : BitVec 32 := 0#32
  let v18 : BitVec 1 := Scalar.cmpi .ne v17 c0_i32_5
  v18

def k0_dev5 : Nat :=
  let c0_i32_279 : BitVec 32 := 0#32
  let c4_i32_277 : BitVec 32 := 4#32
  let c1_i32_278 : BitVec 32 := 1#32
  let v399 : BitVec 32 := Scalar.muli c4_i32_277 c1_i32_278
  let v400 : BitVec 32 := Scalar.addi c0_i32_279 v399
  v400.toNat
def k0_cond6 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v19 : BitVec 1 := Scalar.cmpi .ne v2 c5_i32
  let v20 : BitVec 32 := Scalar.extui v19
  let c0_i32_6 : BitVec 32 := 0#32
  let v21 : BitVec 1 := Scalar.cmpi .ne v20 c0_i32_6
  v21

def k0_dev6 : Nat :=
  let c0_i32_279 : BitVec 32 := 0#32
  let c5_i32_277 : BitVec 32 := 5#32
  let c1_i32_278 : BitVec 32 := 1#32
  let v399 : BitVec 32 := Scalar.muli c5_i32_277 c1_i32_278
  let v400 : BitVec 32 := Scalar.addi c0_i32_279 v399
  v400.toNat
def k0_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v22 : BitVec 1 := Scalar.cmpi .ne v2 c6_i32
  let v23 : BitVec 32 := Scalar.extui v22
  let c0_i32_7 : BitVec 32 := 0#32
  let v24 : BitVec 1 := Scalar.cmpi .ne v23 c0_i32_7
  v24

def k0_dev7 : Nat :=
  let c0_i32_279 : BitVec 32 := 0#32
  let c6_i32_277 : BitVec 32 := 6#32
  let c1_i32_278 : BitVec 32 := 1#32
  let v399 : BitVec 32 := Scalar.muli c6_i32_277 c1_i32_278
  let v400 : BitVec 32 := Scalar.addi c0_i32_279 v399
  v400.toNat
def k0_cond8 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v25 : BitVec 1 := Scalar.cmpi .ne v2 c7_i32
  let v26 : BitVec 32 := Scalar.extui v25
  let c0_i32_8 : BitVec 32 := 0#32
  let v27 : BitVec 1 := Scalar.cmpi .ne v26 c0_i32_8
  v27

def k0_dev8 : Nat :=
  let c0_i32_279 : BitVec 32 := 0#32
  let c7_i32_277 : BitVec 32 := 7#32
  let c1_i32_278 : BitVec 32 := 1#32
  let v399 : BitVec 32 := Scalar.muli c7_i32_277 c1_i32_278
  let v400 : BitVec 32 := Scalar.addi c0_i32_279 v399
  v400.toNat
def k0_cond9 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_10 : BitVec 32 := 0#32
  let v28 : BitVec 1 := Scalar.cmpi .eq v2 c0_i32_10
  let v29 : BitVec 32 := Scalar.extui v28
  let c0_i32_11 : BitVec 32 := 0#32
  let v30 : BitVec 1 := Scalar.cmpi .ne v29 c0_i32_11
  v30

def k0_dev9 : Nat :=
  let c0_i32_299 : BitVec 32 := 0#32
  let c1_i32_297 : BitVec 32 := 1#32
  let c1_i32_298 : BitVec 32 := 1#32
  let v411 : BitVec 32 := Scalar.muli c1_i32_297 c1_i32_298
  let v412 : BitVec 32 := Scalar.addi c0_i32_299 v411
  v412.toNat
def k0_dev10 : Nat :=
  let c0_i32_328 : BitVec 32 := 0#32
  let c2_i32_326 : BitVec 32 := 2#32
  let c1_i32_327 : BitVec 32 := 1#32
  let v429 : BitVec 32 := Scalar.muli c2_i32_326 c1_i32_327
  let v430 : BitVec 32 := Scalar.addi c0_i32_328 v429
  v430.toNat
def k0_dev11 : Nat :=
  let c0_i32_357 : BitVec 32 := 0#32
  let c3_i32_355 : BitVec 32 := 3#32
  let c1_i32_356 : BitVec 32 := 1#32
  let v447 : BitVec 32 := Scalar.muli c3_i32_355 c1_i32_356
  let v448 : BitVec 32 := Scalar.addi c0_i32_357 v447
  v448.toNat
def k0_dev12 : Nat :=
  let c0_i32_386 : BitVec 32 := 0#32
  let c4_i32_384 : BitVec 32 := 4#32
  let c1_i32_385 : BitVec 32 := 1#32
  let v465 : BitVec 32 := Scalar.muli c4_i32_384 c1_i32_385
  let v466 : BitVec 32 := Scalar.addi c0_i32_386 v465
  v466.toNat
def k0_dev13 : Nat :=
  let c0_i32_415 : BitVec 32 := 0#32
  let c5_i32_413 : BitVec 32 := 5#32
  let c1_i32_414 : BitVec 32 := 1#32
  let v483 : BitVec 32 := Scalar.muli c5_i32_413 c1_i32_414
  let v484 : BitVec 32 := Scalar.addi c0_i32_415 v483
  v484.toNat
def k0_dev14 : Nat :=
  let c0_i32_443 : BitVec 32 := 0#32
  let c6_i32_441 : BitVec 32 := 6#32
  let c1_i32_442 : BitVec 32 := 1#32
  let v501 : BitVec 32 := Scalar.muli c6_i32_441 c1_i32_442
  let v502 : BitVec 32 := Scalar.addi c0_i32_443 v501
  v502.toNat
def k0_dev15 : Nat :=
  let c0_i32_471 : BitVec 32 := 0#32
  let c7_i32_469 : BitVec 32 := 7#32
  let c1_i32_470 : BitVec 32 := 1#32
  let v519 : BitVec 32 := Scalar.muli c7_i32_469 c1_i32_470
  let v520 : BitVec 32 := Scalar.addi c0_i32_471 v519
  v520.toNat
def k0_cond10 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_16 : BitVec 32 := 0#32
  let v38 : BitVec 1 := Scalar.cmpi .ne v2 c0_i32_16
  let v39 : BitVec 32 := Scalar.extui v38
  let c0_i32_17 : BitVec 32 := 0#32
  let v40 : BitVec 1 := Scalar.cmpi .ne v39 c0_i32_17
  v40

def k0_dev16 : Nat :=
  let c0_i32_289 : BitVec 32 := 0#32
  let c0_i32_287 : BitVec 32 := 0#32
  let c1_i32_288 : BitVec 32 := 1#32
  let v403 : BitVec 32 := Scalar.muli c0_i32_287 c1_i32_288
  let v404 : BitVec 32 := Scalar.addi c0_i32_289 v403
  v404.toNat
def k0_dev17 (d0 : Dev nD) : Nat :=
  let c0_i32_182 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_173 : BitVec 32 := 1#32
  let v297 : BitVec 32 := Scalar.xori v2 c1_i32_173
  let c1_i32_181 : BitVec 32 := 1#32
  let v303 : BitVec 32 := Scalar.muli v297 c1_i32_181
  let v304 : BitVec 32 := Scalar.addi c0_i32_182 v303
  v304.toNat
def k0_dev18 (d0 : Dev nD) : Nat :=
  let c0_i32_214 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_205 : BitVec 32 := 3#32
  let v329 : BitVec 32 := Scalar.xori v2 c3_i32_205
  let c1_i32_213 : BitVec 32 := 1#32
  let v335 : BitVec 32 := Scalar.muli v329 c1_i32_213
  let v336 : BitVec 32 := Scalar.addi c0_i32_214 v335
  v336.toNat
def k0_dev19 (d0 : Dev nD) : Nat :=
  let c0_i32_246 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_237 : BitVec 32 := 4#32
  let v361 : BitVec 32 := Scalar.xori v2 c4_i32_237
  let c1_i32_245 : BitVec 32 := 1#32
  let v367 : BitVec 32 := Scalar.muli v361 c1_i32_245
  let v368 : BitVec 32 := Scalar.addi c0_i32_246 v367
  v368.toNat
abbrev stage0_0 : Fin 1 → Memref sig .tc .vmem S2x128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128x32x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x32x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S2x128x512 : Shape := ⟨3, ![2, 128, 512]⟩
abbrev S512x2048 : Shape := ⟨2, ![512, 2048]⟩
abbrev S2x1024x32x64 : Shape := ⟨4, ![2, 1024, 32, 64]⟩
abbrev S2048x512 : Shape := ⟨2, ![2048, 512]⟩
abbrev S2x128x2048 : Shape := ⟨3, ![2, 128, 2048]⟩
abbrev S2x128x32x64 : Shape := ⟨4, ![2, 128, 32, 64]⟩
abbrev S128 : Shape := ⟨1, ![128]⟩
abbrev S_ : Shape := ⟨0, ![]⟩
abbrev S128x1 : Shape := ⟨2, ![128, 1]⟩
abbrev S1024 : Shape := ⟨1, ![1024]⟩
abbrev S1x1024 : Shape := ⟨2, ![1, 1024]⟩
abbrev S128x1024 : Shape := ⟨2, ![128, 1024]⟩
abbrev S2x32x128x1024 : Shape := ⟨4, ![2, 32, 128, 1024]⟩
abbrev S1x1x128x1024 : Shape := ⟨4, ![1, 1, 128, 1024]⟩
abbrev S2x32x128 : Shape := ⟨3, ![2, 32, 128]⟩
abbrev S2x32x128x1 : Shape := ⟨4, ![2, 32, 128, 1]⟩
abbrev S1x1x128x1 : Shape := ⟨4, ![1, 1, 128, 1]⟩
abbrev S2x32x64x128 : Shape := ⟨4, ![2, 32, 64, 128]⟩

abbrev nBuf : Space → Nat
  | .hbm => 89
  | .vmem => 0
  | .smem => 0
  | _ => 0

abbrev bufTy : (tb : Table) → Fin (tcTables nBuf tb) → BufTy
  | .hbm, ⟨0, _⟩ => ⟨S2x128x512, .f32⟩
  | .hbm, ⟨1, _⟩ => ⟨S512x2048, .f32⟩
  | .hbm, ⟨2, _⟩ => ⟨S2x1024x32x64, .f32⟩
  | .hbm, ⟨3, _⟩ => ⟨S2x1024x32x64, .f32⟩
  | .hbm, ⟨4, _⟩ => ⟨S2048x512, .f32⟩
  | .hbm, ⟨5, _⟩ => ⟨S2x128x2048, .f32⟩
  | .hbm, ⟨6, _⟩ => ⟨S2x128x32x64, .f32⟩
  | .hbm, ⟨7, _⟩ => ⟨S128, .i32⟩
  | .hbm, ⟨8, _⟩ => ⟨S_, .i32⟩
  | .hbm, ⟨9, _⟩ => ⟨S_, .i32⟩
  | .hbm, ⟨10, _⟩ => ⟨S128, .i32⟩
  | .hbm, ⟨11, _⟩ => ⟨S128, .i32⟩
  | .hbm, ⟨12, _⟩ => ⟨S128, .i32⟩
  | .hbm, ⟨13, _⟩ => ⟨S_, .i32⟩
  | .hbm, ⟨14, _⟩ => ⟨S128, .i32⟩
  | .hbm, ⟨15, _⟩ => ⟨S128, .i1⟩
  | .hbm, ⟨16, _⟩ => ⟨S128, .i32⟩
  | .hbm, ⟨17, _⟩ => ⟨S128, .i32⟩
  | .hbm, ⟨18, _⟩ => ⟨S_, .i32⟩
  | .hbm, ⟨19, _⟩ => ⟨S128, .i32⟩
  | .hbm, ⟨20, _⟩ => ⟨S128, .i1⟩
  | .hbm, ⟨21, _⟩ => ⟨S128, .i1⟩
  | .hbm, ⟨22, _⟩ => ⟨S_, .i32⟩
  | .hbm, ⟨23, _⟩ => ⟨S128, .i32⟩
  | .hbm, ⟨24, _⟩ => ⟨S128, .i32⟩
  | .hbm, ⟨25, _⟩ => ⟨S128, .i32⟩
  | .hbm, ⟨26, _⟩ => ⟨S128x1, .i32⟩
  | .hbm, ⟨27, _⟩ => ⟨S1024, .i32⟩
  | .hbm, ⟨28, _⟩ => ⟨S_, .i32⟩
  | .hbm, ⟨29, _⟩ => ⟨S_, .i32⟩
  | .hbm, ⟨30, _⟩ => ⟨S1024, .i32⟩
  | .hbm, ⟨31, _⟩ => ⟨S1024, .i32⟩
  | .hbm, ⟨32, _⟩ => ⟨S1024, .i32⟩
  | .hbm, ⟨33, _⟩ => ⟨S_, .i32⟩
  | .hbm, ⟨34, _⟩ => ⟨S1024, .i32⟩
  | .hbm, ⟨35, _⟩ => ⟨S1024, .i1⟩
  | .hbm, ⟨36, _⟩ => ⟨S1024, .i32⟩
  | .hbm, ⟨37, _⟩ => ⟨S1024, .i32⟩
  | .hbm, ⟨38, _⟩ => ⟨S_, .i32⟩
  | .hbm, ⟨39, _⟩ => ⟨S1024, .i32⟩
  | .hbm, ⟨40, _⟩ => ⟨S1024, .i1⟩
  | .hbm, ⟨41, _⟩ => ⟨S1024, .i1⟩
  | .hbm, ⟨42, _⟩ => ⟨S_, .i32⟩
  | .hbm, ⟨43, _⟩ => ⟨S1024, .i32⟩
  | .hbm, ⟨44, _⟩ => ⟨S1024, .i32⟩
  | .hbm, ⟨45, _⟩ => ⟨S1024, .i32⟩
  | .hbm, ⟨46, _⟩ => ⟨S1x1024, .i32⟩
  | .hbm, ⟨47, _⟩ => ⟨S128x1024, .i32⟩
  | .hbm, ⟨48, _⟩ => ⟨S128x1024, .i32⟩
  | .hbm, ⟨49, _⟩ => ⟨S128x1024, .i1⟩
  | .hbm, ⟨50, _⟩ => ⟨S2x32x128x1024, .f32⟩
  | .hbm, ⟨51, _⟩ => ⟨S_, .f32⟩
  | .hbm, ⟨52, _⟩ => ⟨S2x32x128x1024, .f32⟩
  | .hbm, ⟨53, _⟩ => ⟨S2x32x128x1024, .f32⟩
  | .hbm, ⟨54, _⟩ => ⟨S1x1x128x1024, .i1⟩
  | .hbm, ⟨55, _⟩ => ⟨S_, .f32⟩
  | .hbm, ⟨56, _⟩ => ⟨S_, .f32⟩
  | .hbm, ⟨57, _⟩ => ⟨S2x32x128x1024, .i1⟩
  | .hbm, ⟨58, _⟩ => ⟨S2x32x128x1024, .f32⟩
  | .hbm, ⟨59, _⟩ => ⟨S2x32x128x1024, .f32⟩
  | .hbm, ⟨60, _⟩ => ⟨S_, .f32⟩
  | .hbm, ⟨61, _⟩ => ⟨S2x32x128, .f32⟩
  | .hbm, ⟨62, _⟩ => ⟨S2x32x128x1, .f32⟩
  | .hbm, ⟨63, _⟩ => ⟨S2x32x128x1024, .f32⟩
  | .hbm, ⟨64, _⟩ => ⟨S2x32x128x1024, .f32⟩
  | .hbm, ⟨65, _⟩ => ⟨S2x32x128x1024, .f32⟩
  | .hbm, ⟨66, _⟩ => ⟨S_, .i1⟩
  | .hbm, ⟨67, _⟩ => ⟨S128, .i1⟩
  | .hbm, ⟨68, _⟩ => ⟨S1x1x128x1, .i1⟩
  | .hbm, ⟨69, _⟩ => ⟨S_, .f32⟩
  | .hbm, ⟨70, _⟩ => ⟨S2x32x128, .f32⟩
  | .hbm, ⟨71, _⟩ => ⟨S2x32x128x1, .f32⟩
  | .hbm, ⟨72, _⟩ => ⟨S_, .f32⟩
  | .hbm, ⟨73, _⟩ => ⟨S_, .f32⟩
  | .hbm, ⟨74, _⟩ => ⟨S2x32x128x1, .i1⟩
  | .hbm, ⟨75, _⟩ => ⟨S2x32x128x1, .f32⟩
  | .hbm, ⟨76, _⟩ => ⟨S2x32x128x1, .f32⟩
  | .hbm, ⟨77, _⟩ => ⟨S2x32x128x1024, .f32⟩
  | .hbm, ⟨78, _⟩ => ⟨S2x32x128x1024, .f32⟩
  | .hbm, ⟨79, _⟩ => ⟨S1x1x128x1, .i1⟩
  | .hbm, ⟨80, _⟩ => ⟨S_, .f32⟩
  | .hbm, ⟨81, _⟩ => ⟨S_, .f32⟩
  | .hbm, ⟨82, _⟩ => ⟨S2x32x128x1024, .i1⟩
  | .hbm, ⟨83, _⟩ => ⟨S2x32x128x1024, .f32⟩
  | .hbm, ⟨84, _⟩ => ⟨S2x32x128x1024, .f32⟩
  | .hbm, ⟨85, _⟩ => ⟨S2x32x64x128, .f32⟩
  | .hbm, ⟨86, _⟩ => ⟨S2x128x32x64, .f32⟩
  | .hbm, ⟨87, _⟩ => ⟨S2x128x2048, .f32⟩
  | .hbm, ⟨88, _⟩ => ⟨S2x128x512, .f32⟩
  | _, _ => ⟨S2x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_cst : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_cst_1 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_v15 : Ref sig .tc := ⟨.hbm, 59, rfl⟩
abbrev main_cst_2 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_c_3 : Ref sig .tc := ⟨.hbm, 66, rfl⟩
abbrev main_v21 : Ref sig .tc := ⟨.hbm, 67, rfl⟩
abbrev main_v22 : Ref sig .tc := ⟨.hbm, 68, rfl⟩
abbrev main_cst_4 : Ref sig .tc := ⟨.hbm, 69, rfl⟩
abbrev main_v23 : Ref sig .tc := ⟨.hbm, 70, rfl⟩
abbrev main_v24 : Ref sig .tc := ⟨.hbm, 71, rfl⟩
abbrev main_cst_5 : Ref sig .tc := ⟨.hbm, 72, rfl⟩
abbrev main_call3_v0 : Ref sig .tc := ⟨.hbm, 73, rfl⟩
abbrev main_call3_v1 : Ref sig .tc := ⟨.hbm, 74, rfl⟩
abbrev main_call3_v2 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_cst_6 : Ref sig .tc := ⟨.hbm, 80, rfl⟩
abbrev main_call4_v0 : Ref sig .tc := ⟨.hbm, 81, rfl⟩
abbrev main_call4_v1 : Ref sig .tc := ⟨.hbm, 82, rfl⟩
abbrev main_call4_v2 : Ref sig .tc := ⟨.hbm, 83, rfl⟩
abbrev main_v29 : Ref sig .tc := ⟨.hbm, 84, rfl⟩
abbrev main_v30 : Ref sig .tc := ⟨.hbm, 85, rfl⟩
abbrev main_v31 : Ref sig .tc := ⟨.hbm, 86, rfl⟩
abbrev main_v32 : Ref sig .tc := ⟨.hbm, 87, rfl⟩
abbrev main_v33 : Ref sig .tc := ⟨.hbm, 88, rfl⟩

abbrev nD : Nat := 1
abbrev τ : Topo := Topo.v7x

variable {F : FTy → Type} [FloatOps F]
-- ==== Proof.KernelIdeal.Vals.lean ====
/-
# What the kernel computes, buffer by buffer

The contents every buffer of the kernel holds once it is written, as functions of the arrays the program starts
with. Nothing here runs anything: the schedule (`Sched`) names these contents in the payloads the devices hand one
another, and the body (`Body*`) shows that the stores write them.

Device 0 alone holds the live keys and values. It cuts them into eight groups of four heads and sends group `p` to
device `p`; `kvC p` is that group, in bf16. Device `c` computes the attention of its four heads and multiplies by
its block of the output projection: `acc0 c`. Three exchanges follow, with the devices whose number differs by 1, 3
and 4 under exclusive or; after exchange `r` the accumulator is `accR (r + 1) c`.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdealRun

open Cert.KernelIdeal Cert.KernelIdeal.Gen

open Idealize.ShloMosaic
open Idealize.ShloMosaic.TcCoe
open Idealize.SL Idealize.SL.RA Idealize.SL.BI

variable {F : FTy → Type} [FloatOps F] [Named F]

variable (m : (ℓ : Loc nD τ sig) → Buf (Elt F) ℓ) (ρ : Dev nD → PrngReg)

/-- The state the program starts in: every semaphore at zero. -/
def s₀ : MemSt nD τ sig (Elt F) := ⟨m, fun _ => 0, ρ⟩

/-! ## The buffers -/

abbrev xM : Memref sig .tc .vmem S2x128x512 .f32 := Memref.whole cc0_stg0_0
abbrev wqM : Memref sig .tc .vmem S512x256 .f32 := Memref.whole cc0_stg1_0
abbrev kM : Memref sig .tc .vmem S2x128x32x64 .f32 := Memref.whole cc0_stg2_0
abbrev vM : Memref sig .tc .vmem S2x128x32x64 .f32 := Memref.whole cc0_stg3_0
abbrev woM : Memref sig .tc .vmem S256x512 .f32 := Memref.whole cc0_stg4_0
abbrev oM : Memref sig .tc .vmem S2x128x512 .f32 := Memref.whole cc0_stg5_0
abbrev stM : Memref sig .tc .vmem S7x2x2x128x4x64 .bf16 := Memref.whole cc0_scratch0
abbrev kvM : Memref sig .tc .vmem S2x2x128x4x64 .bf16 := Memref.whole cc0_scratch1
abbrev accM : Memref sig .tc .vmem S256x512 .f32 := Memref.whole cc0_scratch2
abbrev sbM : Memref sig .tc .vmem S256x512 .bf16 := Memref.whole cc0_scratch3
abbrev rbM : Memref sig .tc .vmem S3x256x512 .bf16 := Memref.whole cc0_scratch4

theorem inb_st (p : Fin 7) : ∀ a, (![p.val, 0, 0, 0, 0, 0] : Fin 6 → Nat) a + S1x2x2x128x4x64.size a ≤ S7x2x2x128x4x64.size a := by
  revert p; decide
theorem inb_rb (r : Fin 3) : ∀ a, (![r.val, 0, 0] : Fin 3 → Nat) a + S1x256x512.size a ≤ S3x256x512.size a := by
  revert r; decide

/-- The slice of the staging buffer that goes to device `p + 1`. -/
abbrev stSlot (p : Fin 7) : Memref sig .tc .vmem S2x2x128x4x64 .bf16 :=
  ((stM.slice (Rect.unit (s := S7x2x2x128x4x64) ![p.val, 0, 0, 0, 0, 0] S1x2x2x128x4x64.size (inb_st p)) (fun _ => rfl)).squeeze
    S2x2x128x4x64 squeezes_S1x2x2x128x4x64_S2x2x128x4x64)
/-- The slice of the receive buffer that exchange `r` writes. -/
abbrev rbSlot (r : Fin 3) : Memref sig .tc .vmem S256x512 .bf16 :=
  ((rbM.slice (Rect.unit (s := S3x256x512) ![r.val, 0, 0] S1x256x512.size (inb_rb r)) (fun _ => rfl)).squeeze
    S256x512 squeezes_S1x256x512_S256x512)

/-! ## The staged inputs -/

def X0 (c : Dev nD) : (cc0_stg0_0 : Ref sig .tc).ty.Contents (Elt F) :=
  (win0_0.blk (0 : Fin 1)).view.read (Elt F) ((s₀ m ρ).mem ((c : Thread nD τ).loc main_arg0))
def X1 (c : Dev nD) : (cc0_stg1_0 : Ref sig .tc).ty.Contents (Elt F) :=
  (win0_1.blk (0 : Fin 1)).view.read (Elt F) ((s₀ m ρ).mem ((c : Thread nD τ).loc main_arg1))
def X2 (c : Dev nD) : (cc0_stg2_0 : Ref sig .tc).ty.Contents (Elt F) :=
  (win0_2.blk (0 : Fin 1)).view.read (Elt F) ((s₀ m ρ).mem ((c : Thread nD τ).loc main_arg2))
def X3 (c : Dev nD) : (cc0_stg3_0 : Ref sig .tc).ty.Contents (Elt F) :=
  (win0_3.blk (0 : Fin 1)).view.read (Elt F) ((s₀ m ρ).mem ((c : Thread nD τ).loc main_arg3))
def X4 (c : Dev nD) : (cc0_stg4_0 : Ref sig .tc).ty.Contents (Elt F) :=
  (win0_4.blk (0 : Fin 1)).view.read (Elt F) ((s₀ m ρ).mem ((c : Thread nD τ).loc main_arg4))

/-! ## Keys and values, cut by head -/

theorem inb_head (p : Fin 8) : ∀ a, (![0, 0, 4 * p.val, 0] : Fin 4 → Nat) a + S2x128x4x64.size a ≤ S2x128x32x64.size a := by
  revert p; decide

/-- The heads `4 p .. 4 p + 3` of a key or value block, in bf16. -/
def headsK (x : (cc0_stg2_0 : Ref sig .tc).ty.Contents (Elt F)) (p : Fin 8) : FVec F S2x128x4x64 .bf16 :=
  truncf .bf16 (shapeCast S2x128x4x64 (kM.view.readAt (Elt F) (Rect.unit (s := S2x128x32x64) ![0, 0, 4 * p.val, 0] S2x128x4x64.size (inb_head p)).toLoadRect x)
    shapeCasts_S2x128x4x64_S2x128x4x64) bitsLt_bf16_f32
def headsV (x : (cc0_stg3_0 : Ref sig .tc).ty.Contents (Elt F)) (p : Fin 8) : FVec F S2x128x4x64 .bf16 :=
  truncf .bf16 (shapeCast S2x128x4x64 (vM.view.readAt (Elt F) (Rect.unit (s := S2x128x32x64) ![0, 0, 4 * p.val, 0] S2x128x4x64.size (inb_head p)).toLoadRect x)
    shapeCasts_S2x128x4x64_S2x128x4x64) bitsLt_bf16_f32

/-- Keys (first index 0) and values (first index 1) of four heads, together. -/
def joinKV (k v : FVec F S2x128x4x64 .bf16) : S2x2x128x4x64.Idx → Elt F .bf16 := fun i =>
  if (i (0 : Fin 5)).val = 0 then k (Fin.cons (i (1 : Fin 5)) (Fin.cons (i (2 : Fin 5)) (Fin.cons (i (3 : Fin 5)) (Fin.cons (i (4 : Fin 5)) finZeroElim))))
  else v (Fin.cons (i (1 : Fin 5)) (Fin.cons (i (2 : Fin 5)) (Fin.cons (i (3 : Fin 5)) (Fin.cons (i (4 : Fin 5)) finZeroElim))))

/-- What device `p` holds in its key/value buffer when it computes: device 0's heads `4 p .. 4 p + 3`. -/
def kvC (p : Dev nD) : (cc0_scratch1 : Ref sig .tc).ty.Contents (Elt F) :=
  joinKV (headsK (X2 m ρ 0) p) (headsV (X3 m ρ 0) p)

/-! ## The attention of four heads, times the output projection -/

section Att
variable (q : FVec F S256x256 .bf16) (w : FVec F S256x512 .f32) (kv : (cc0_scratch1 : Ref sig .tc).ty.Contents (Elt F))

/-- One head of one batch entry's keys or values. -/
abbrev kvAt (o : Fin 5 → Nat) (h : ∀ a, o a + S1x1x128x1x64.size a ≤ S2x2x128x4x64.size a) : Vec F S1x1x128x1x64 .bf16 :=
  kvM.view.readAt (Elt F) (Rect.unit (s := S2x2x128x4x64) o S1x1x128x1x64.size h).toLoadRect kv

abbrev col : IVec S128x128 32 := iota .tc S128x128 32 [1] iota_S128x128_d1_w32
/-- Whether a query may look at a key. -/
def mk : IVec S128x128 1 := k0_pay22 k0_pay20 col 64#32 k0_pay21 0#32

def t1 : FVec F S128x512 .f32 :=
  k0_pay28 q mk w (k0_pay24 (F := F)) (k0_pay25 (kvAt kv ![1, 0, 0, 0, 0] inb_S2x2x128x4x64_S1x1x128x1x64_1_0_0_0_0))
    (k0_pay26 q k0_pay20 col 64#32 k0_pay21 0#32 (kvAt kv ![0, 0, 0, 0, 0] inb_S2x2x128x4x64_S1x1x128x1x64_0_0_0_0_0))
    (k0_pay27 q k0_pay20 col 64#32 k0_pay21 0#32 (kvAt kv ![0, 0, 0, 0, 0] inb_S2x2x128x4x64_S1x1x128x1x64_0_0_0_0_0))
    (kvAt kv ![0, 0, 0, 1, 0] inb_S2x2x128x4x64_S1x1x128x1x64_0_0_0_1_0) (kvAt kv ![1, 0, 0, 1, 0] inb_S2x2x128x4x64_S1x1x128x1x64_1_0_0_1_0)
def t2 : FVec F S128x512 .f32 :=
  k0_pay30 mk w (t1 q w kv) (k0_pay29 q) (kvAt kv ![0, 0, 0, 2, 0] inb_S2x2x128x4x64_S1x1x128x1x64_0_0_0_2_0) (kvAt kv ![1, 0, 0, 2, 0] inb_S2x2x128x4x64_S1x1x128x1x64_1_0_0_2_0)
/-- The first batch entry's rows. -/
def top : FVec F S128x512 .f32 :=
  k0_pay33 w (t2 q w kv) (k0_pay31 (kvAt kv ![1, 0, 0, 3, 0] inb_S2x2x128x4x64_S1x1x128x1x64_1_0_0_3_0)) (k0_pay32 q mk (kvAt kv ![0, 0, 0, 3, 0] inb_S2x2x128x4x64_S1x1x128x1x64_0_0_0_3_0))

def b1 : FVec F S128x512 .f32 :=
  k0_pay37 q mk w (k0_pay34 (F := F)) (k0_pay35 (kvAt kv ![1, 1, 0, 0, 0] inb_S2x2x128x4x64_S1x1x128x1x64_1_1_0_0_0))
    (k0_pay36 q mk (kvAt kv ![0, 1, 0, 0, 0] inb_S2x2x128x4x64_S1x1x128x1x64_0_1_0_0_0))
    (kvAt kv ![0, 1, 0, 1, 0] inb_S2x2x128x4x64_S1x1x128x1x64_0_1_0_1_0) (kvAt kv ![1, 1, 0, 1, 0] inb_S2x2x128x4x64_S1x1x128x1x64_1_1_0_1_0)
def b2 : FVec F S128x512 .f32 :=
  k0_pay40 mk w (b1 q w kv) (k0_pay38 q) (k0_pay39 (kvAt kv ![0, 1, 0, 2, 0] inb_S2x2x128x4x64_S1x1x128x1x64_0_1_0_2_0)) (kvAt kv ![1, 1, 0, 2, 0] inb_S2x2x128x4x64_S1x1x128x1x64_1_1_0_2_0)
/-- The second batch entry's rows. -/
def bot : FVec F S128x512 .f32 :=
  k0_pay44 w (b2 q w kv) (k0_pay41 (kvAt kv ![1, 1, 0, 3, 0] inb_S2x2x128x4x64_S1x1x128x1x64_1_1_0_3_0))
    (k0_pay42 q mk (kvAt kv ![0, 1, 0, 3, 0] inb_S2x2x128x4x64_S1x1x128x1x64_0_1_0_3_0)) (k0_pay43 q mk (kvAt kv ![0, 1, 0, 3, 0] inb_S2x2x128x4x64_S1x1x128x1x64_0_1_0_3_0))

end Att

/-- Two halves of rows, one above the other. -/
def stack (a b : FVec F S128x512 .f32) : S256x512.Idx → Elt F .f32 := fun i =>
  if h : (i (0 : Fin 2)).val < 128 then a (Fin.cons ⟨(i (0 : Fin 2)).val, h⟩ (Fin.cons (i (1 : Fin 2)) finZeroElim))
  else b (Fin.cons ⟨(i (0 : Fin 2)).val - 128, by have : (i (0 : Fin 2)).val < 256 := (i (0 : Fin 2)).isLt; show _ < 128; omega⟩ (Fin.cons (i (1 : Fin 2)) finZeroElim))

/-- The queries of device `c`. -/
def qC (c : Dev nD) : FVec F S256x256 .bf16 := k0_pay19 (X0 m ρ c) (X1 m ρ c)
/-- The output projection of device `c`. -/
def wC (c : Dev nD) : FVec F S256x512 .f32 := k0_pay23 (X4 m ρ c)

/-- Device `c`'s own share of the sum. -/
def acc0 (c : Dev nD) : (cc0_scratch2 : Ref sig .tc).ty.Contents (Elt F) :=
  stack (top (qC m ρ c) (wC m ρ c) (kvC m ρ c)) (bot (qC m ρ c) (wC m ρ c) (kvC m ρ c))

/-! ## The exchanges -/

/-- The partner of exchange `r`: the device whose number differs by 1, 3, 4 under exclusive or. -/
def pt (r : Fin 3) (c : Dev nD) : Dev nD :=
  match r with
  | 0 => ![1, 0, 3, 2, 5, 4, 7, 6] c
  | 1 => ![3, 2, 1, 0, 7, 6, 5, 4] c
  | 2 => ![4, 5, 6, 7, 0, 1, 2, 3] c

theorem pt_pt (r : Fin 3) (c : Dev nD) : pt r (pt r c) = c := by revert r c; decide
theorem pt_ne (r : Fin 3) (c : Dev nD) : pt r c ≠ c := by revert r c; decide

theorem sq_rb : S256x512.numel = S1x256x512.numel := by decide

/-- A received block as the load of its slot presents it. -/
def unsq (x : S256x512.Idx → Elt F .bf16) : Vec F S1x256x512 .bf16 := fun i => x ((Shape.reshapeEquiv sq_rb).symm i)

def sb0 (c : Dev nD) : (cc0_scratch3 : Ref sig .tc).ty.Contents (Elt F) := k0_pay45 (acc0 m ρ c)
def acc1 (c : Dev nD) : (cc0_scratch2 : Ref sig .tc).ty.Contents (Elt F) := k0_pay46 (acc0 m ρ c) (unsq (sb0 m ρ (pt 0 c)))
def sb1 (c : Dev nD) : (cc0_scratch3 : Ref sig .tc).ty.Contents (Elt F) := k0_pay47 (acc1 m ρ c)
def acc2 (c : Dev nD) : (cc0_scratch2 : Ref sig .tc).ty.Contents (Elt F) := k0_pay48 (acc1 m ρ c) (unsq (sb1 m ρ (pt 1 c)))
def sb2 (c : Dev nD) : (cc0_scratch3 : Ref sig .tc).ty.Contents (Elt F) := k0_pay49 (acc2 m ρ c)
def acc3 (c : Dev nD) : (cc0_scratch2 : Ref sig .tc).ty.Contents (Elt F) := k0_pay50 (acc2 m ρ c) (unsq (sb2 m ρ (pt 2 c)))
/-- What exchange `r` sends. -/
def sbR (r : Fin 3) (c : Dev nD) : (cc0_scratch3 : Ref sig .tc).ty.Contents (Elt F) :=
  match r with
  | 0 => sb0 m ρ c
  | 1 => sb1 m ρ c
  | 2 => sb2 m ρ c

/-- The result on device `c`. -/
def outC (c : Dev nD) : (cc0_stg5_0 : Ref sig .tc).ty.Contents (Elt F) := k0_pay51 (acc3 m ρ c)

end Cert.KernelIdealRun
-- ==== Proof.KernelIdeal.Sched.lean ====
/-
# The protocol: cells, payloads, what each device owes

Every semaphore of the kernel is one cell used for one round. Sixteen kinds of cell a device (`ksem`):

* 0 .. 6   — device 0's seven sends of keys and values, one per receiver;
* 7        — the receipt of the keys and values;
* 8 .. 10  — the three sends of the exchanges;
* 11 .. 13 — the three receipts of the exchanges;
* 14       — device 0's acknowledgements, one unit from every other device;
* 15       — the barrier, one unit from every other device.

`pays k d c` says that device `d` pays the cell of kind `k` on device `c`; a duty is named by its payer. A barrier
unit from `d` to `c` hands `c` the buffers of `d` that `c` will write: the receive slot of the exchange in which the
two are partners, and `d`'s key/value buffer when `c` is device 0.
-/
module

public import proofs.«01_k».proof.Proof.KernelIdeal.Vals

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## The cells -/

/-- The semaphore of each kind. -/
def ksem : Fin 16 → SemLoc sig := fun k =>
  if h : k.val < 14 then .dma (⟨6 + k.val, by show _ < 20; omega⟩ : Fin 20) else if k.val = 14 then .reg (0 : Fin 2) else .reg (1 : Fin 2)

/-- The kind of a semaphore, if it has one. -/
def kindOf (s : SemLoc sig) : Option (Fin 16) := (List.finRange 16).find? fun k => ksem k = s

theorem kindOf_ksem (k : Fin 16) : kindOf (ksem k) = some k := by revert k; decide
theorem ksem_inj : Function.Injective ksem := fun a b h => by
  have := kindOf_ksem a; rw [h, kindOf_ksem] at this; exact (Option.some.inj this).symm

abbrev cell (c : Dev nD) (k : Fin 16) : GSem nD τ sig := ((c : Thread nD τ), ksem k)

theorem cell_inj {c c' : Dev nD} {k k' : Fin 16} (h : cell c k = cell c' k') : c = c' ∧ k = k' := by
  have h1 : (c : Thread nD τ) = c' := congrArg Prod.fst h
  exact ⟨by simpa using congrArg Prod.fst h1, ksem_inj (congrArg Prod.snd h)⟩

/-- The kinds: send of keys and values, exchange sends, exchange receipts. -/
abbrev kS (p : Fin 7) : Fin 16 := ⟨p.val, by omega⟩
abbrev bS (r : Fin 3) : Fin 16 := ⟨8 + r.val, by omega⟩
abbrev bR (r : Fin 3) : Fin 16 := ⟨11 + r.val, by omega⟩
abbrev kR : Fin 16 := 7
abbrev ak : Fin 16 := 14
abbrev br : Fin 16 := 15

/-- The receiver of send `p`. -/
abbrev rcv (p : Fin 7) : Dev nD := p.succ

abbrev Nkv : ℕ := kvM.view.dmaCredit
abbrev Nbf : ℕ := sbM.view.dmaCredit
theorem Nkv_pos : 0 < Nkv := View.dmaCredit_pos _ (by decide)
theorem Nbf_pos : 0 < Nbf := View.dmaCredit_pos _ (by decide)

/-- Who pays what. -/
def pays (k : Fin 16) (d c : Dev nD) : Bool :=
  if k.val < 7 then c = 0 ∧ d = 0
  else if k.val = 7 then d = 0 ∧ c ≠ 0
  else if k.val < 11 then d = c
  else if k.val = 11 then d = pt 0 c
  else if k.val = 12 then d = pt 1 c
  else if k.val = 13 then d = pt 2 c
  else if k.val = 14 then c = 0 ∧ d ≠ 0
  else d ≠ c

def amtK (k : Fin 16) : ℕ := if k.val < 8 then Nkv else if k.val < 14 then Nbf else 1

theorem amtK_pos (k : Fin 16) : 0 < amtK k := by
  unfold amtK; split
  · exact Nkv_pos
  · split
    · exact Nbf_pos
    · exact Nat.one_pos

/-! ## The payloads -/

/-- Some contents of a view's buffer, on the view's elements. -/
def somePts (c : Dev nD) {s : Shape} {e : EltTy} (M : Memref sig .tc .vmem s e) : sProp 𝕄 :=
  iprop(∃ f : Buf (Elt F) (M.view.loc (c : Thread nD τ)), M.view.loc (c : Thread nD τ) ↦[M.view.set]{fullShare} f)
/-- Contents of a view's buffer, on the view's elements, that read as `X`. -/
def valPts (c : Dev nD) {s : Shape} {e : EltTy} (M : Memref sig .tc .vmem s e) (X : s.Idx → Elt F e) : sProp 𝕄 :=
  iprop(∃ f : Buf (Elt F) (M.view.loc (c : Thread nD τ)), ⌜M.view.read (Elt F) f = X⌝ ∗ M.view.loc (c : Thread nD τ) ↦[M.view.set]{fullShare} f)

instance somePts_storable (c : Dev nD) {s : Shape} {e : EltTy} (M : Memref sig .tc .vmem s e) :
    BI.Storable (upEmb : UEmb _ 𝕄) (somePts (F := F) c M) := by unfold somePts; infer_instance
instance valPts_storable (c : Dev nD) {s : Shape} {e : EltTy} (M : Memref sig .tc .vmem s e) (X : s.Idx → Elt F e) :
    BI.Storable (upEmb : UEmb _ 𝕄) (valPts (F := F) c M X) := by unfold valPts; infer_instance

/-- The receive slot of exchange `r` on `d`, if `n` is the one who writes it. -/
def slotFor (d n : Dev nD) (r : Fin 3) : sProp 𝕄 := if pt r d = n then somePts (F := F) d (rbSlot r) else iprop(emp)
/-- The key/value buffer of `d`, if `n` is device 0. -/
def kvFor (d n : Dev nD) : sProp 𝕄 := if n = 0 then somePts (F := F) d kvM else iprop(emp)
/-- What a barrier unit from `d` hands `n`. -/
def barPay (d n : Dev nD) : sProp 𝕄 := iprop(slotFor (F := F) d n 0 ∗ slotFor (F := F) d n 1 ∗ slotFor (F := F) d n 2 ∗ kvFor (F := F) d n)

instance slotFor_storable (d n : Dev nD) (r : Fin 3) : BI.Storable (upEmb : UEmb _ 𝕄) (slotFor (F := F) d n r) := by
  unfold slotFor; split <;> infer_instance
instance kvFor_storable (d n : Dev nD) : BI.Storable (upEmb : UEmb _ 𝕄) (kvFor (F := F) d n) := by
  unfold kvFor; split <;> infer_instance
instance barPay_storable (d n : Dev nD) : BI.Storable (upEmb : UEmb _ 𝕄) (barPay (F := F) d n) := by
  unfold barPay; infer_instance

def payK (c : Dev nD) (k : Fin 16) (d : Dev nD) : sProp 𝕄 :=
  if h : k.val < 7 then somePts (F := F) c (stSlot ⟨k.val, h⟩)
  else if k.val = 7 then valPts c kvM (kvC m ρ c)
  else if k.val < 11 then somePts (F := F) c sbM
  else if k.val = 11 then valPts c (rbSlot 0) (sbR m ρ 0 (pt 0 c))
  else if k.val = 12 then valPts c (rbSlot 1) (sbR m ρ 1 (pt 1 c))
  else if k.val = 13 then valPts c (rbSlot 2) (sbR m ρ 2 (pt 2 c))
  else if k.val = 14 then iprop(emp)
  else barPay (F := F) d c

instance payK_storable (c : Dev nD) (k : Fin 16) (d : Dev nD) : BI.Storable (upEmb : UEmb _ 𝕄) (payK (F := F) m ρ c k d) := by
  unfold payK; (repeat' split) <;> infer_instance

/-! ## The schedule -/

def Rd : Rounds.Schedule (GSem nD τ sig) (Dev nD) 𝕄 where
  duties g r := if r = 0 ∧ g.1.2 = .tc then (match kindOf g.2 with | some k => Finset.univ.filter (fun d => pays k d g.1.1) | none => ∅) else ∅
  unitless _ := False
  amount g _ _ := match kindOf g.2 with | some k => amtK k | none => 1
  payload g _ d := match kindOf g.2 with | some k => payK m ρ g.1.1 k d | none => iprop(emp)
  amount_pos g _ _ _ := by
    split
    · exact amtK_pos _
    · exact Nat.one_pos

instance Rd_payload_storable (g : GSem nD τ sig) (r : ℕ) (d : Dev nD) : BI.Storable (upEmb : UEmb _ 𝕄) ((Rd (F := F) m ρ).payload g r d) := by
  show BI.Storable upEmb (match kindOf g.2 with | some k => payK m ρ g.1.1 k d | none => iprop(emp))
  split <;> infer_instance

theorem Rd_duties (c : Dev nD) (k : Fin 16) : (Rd (F := F) m ρ).duties (cell c k) 0 = Finset.univ.filter (fun d => pays k d c) := by
  dsimp only [Rd]; rw [if_pos ⟨rfl, rfl⟩, kindOf_ksem]
theorem Rd_later (g : GSem nD τ sig) : ∀ r, 1 ≤ r → (Rd (F := F) m ρ).duties g r = ∅ :=
  fun r hr => by dsimp only [Rd]; exact if_neg fun h => by omega
theorem Rd_amount (c : Dev nD) (k : Fin 16) (d : Dev nD) : (Rd (F := F) m ρ).amount (cell c k) 0 d = amtK k := by
  dsimp only [Rd]; rw [kindOf_ksem]
theorem Rd_payload (c : Dev nD) (k : Fin 16) (d : Dev nD) : (Rd (F := F) m ρ).payload (cell c k) 0 d = payK m ρ c k d := by
  dsimp only [Rd]; rw [kindOf_ksem]
theorem Rd_mem {c : Dev nD} {k : Fin 16} {d : Dev nD} (h : pays k d c = true) : d ∈ (Rd (F := F) m ρ).duties (cell c k) 0 := by
  rw [Rd_duties]; exact Finset.mem_filter.mpr ⟨Finset.mem_univ _, h⟩
theorem Rd_expect (c : Dev nD) (k : Fin 16) : (Rd (F := F) m ρ).expect (cell c k) 0 = (Finset.univ.filter (fun d => pays k d c)).card * amtK k := by
  unfold Schedule.expect Schedule.amountOf
  rw [Rd_duties, Finset.sum_congr rfl (fun d _ => Rd_amount m ρ c k d), Finset.sum_const, smul_eq_mul]
theorem Rd_rest (c : Dev nD) (k : Fin 16) :
    bigSep ((Rd (F := F) m ρ).duties (cell c k) 0 \ ∅) (fun d => (Rd (F := F) m ρ).payload (cell c k) 0 d)
      = bigSep (Finset.univ.filter (fun d => pays k d c)) fun d => payK m ρ c k d := by
  rw [Finset.sdiff_empty, Rd_duties]
  exact bigSep_congr fun d _ => Rd_payload m ρ c k d

/-! ## What each device owes at launch; the levels -/

/-- A barrier unit to every device but oneself. -/
def sB (c n : Dev nD) : CellTallies nD τ sig Unit := if c = n then 0 else tallyAt (cell n br) () 1
def barO (c : Dev nD) : CellTallies nD τ sig Unit := sB c 7 + sB c 6 + sB c 5 + sB c 4 + sB c 3 + sB c 2 + sB c 1 + sB c 0
/-- The credit of send `p`. -/
def kvT (p : Fin 7) : CellTallies nD τ sig Unit := tallyAt (cell (rcv p) kR) () Nkv
def kvO : CellTallies nD τ sig Unit := kvT 6 + kvT 5 + kvT 4 + kvT 3 + kvT 2 + kvT 1 + kvT 0
/-- The credit of exchange `r`. -/
def bfT (c : Dev nD) (r : Fin 3) : CellTallies nD τ sig Unit := tallyAt (cell (pt r c) (bR r)) () Nbf
def bfO (c : Dev nD) : CellTallies nD τ sig Unit := bfT c 2 + bfT c 1 + bfT c 0
/-- What only device 0 owes, what only the others owe. -/
def kaO (c : Dev nD) : CellTallies nD τ sig Unit := if c = 0 then kvO else tallyAt (cell 0 ak) () 1
def O₀ (c : Dev nD) : CellTallies nD τ sig Unit := (bfO c + kaO c) + barO c

def levK (k : Fin 16) : ℕ :=
  if k.val < 7 then 0 else if k.val = 7 then 2 else if k.val < 11 then 0 else if k.val < 14 then k.val - 8 else if k.val = 14 then 10 else 1

def L (g : GSem nD τ sig) : Finset Unit := if g.1.2 = .tc then {()} else ∅
def lv (g : GSem nD τ sig) (_ : Unit) : ℕ := match kindOf g.2 with | some k => levK k | none => 0
theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : Fin 16) : lv (cell c k) () = levK k := by unfold lv; rw [kindOf_ksem]

/-- Everything owed lies above level `n`. -/
def Above (n : ℕ) (O : CellTallies nD τ sig Unit) : Prop := ∀ g u, 0 < O g u → g.1.2 = .tc ∧ n < lv g ()

theorem Above.zero (n : ℕ) : Above n 0 := fun g u h => absurd h (Nat.lt_irrefl 0)
theorem Above.add {n : ℕ} {O O' : CellTallies nD τ sig Unit} (h : Above n O) (h' : Above n O') : Above n (O + O') := fun g u hg => by
  rw [Pi.add_apply, Finsupp.add_apply] at hg
  rcases Nat.eq_zero_or_pos (O g u) with h0 | h0
  · exact h' g u (by omega)
  · exact h g u h0
theorem Above.tally {n : ℕ} (c : Dev nD) (k : Fin 16) (a : ℕ) (h : n < levK k) : Above n (tallyAt (cell c k) () a) := fun g u hg => by
  rw [tallyAt_apply] at hg
  by_cases hc : g = cell c k ∧ u = ()
  · rw [hc.1]; exact ⟨rfl, by rw [lv_cell]; exact h⟩
  · rw [if_neg hc] at hg; exact absurd hg (Nat.lt_irrefl 0)
theorem above_sB (c n : Dev nD) : Above 0 (sB c n) := by
  unfold sB; split
  · exact Above.zero _
  · exact Above.tally _ _ _ (by decide)
theorem above_bfT {n : ℕ} (c : Dev nD) (r : Fin 3) (h : n < levK (bR r)) : Above n (bfT c r) := Above.tally _ _ _ h
theorem above_kvT (p : Fin 7) : Above 1 (kvT p) := Above.tally _ _ _ (by decide)
theorem above_bfO {n : ℕ} (h : n < 3) (c : Dev nD) : Above n (bfO c) :=
  ((above_bfT c 2 (show n < 5 by omega)).add (above_bfT c 1 (show n < 4 by omega))).add (above_bfT c 0 (show n < 3 by omega))
theorem above_kvO : Above 1 kvO :=
  ((((((above_kvT 6).add (above_kvT 5)).add (above_kvT 4)).add (above_kvT 3)).add (above_kvT 2)).add (above_kvT 1)).add (above_kvT 0)
theorem above_kaO (c : Dev nD) : Above 1 (kaO c) := by
  unfold kaO; split
  · exact above_kvO
  · exact Above.tally _ _ _ (by decide)
theorem Above.mono {n n' : ℕ} {O : CellTallies nD τ sig Unit} (h : n' ≤ n) (hO : Above n O) : Above n' O :=
  fun g u hg => ⟨(hO g u hg).1, lt_of_le_of_lt h (hO g u hg).2⟩
theorem above_O₀ (c : Dev nD) : Above 0 (O₀ c) :=
  ((above_bfO (by decide) c).add ((above_kaO c).mono (by decide))).add
    ((((((((above_sB c 7).add (above_sB c 6)).add (above_sB c 5)).add (above_sB c 4)).add (above_sB c 3)).add (above_sB c 2)).add (above_sB c 1)).add (above_sB c 0))

theorem mayWait_of (c : Dev nD) (sm : SemLoc sig) (n : ℕ) (hn : lv ((c : Thread nD τ), sm) () ≤ n) (O : CellTallies nD τ sig Unit) (hO : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hn)
    (fun g u hg => (hO g u hg).2)

theorem mayWait_cell (c : Dev nD) (k : Fin 16) (O : CellTallies nD τ sig Unit) (hO : Above (levK k) O) :
    (levAts L lv : sProp 𝕄) ⊢ MayWait (c : Thread nD τ) (ksem k) () O :=
  mayWait_of c (ksem k) (levK k) (by rw [lv_cell]) O hO

end Cert.KernelIdealRun
-- ==== Proof.KernelIdeal.Slots.lean ====
/-
# Slices of buffers: cutting, joining, reading back what was written

The staging buffer is held slice by slice while the sends are under way, the receive buffer slot by slot. The
contents lemmas say what a slice reads after the two stores that fill it, and what the accumulator holds after the
stores of its two halves of rows.
-/
module

public import proofs.«01_k».proof.Proof.KernelIdeal.Sched
public import Idealize.ShloMosaic.Lib.Ring
public import Idealize.ShloMosaic.Lib.Pipeline.Value

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The slices' elements -/

abbrev stSet (p : Fin 7) : Finset S7x2x2x128x4x64.Idx := (stSlot p).view.set
abbrev rbSet (r : Fin 3) : Finset S3x256x512.Idx := (rbSlot r).view.set

theorem stSet_eq (p : Fin 7) : stSet p = (Rect.unit (s := S7x2x2x128x4x64) ![p.val, 0, 0, 0, 0, 0] S1x2x2x128x4x64.size (inb_st p)).set :=
  (View.set_reshape (stM.view.slice (Rect.unit (s := S7x2x2x128x4x64) ![p.val, 0, 0, 0, 0, 0] S1x2x2x128x4x64.size (inb_st p))) _).trans (View.set_slice_whole _ _)
theorem rbSet_eq (r : Fin 3) : rbSet r = (Rect.unit (s := S3x256x512) ![r.val, 0, 0] S1x256x512.size (inb_rb r)).set :=
  (View.set_reshape (rbM.view.slice (Rect.unit (s := S3x256x512) ![r.val, 0, 0] S1x256x512.size (inb_rb r))) _).trans (View.set_slice_whole _ _)

theorem mem_st (p : Fin 7) (i : S7x2x2x128x4x64.Idx) : i ∈ stSet p ↔ (i (0 : Fin 6)).val = p.val := by
  rw [stSet_eq, Rect.mem_set_unit]
  constructor
  · intro h; have h0 : p.val ≤ (i (0 : Fin 6)).val ∧ (i (0 : Fin 6)).val < p.val + 1 := h (0 : Fin 6); omega
  · intro h a
    fin_cases a
    · show p.val ≤ (i (0 : Fin 6)).val ∧ (i (0 : Fin 6)).val < p.val + 1; omega
    · have := (i (1 : Fin 6)).isLt; show 0 ≤ (i (1 : Fin 6)).val ∧ (i (1 : Fin 6)).val < 0 + 2; exact ⟨Nat.zero_le _, by simpa using this⟩
    · have := (i (2 : Fin 6)).isLt; show 0 ≤ (i (2 : Fin 6)).val ∧ (i (2 : Fin 6)).val < 0 + 2; exact ⟨Nat.zero_le _, by simpa using this⟩
    · have := (i (3 : Fin 6)).isLt; show 0 ≤ (i (3 : Fin 6)).val ∧ (i (3 : Fin 6)).val < 0 + 128; exact ⟨Nat.zero_le _, by simpa using this⟩
    · have := (i (4 : Fin 6)).isLt; show 0 ≤ (i (4 : Fin 6)).val ∧ (i (4 : Fin 6)).val < 0 + 4; exact ⟨Nat.zero_le _, by simpa using this⟩
    · have := (i (5 : Fin 6)).isLt; show 0 ≤ (i (5 : Fin 6)).val ∧ (i (5 : Fin 6)).val < 0 + 64; exact ⟨Nat.zero_le _, by simpa using this⟩

theorem mem_rb (r : Fin 3) (i : S3x256x512.Idx) : i ∈ rbSet r ↔ (i (0 : Fin 3)).val = r.val := by
  rw [rbSet_eq, Rect.mem_set_unit]
  constructor
  · intro h; have h0 : r.val ≤ (i (0 : Fin 3)).val ∧ (i (0 : Fin 3)).val < r.val + 1 := h (0 : Fin 3); omega
  · intro h a
    fin_cases a
    · show r.val ≤ (i (0 : Fin 3)).val ∧ (i (0 : Fin 3)).val < r.val + 1; omega
    · have := (i (1 : Fin 3)).isLt; show 0 ≤ (i (1 : Fin 3)).val ∧ (i (1 : Fin 3)).val < 0 + 256; exact ⟨Nat.zero_le _, by simpa using this⟩
    · have := (i (2 : Fin 3)).isLt; show 0 ≤ (i (2 : Fin 3)).val ∧ (i (2 : Fin 3)).val < 0 + 512; exact ⟨Nat.zero_le _, by simpa using this⟩

theorem st_disj (p p' : Fin 7) (h : p ≠ p') : Disjoint (stSet p) (stSet p') :=
  Finset.disjoint_left.mpr fun i hi hi' => h (Fin.ext (((mem_st p i).mp hi).symm.trans ((mem_st p' i).mp hi')))
theorem rb_disj (r r' : Fin 3) (h : r ≠ r') : Disjoint (rbSet r) (rbSet r') :=
  Finset.disjoint_left.mpr fun i hi hi' => h (Fin.ext (((mem_rb r i).mp hi).symm.trans ((mem_rb r' i).mp hi')))
theorem st_cover : Finset.univ.biUnion (fun p : Fin 7 => stSet p) = Finset.univ :=
  Finset.eq_univ_of_forall fun i => Finset.mem_biUnion.mpr ⟨(i (0 : Fin 6) : Fin 7), Finset.mem_univ _, (mem_st _ i).mpr rfl⟩
theorem rb_cover : Finset.univ.biUnion (fun r : Fin 3 => rbSet r) = Finset.univ :=
  Finset.eq_univ_of_forall fun i => Finset.mem_biUnion.mpr ⟨(i (0 : Fin 3) : Fin 3), Finset.mem_univ _, (mem_rb _ i).mpr rfl⟩

/-! ## Cutting and joining -/

/-- A whole buffer at some contents. -/
def someAll (c : Dev nD) (b : Ref sig .tc) : sProp 𝕄 := iprop(∃ f : Buf (Elt F) ((c : Thread nD τ).loc b), ((c : Thread nD τ).loc b) ↦{fullShare} f)

theorem toSome (c : Dev nD) {s : Shape} {e : EltTy} (M : Memref sig .tc .vmem s e) (f : Buf (Elt F) (M.view.loc (c : Thread nD τ))) :
    (M.view.loc (c : Thread nD τ) ↦[M.view.set]{fullShare} f : sProp 𝕄) ⊢ somePts (F := F) c M := by
  unfold somePts; iintro H; iexists f; iexact H

theorem st_split (c : Dev nD) : someAll (F := F) c cc0_scratch0 ⊢ bigSep Finset.univ fun p : Fin 7 => somePts (F := F) c (stSlot p) := by
  unfold someAll
  iintro ⟨%f, H⟩
  have e : (((c : Thread nD τ).loc cc0_scratch0) ↦{fullShare} f : sProp 𝕄) = _ :=
    Ring.pointsTo_blocks (ℓ := ((c : Thread nD τ).loc cc0_scratch0)) (fun p : Fin 7 => stSet p) st_disj st_cover f
  have h : (((c : Thread nD τ).loc cc0_scratch0) ↦{fullShare} f : sProp 𝕄) ⊢ bigSep Finset.univ fun p : Fin 7 => somePts (F := F) c (stSlot p) :=
    (Entails.of_eq e).trans (bigSep_mono fun p _ => toSome c (stSlot p) f)
  iapply h
  iexact H
theorem st_join (c : Dev nD) : (bigSep Finset.univ fun p : Fin 7 => somePts (F := F) c (stSlot p)) ⊢ someAll (F := F) c cc0_scratch0 := by
  by_cases hN : Nonempty (Buf (Elt F) ((c : Thread nD τ).loc cc0_scratch0))
  · obtain ⟨f₀⟩ := hN
    exact Ring.pointsTo_blocks_join_exists (ℓ := ((c : Thread nD τ).loc cc0_scratch0)) (fun p : Fin 7 => stSet p) st_disj st_cover f₀
  · iintro H
    have h : (bigSep Finset.univ fun p : Fin 7 => somePts (F := F) c (stSlot p)) ⊢ somePts (F := F) c (stSlot 0) :=
      (Entails.of_eq rfl).trans (bigSep_elim (Finset.mem_univ (0 : Fin 7)))
    ihave H' := h $$ H
    unfold somePts
    icases H' with ⟨%f, -⟩
    exact absurd ⟨f⟩ hN
theorem rb_split (c : Dev nD) : someAll (F := F) c cc0_scratch4 ⊢ bigSep Finset.univ fun p : Fin 3 => somePts (F := F) c (rbSlot p) := by
  unfold someAll
  iintro ⟨%f, H⟩
  have e : (((c : Thread nD τ).loc cc0_scratch4) ↦{fullShare} f : sProp 𝕄) = _ :=
    Ring.pointsTo_blocks (ℓ := ((c : Thread nD τ).loc cc0_scratch4)) (fun p : Fin 3 => rbSet p) rb_disj rb_cover f
  have h : (((c : Thread nD τ).loc cc0_scratch4) ↦{fullShare} f : sProp 𝕄) ⊢ bigSep Finset.univ fun p : Fin 3 => somePts (F := F) c (rbSlot p) :=
    (Entails.of_eq e).trans (bigSep_mono fun p _ => toSome c (rbSlot p) f)
  iapply h
  iexact H
theorem rb_join (c : Dev nD) : (bigSep Finset.univ fun p : Fin 3 => somePts (F := F) c (rbSlot p)) ⊢ someAll (F := F) c cc0_scratch4 := by
  by_cases hN : Nonempty (Buf (Elt F) ((c : Thread nD τ).loc cc0_scratch4))
  · obtain ⟨f₀⟩ := hN
    exact Ring.pointsTo_blocks_join_exists (ℓ := ((c : Thread nD τ).loc cc0_scratch4)) (fun p : Fin 3 => rbSet p) rb_disj rb_cover f₀
  · iintro H
    have h : (bigSep Finset.univ fun p : Fin 3 => somePts (F := F) c (rbSlot p)) ⊢ somePts (F := F) c (rbSlot 0) :=
      (Entails.of_eq rfl).trans (bigSep_elim (Finset.mem_univ (0 : Fin 3)))
    ihave H' := h $$ H
    unfold somePts
    icases H' with ⟨%f, -⟩
    exact absurd ⟨f⟩ hN

/-! ## Reading back what was written -/

section Writes
variable {b : Ref sig .tc} (r r' : Rect b.ty.shape) (f : b.ty.Contents (Elt F)) (w : r.shape.Idx → Elt F b.ty.elt) (w' : r'.shape.Idx → Elt F b.ty.elt)

/-- A store through a rectangle of a whole buffer writes the payload at the rectangle's elements, -/
theorem write_at (j : r.shape.Idx) : ((Memref.whole b).access r).write (Elt F) f w Finset.univ (r.emb j) = w j :=
  View.write_emb_of_mem (v := (Memref.whole b).access r) f w (Finset.mem_univ j)
/-- and leaves the others. -/
theorem write_off (i : b.ty.shape.Idx) (h : i ∉ r.set) : ((Memref.whole b).access r).write (Elt F) f w Finset.univ i = f i :=
  View.write_of_not_mem (v := (Memref.whole b).access r) f w Finset.univ (by
    rw [View.setOn_univ]; show i ∉ ((View.whole b).slice r).set; rw [View.set_slice_whole]; exact h)
end Writes

theorem inb_stK (p : Fin 7) (t : Fin 2) : ∀ a, (![p.val, t.val, 0, 0, 0, 0] : Fin 6 → Nat) a + S1x1x2x128x4x64.size a ≤ S7x2x2x128x4x64.size a := by
  revert p t; decide
abbrev stRect (p : Fin 7) (t : Fin 2) : Rect S7x2x2x128x4x64 := Rect.unit (s := S7x2x2x128x4x64) ![p.val, t.val, 0, 0, 0, 0] S1x1x2x128x4x64.size (inb_stK p t)

abbrev lift6 (k : FVec F S2x128x4x64 .bf16) : FVec F S1x1x2x128x4x64 .bf16 := shapeCast S1x1x2x128x4x64 k shapeCasts_S2x128x4x64_S1x1x2x128x4x64

/-- The index of a slice of the staging buffer, in the rectangle of the keys or of the values. -/
def ix6 (i : S2x2x128x4x64.Idx) : S1x1x2x128x4x64.Idx :=
  Fin.cons ⟨0, Nat.one_pos⟩ (Fin.cons ⟨0, Nat.one_pos⟩ (Fin.cons (i (1 : Fin 5)) (Fin.cons (i (2 : Fin 5)) (Fin.cons (i (3 : Fin 5)) (Fin.cons (i (4 : Fin 5)) finZeroElim)))))
def ix4 (i : S2x2x128x4x64.Idx) : S2x128x4x64.Idx :=
  Fin.cons (i (1 : Fin 5)) (Fin.cons (i (2 : Fin 5)) (Fin.cons (i (3 : Fin 5)) (Fin.cons (i (4 : Fin 5)) finZeroElim)))

theorem lift6_apply (k : FVec F S2x128x4x64 .bf16) (i : S2x2x128x4x64.Idx) : lift6 k (ix6 i) = k (ix4 i) := by
  refine shapeCast_apply _ _ _ _ ?_
  have h6 : (S1x1x2x128x4x64.rowMajor (ix6 i)).val = _ := Shape.rowMajor_val_succ (ix6 i)
  rw [Shape.rowMajor_val_four, h6, Shape.rowMajor_val_five]
  show _ = 0 * _ + ((((0 * 2 + (i (1 : Fin 5)).val) * 128 + (i (2 : Fin 5)).val) * 4 + (i (3 : Fin 5)).val) * 64 + (i (4 : Fin 5)).val)
  show (((i (1 : Fin 5)).val * 128 + (i (2 : Fin 5)).val) * 4 + (i (3 : Fin 5)).val) * 64 + (i (4 : Fin 5)).val = _
  omega

theorem stSlot_emb (p : Fin 7) (t : Fin 2) (i : S2x2x128x4x64.Idx) (ht : (i (0 : Fin 5)).val = t.val) :
    ((stSlot p).view.emb i : S7x2x2x128x4x64.Idx) = (stRect p t).emb (ix6 i) := by
  have h : (Shape.reshapeEquiv squeezes_S1x2x2x128x4x64_S2x2x128x4x64.numel_eq i : S1x2x2x128x4x64.Idx) = Fin.cons ⟨0, Nat.one_pos⟩ i :=
    Shape.reshapeEquiv_cons_one (d := ![2, 2, 128, 4, 64]) _ i
  show (Rect.unit (s := S7x2x2x128x4x64) ![p.val, 0, 0, 0, 0, 0] S1x2x2x128x4x64.size (inb_st p)).emb
    (Shape.reshapeEquiv squeezes_S1x2x2x128x4x64_S2x2x128x4x64.numel_eq i : S1x2x2x128x4x64.Idx) = _
  rw [h]
  funext a; apply Fin.ext
  rw [Rect.emb_apply, Rect.emb_apply]
  fin_cases a
  · rfl
  · show 0 + 1 * (i (0 : Fin 5)).val = t.val + 1 * 0; omega
  · rfl
  · rfl
  · rfl
  · rfl

theorem stRect_sep (p : Fin 7) (j : S1x1x2x128x4x64.Idx) : (stRect p 0).emb j ∉ (stRect p 1).set := by
  rw [Rect.mem_set_unit]
  intro h
  have h1 : 1 ≤ ((stRect p 0).emb j (1 : Fin 6)).val := (h (1 : Fin 6)).1
  rw [Rect.emb_apply] at h1
  have h2 : (j (1 : Fin 6)).val < 1 := (j (1 : Fin 6)).isLt
  have h3 : 1 ≤ 0 + 1 * (j (1 : Fin 6)).val := h1
  omega

/-- After the stores of keys and values, a slice of the staging buffer reads as the two together. -/
theorem stage_read (p : Fin 7) (f : (cc0_scratch0 : Ref sig .tc).ty.Contents (Elt F)) (k v : FVec F S2x128x4x64 .bf16) :
    (stSlot p).view.read (Elt F) ((stM.access (stRect p 1)).write (Elt F) ((stM.access (stRect p 0)).write (Elt F) f (lift6 k) Finset.univ) (lift6 v) Finset.univ)
      = joinKV k v := by
  funext i
  have hr : ∀ g : (cc0_scratch0 : Ref sig .tc).ty.Contents (Elt F), (stSlot p).view.read (Elt F) g i = g ((stSlot p).view.emb i) := fun g => rfl
  rw [hr]
  unfold joinKV
  split
  · rename_i h
    refine (congrArg _ (stSlot_emb p 0 i h)).trans ?_
    refine (write_off (b := cc0_scratch0) (stRect p 1) _ (lift6 v) _ (stRect_sep p _)).trans ?_
    exact (write_at (b := cc0_scratch0) (stRect p 0) f (lift6 k) (ix6 i)).trans (lift6_apply k i)
  · rename_i h
    have h1 : (i (0 : Fin 5)).val = (1 : Fin 2).val := by have : (i (0 : Fin 5)).val < 2 := (i (0 : Fin 5)).isLt; show _ = 1; omega
    refine (congrArg _ (stSlot_emb p 1 i h1)).trans ?_
    exact (write_at (b := cc0_scratch0) (stRect p 1) _ (lift6 v) (ix6 i)).trans (lift6_apply v i)

/-! ### The key/value buffer -/

theorem inb_kvK (t : Fin 2) : ∀ a, (![t.val, 0, 0, 0, 0] : Fin 5 → Nat) a + S1x2x128x4x64.size a ≤ S2x2x128x4x64.size a := by
  revert t; decide
abbrev kvRect (t : Fin 2) : Rect S2x2x128x4x64 := Rect.unit (s := S2x2x128x4x64) ![t.val, 0, 0, 0, 0] S1x2x128x4x64.size (inb_kvK t)
abbrev lift5 (k : FVec F S2x128x4x64 .bf16) : FVec F S1x2x128x4x64 .bf16 := shapeCast S1x2x128x4x64 k shapeCasts_S2x128x4x64_S1x2x128x4x64
def ix5 (i : S2x2x128x4x64.Idx) : S1x2x128x4x64.Idx :=
  Fin.cons ⟨0, Nat.one_pos⟩ (Fin.cons (i (1 : Fin 5)) (Fin.cons (i (2 : Fin 5)) (Fin.cons (i (3 : Fin 5)) (Fin.cons (i (4 : Fin 5)) finZeroElim))))

theorem lift5_apply (k : FVec F S2x128x4x64 .bf16) (i : S2x2x128x4x64.Idx) : lift5 k (ix5 i) = k (ix4 i) := by
  refine shapeCast_apply _ _ _ _ ?_
  rw [Shape.rowMajor_val_four, Shape.rowMajor_val_five]
  show (((i (1 : Fin 5)).val * 128 + (i (2 : Fin 5)).val) * 4 + (i (3 : Fin 5)).val) * 64 + (i (4 : Fin 5)).val
    = (((0 * 2 + (i (1 : Fin 5)).val) * 128 + (i (2 : Fin 5)).val) * 4 + (i (3 : Fin 5)).val) * 64 + (i (4 : Fin 5)).val
  omega

theorem kvRect_at (t : Fin 2) (i : S2x2x128x4x64.Idx) (ht : (i (0 : Fin 5)).val = t.val) : i = (kvRect t).emb (ix5 i) := by
  funext a; apply Fin.ext
  rw [Rect.emb_apply]
  fin_cases a
  · show (i (0 : Fin 5)).val = t.val + 1 * 0; omega
  · show (i (1 : Fin 5)).val = 0 + 1 * (i (1 : Fin 5)).val; omega
  · show (i (2 : Fin 5)).val = 0 + 1 * (i (2 : Fin 5)).val; omega
  · show (i (3 : Fin 5)).val = 0 + 1 * (i (3 : Fin 5)).val; omega
  · show (i (4 : Fin 5)).val = 0 + 1 * (i (4 : Fin 5)).val; omega

/-- After the two stores the key/value buffer holds the two together. -/
theorem kv_write (f : (cc0_scratch1 : Ref sig .tc).ty.Contents (Elt F)) (k v : FVec F S2x128x4x64 .bf16) :
    (kvM.access (kvRect 1)).write (Elt F) ((kvM.access (kvRect 0)).write (Elt F) f (lift5 k) Finset.univ) (lift5 v) Finset.univ = joinKV k v := by
  funext i
  unfold joinKV
  split
  · rename_i h
    refine (write_off (b := cc0_scratch1) (kvRect 1) _ (lift5 v) i ?_).trans ?_
    · rw [Rect.mem_set_unit]; intro h1; have h2 : 1 ≤ (i (0 : Fin 5)).val := (h1 (0 : Fin 5)).1; omega
    · refine (congrArg _ (kvRect_at 0 i h)).trans ?_
      exact (write_at (b := cc0_scratch1) (kvRect 0) f (lift5 k) (ix5 i)).trans (lift5_apply k i)
  · rename_i h
    have h1 : (i (0 : Fin 5)).val = (1 : Fin 2).val := by have : (i (0 : Fin 5)).val < 2 := (i (0 : Fin 5)).isLt; show _ = 1; omega
    refine (congrArg _ (kvRect_at 1 i h1)).trans ?_
    exact (write_at (b := cc0_scratch1) (kvRect 1) _ (lift5 v) (ix5 i)).trans (lift5_apply v i)

/-! ### The accumulator -/

abbrev topRect : Rect S256x512 := Rect.unit (s := S256x512) ![0, 0] S128x512.size inb_S256x512_S128x512_0_0
abbrev botRect : Rect S256x512 := Rect.unit (s := S256x512) ![128, 0] S128x512.size inb_S256x512_S128x512_128_0

theorem acc_write (f : (cc0_scratch2 : Ref sig .tc).ty.Contents (Elt F)) (a b : FVec F S128x512 .f32) :
    (accM.access botRect).write (Elt F) ((accM.access topRect).write (Elt F) f a Finset.univ) b Finset.univ = stack a b := by
  funext i
  unfold stack
  split
  · rename_i h
    refine (write_off (b := cc0_scratch2) botRect _ b i ?_).trans ?_
    · rw [Rect.mem_set_unit]; intro h1; have h2 : 128 ≤ (i (0 : Fin 2)).val := (h1 (0 : Fin 2)).1; omega
    · have hi : i = topRect.emb (Fin.cons ⟨(i (0 : Fin 2)).val, h⟩ (Fin.cons (i (1 : Fin 2)) finZeroElim)) := by
        funext x; apply Fin.ext; rw [Rect.emb_apply]
        fin_cases x
        · show (i (0 : Fin 2)).val = 0 + 1 * (i (0 : Fin 2)).val; omega
        · show (i (1 : Fin 2)).val = 0 + 1 * (i (1 : Fin 2)).val; omega
      refine (congrArg _ hi).trans ?_
      exact write_at (b := cc0_scratch2) topRect f a _
  · rename_i h
    have hi : i = botRect.emb (Fin.cons ⟨(i (0 : Fin 2)).val - 128, by have : (i (0 : Fin 2)).val < 256 := (i (0 : Fin 2)).isLt; show _ < 128; omega⟩ (Fin.cons (i (1 : Fin 2)) finZeroElim)) := by
      funext x; apply Fin.ext; rw [Rect.emb_apply]
      fin_cases x
      · show (i (0 : Fin 2)).val = 128 + 1 * ((i (0 : Fin 2)).val - 128); omega
      · show (i (1 : Fin 2)).val = 0 + 1 * (i (1 : Fin 2)).val; omega
    refine (congrArg _ hi).trans ?_
    exact write_at (b := cc0_scratch2) botRect _ b _

/-! ### The receive buffer -/

/-- A load of a slot presents what the slot reads. -/
theorem rb_load (r : Fin 3) (f : (cc0_scratch4 : Ref sig .tc).ty.Contents (Elt F)) :
    rbM.view.readAt (Elt F) (Rect.unit (s := S3x256x512) ![r.val, 0, 0] S1x256x512.size (inb_rb r)).toLoadRect f
      = unsq ((rbSlot r).view.read (Elt F) f) := by
  funext i
  show _ = f ((Rect.unit (s := S3x256x512) ![r.val, 0, 0] S1x256x512.size (inb_rb r)).emb
    (Shape.reshapeEquiv squeezes_S1x256x512_S256x512.numel_eq ((Shape.reshapeEquiv sq_rb).symm i)))
  rw [show (Shape.reshapeEquiv squeezes_S1x256x512_S256x512.numel_eq ((Shape.reshapeEquiv sq_rb).symm i)) = i from
    (Shape.reshapeEquiv sq_rb).apply_symm_apply i]
  rfl

end Cert.KernelIdealRun
-- ==== Proof.KernelIdeal.Rules.lean ====
/-
# One rule per operation

The kernel's operations on the cells of `Sched`, each as one rule at a symbolic device: a conditional barrier unit, a
plain unit, a wait, a send of keys and values, a send of an exchange, and the loads and stores on a part of a buffer.
Each rule takes the program's semaphores, devices and slices as variables with an equation, so that the printed
spelling and the schedule's need only agree up to computation.
-/
module

public import proofs.«01_k».proof.Proof.KernelIdeal.Slots

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The records every device holds -/

abbrev 𝒱₀ : Variants := Variants.none

def records (K : Dev nD × Fin 16 → ℕ) : sProp 𝕄 :=
  bigSep Finset.univ fun p : Dev nD × Fin 16 => iprop(cellInv ER (Rd (F := F) m ρ) (K p) (cell p.1 p.2) ∗ reached ER (cell p.1 p.2) 0)

instance records_persistent (K : Dev nD × Fin 16 → ℕ) : BI.Persistent (records (F := F) m ρ K) := by
  unfold records; infer_instance

theorem rec_at (K : Dev nD × Fin 16 → ℕ) (c : Dev nD) (k : Fin 16) :
    records (F := F) m ρ K ⊢ iprop(cellInv ER (Rd (F := F) m ρ) (K (c, k)) (cell c k) ∗ reached ER (cell c k) 0) := by
  unfold records
  exact (Entails.of_eq rfl).trans (bigSep_elim (Φ := fun p : Dev nD × Fin 16 => iprop(cellInv ER (Rd (F := F) m ρ) (K p) (cell p.1 p.2) ∗ reached ER (cell p.1 p.2) 0)) (Finset.mem_univ (c, k)))

/-- What a device still owes, whatever it has waited for. -/
def ow (c : Dev nD) (O : CellTallies nD τ sig Unit) : sProp 𝕄 := iprop(∃ W : Waits sig Unit, owes (c : Thread nD τ) O W)

abbrev tok (c : Dev nD) (k : Fin 16) (d : Dev nD) : sProp 𝕄 := dutyTok ER (cell c k) 0 d

abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

section Rules
variable (K : Dev nD × Fin 16 → ℕ)

theorem toVal (c : Dev nD) {s : Shape} {e : EltTy} (M : Memref sig .tc .vmem s e) {X : s.Idx → Elt F e} (f : Buf (Elt F) (M.view.loc (c : Thread nD τ)))
    (hf : M.view.read (Elt F) f = X) : (M.view.loc (c : Thread nD τ) ↦[M.view.set]{fullShare} f : sProp 𝕄) ⊢ valPts c M X := by
  unfold valPts; iintro H; iexists f; isplitr
  · ipureintro; exact hf
  iexact H

/-! ## Units -/

theorem wp_sig (c n : Dev nD) (k : Fin 16) (hp : pays k c n = true) (hk : amtK k = 1) {nn : Dev nD} (hn : nn = n) {sem : Sem sig} (hs : SemLoc.reg sem = ksem k)
    {amt : ℤ} (ha : amt = ((1 : ℕ) : ℤ)) (O : CellTallies nD τ sig Unit) {α : Type} {Q : α → sProp 𝕄} {kk : PUnit → Prog (TpuEff nD τ sig (Elt F) Λ₀ .tc) α} :
    iprop(records m ρ K ∗ ow c (O + tallyAt (cell n k) () 1) ∗ tok n k c ∗ payK m ρ n k c)
      ⊢ iprop((ow c O -∗ WP c (kk ⟨⟩) Q) -∗ WP c (.op (.semSignal (nn : Thread nD τ) sem amt) kk) Q) := by
  subst hn; subst ha
  unfold ow
  iintro ⟨#HR, ⟨%W, HO⟩, Ht, Hp⟩ Hk
  ihave Hr := (rec_at m ρ K nn k) $$ HR
  icases Hr with ⟨HI, Hre⟩
  have h := Rounds.wp_signal 𝒱₀ ER (Rd m ρ) (defs := defs₀ (F := F)) (c : Thread nD τ) none (Γ := .empty) (Es := Set.univ) (dst := (nn : Thread nD τ)) (sem := sem) (κ := K (nn, k)) (r := 0) (d := c) (k' := 1)
      (k := kk) (Q := Q) (by rw [hs]; exact Rd_mem m ρ hp) (by rw [hs]; exact (Rd_amount m ρ nn k c).trans hk) () (O₀ := O + tallyAt (cell nn k) () 1) O (by rw [hs]) (W := W)
  rw [hs, Rd_payload] at h
  iapply h $$ [HI HO Ht Hp Hre]
  · isplitl [HI]; · iexact HI
    isplitl [HO]; · iexact HO
    isplitl [Ht]; · iexact Ht
    isplitl [Hp]; · iexact Hp
    iexact Hre
  iintro HO
  iapply Hk
  iexists W; iexact HO

theorem pays_br {c n : Dev nD} (h : ¬c = n) : pays br c n = true := by revert c n; decide
theorem payK_br (n d : Dev nD) : payK (F := F) m ρ n br d = barPay (F := F) d n := rfl

/-- What a barrier unit from `c` to `n` is made of. -/
def barRes (c n : Dev nD) : sProp 𝕄 := if c = n then iprop(emp) else iprop(tok (F := F) n br c ∗ barPay (F := F) c n)

/-- The conditional barrier unit: to every device but oneself. -/
theorem wp_csig (c n : Dev nD) {C : Prop} [Decidable C] (hC : C ↔ c ≠ n) {nn : C → Dev nD} (hn : ∀ h, nn h = n) {sem : Sem sig} (hs : SemLoc.reg sem = ksem br)
    {amt : ℤ} (ha : amt = ((1 : ℕ) : ℤ)) (O : CellTallies nD τ sig Unit) {α : Type} {Q : α → sProp 𝕄} {R : Prog (TpuEff nD τ sig (Elt F) Λ₀ .tc) α} :
    iprop(records m ρ K ∗ ow c (O + sB c n) ∗ barRes (F := F) c n)
      ⊢ iprop((ow c O -∗ WP c R Q) -∗ WP c (if h : C then (.op (.semSignal (nn h : Thread nD τ) sem amt) fun _ => R) else R) Q) := by
  unfold barRes sB
  by_cases h : c = n
  · rw [if_pos h, if_pos h, dif_neg (fun hh => hC.mp hh h), add_zero]
    iintro ⟨-, HO, -⟩ Hk
    iapply Hk; iexact HO
  · rw [if_neg h, if_neg h, dif_pos (hC.mpr h)]
    iintro ⟨#HR, HO, Ht, Hp⟩ Hk
    iapply (wp_sig m ρ K c n br (pays_br h) rfl (hn _) hs ha O (kk := fun _ => R)) $$ [HO Ht Hp]
    · isplitr; · iexact HR
      isplitl [HO]; · iexact HO
      isplitl [Ht]; · iexact Ht
      iapply (Entails.of_eq (payK_br m ρ n c).symm); iexact Hp
    iintro HO
    iapply Hk; iexact HO

/-! ## Waits -/

/-- The position of a device at its own cell: before its one wait, and after. -/
abbrev at0 (c : Dev nD) (k : Fin 16) : sProp 𝕄 := atPos ER (cell c k) 0 ∅ 0
abbrev at1 (c : Dev nD) (k : Fin 16) : sProp 𝕄 := atPos ER (cell c k) (0 + 1) ∅ 0

theorem wp_wdma (c : Dev nD) (k : Fin 16) (d : Dev nD) (hd : (Finset.univ.filter fun d => pays k d c) = {d}) {sp sp' : Space} {s s' : Shape} {e e' : EltTy} {sem : DmaSem sig}
    (hs : SemLoc.dma sem = ksem k) {src : Memref sig .tc sp' s' e'} {dst : Memref sig .tc sp s e} {hsrc : src.view.WordExact} {hdst : dst.view.WordExact}
    (hN : dst.view.dmaCredit = amtK k) (O : CellTallies nD τ sig Unit) (hO : Above (levK k) O)
    {α : Type} {Q : α → sProp 𝕄} {kk : PUnit → Prog (TpuEff nD τ sig (Elt F) Λ₀ .tc) α} :
    iprop(records m ρ K ∗ levAts L lv ∗ cred (tallyAt (cell c k) () (amtK k)) ∗ ow c O ∗ at0 c k)
      ⊢ iprop(((ow c O ∗ at1 c k ∗ payK m ρ c k d) -∗ WP c (kk ⟨⟩) Q) -∗ WP c (.op (.waitDma2 sem src dst hsrc hdst) kk) Q) := by
  unfold ow
  iintro ⟨#HR, #HL, Hc, ⟨%W, HO⟩, Ha⟩ Hk
  ihave Hr := (rec_at m ρ K c k) $$ HR
  icases Hr with ⟨HI, -⟩
  have h := Rounds.wp_wait_rest_token 𝒱₀ ER (Rd m ρ) (defs := defs₀ (F := F)) (c : Thread nD τ) none (Γ := .empty) (Es := Set.univ) (κ := K (c, k)) (sm := .dma sem) (k := kk) (Q := Q)
      (wpE_waitDma2_eq 𝒱₀ (c : Thread nD τ) none Set.univ (sem := sem) (src := src) (dst := dst) (hsrc := hsrc) (hdst := hdst)) (Set.mem_univ _) () (O := O) (W := W) (R := 0) (m := 0) (T := ∅)
      (by rw [hs, Nat.zero_add, Rd_expect, hd, hN, Finset.card_singleton, one_mul])
  rw [hs, Rd_rest, hd, bigSep_singleton, hN] at h
  iapply h $$ [HI HO Hc Ha]
  · isplitl [HI]; · iexact HI
    isplitl [Hc]; · iexact Hc
    isplitl [HO]; · iexact HO
    isplitr; · iapply (mayWait_cell c k O hO); iexact HL
    iexact Ha
  iintro ⟨HO, Ha, -, Hp⟩
  iapply Hk
  isplitl [HO]; · iexists _; iexact HO
  isplitl [Ha]; · iexact Ha
  iexact Hp

theorem wp_wreg (c : Dev nD) (k : Fin 16) (n : ℕ) (hn : (Finset.univ.filter fun d => pays k d c).card = n) (hk : amtK k = 1) {sem : Sem sig}
    (hs : SemLoc.reg sem = ksem k) {amt : ℤ} (ha : amt = (n : ℤ)) (O : CellTallies nD τ sig Unit) (hO : Above (levK k) O)
    {α : Type} {Q : α → sProp 𝕄} {kk : PUnit → Prog (TpuEff nD τ sig (Elt F) Λ₀ .tc) α} :
    iprop(records m ρ K ∗ levAts L lv ∗ cred (tallyAt (cell c k) () n) ∗ ow c O ∗ at0 c k)
      ⊢ iprop(((ow c O ∗ at1 c k ∗ bigSep (Finset.univ.filter fun d => pays k d c) fun d => payK m ρ c k d) -∗ WP c (kk ⟨⟩) Q) -∗ WP c (.op (.semWait sem amt) kk) Q) := by
  subst ha
  unfold ow
  iintro ⟨#HR, #HL, Hc, ⟨%W, HO⟩, Ha⟩ Hk
  ihave Hr := (rec_at m ρ K c k) $$ HR
  icases Hr with ⟨HI, -⟩
  have h := Rounds.wp_wait_rest_token 𝒱₀ ER (Rd m ρ) (defs := defs₀ (F := F)) (c : Thread nD τ) none (Γ := .empty) (Es := Set.univ) (κ := K (c, k)) (sm := .reg sem) (k := kk) (Q := Q)
      (wpE_semWait_eq 𝒱₀ (c : Thread nD τ) none Set.univ (sem := sem) (k := n)) (Set.mem_univ _) () (O := O) (W := W) (R := 0) (m := 0) (T := ∅)
      (by rw [hs, Nat.zero_add, Rd_expect, hn, hk, mul_one])
  rw [hs, Rd_rest] at h
  iapply h $$ [HI HO Hc Ha]
  · isplitl [HI]; · iexact HI
    isplitl [Hc]; · iexact Hc
    isplitl [HO]; · iexact HO
    isplitr; · iapply (mayWait_cell c k O hO); iexact HL
    iexact Ha
  iintro ⟨HO, Ha, -, Hp⟩
  iapply Hk
  isplitl [HO]; · iexists _; iexact HO
  isplitl [Ha]; · iexact Ha
  iexact Hp

/-! ## Sends -/

theorem wp_snd (c n : Dev nD) (k k' : Fin 16) (hp : pays k c c = true) (hp' : pays k' c n = true) {nn : Dev nD} (hn : nn = n)
    {sS sem : SemLoc sig} (hsS : sS = ksem k) (hs : sem = ksem k') {s : Shape} {e : EltTy} (S D : Memref sig .tc .vmem s e) (X : s.Idx → Elt F e)
    {hsc : D.view.ref.isScScratch = false} {hsrc : S.view.WordExact} {hdst : D.view.WordExact}
    {hsem : DmaTarget.Typed .vmem sem (.remote (Dev.tc nn : Thread nD τ) D sS hsc)}
    (hN : D.view.amount sem = amtK k') (hkk : amtK k = amtK k') (hpS : payK (F := F) m ρ c k c = somePts (F := F) c S) (hpD : payK (F := F) m ρ n k' c = valPts n D X)
    (O : CellTallies nD τ sig Unit) {α : Type} {Q : α → sProp 𝕄} {kk : PUnit → Prog (TpuEff nD τ sig (Elt F) Λ₀ .tc) α} :
    iprop(records m ρ K ∗ valPts c S X ∗ somePts (F := F) n D ∗ ow c (O + tallyAt (cell n k') () (amtK k')) ∗ tok c k c ∗ tok n k' c)
      ⊢ iprop(((cred (tallyAt (cell c k) () (amtK k)) ∗ ow c O) -∗ WP c (kk ⟨⟩) Q)
          -∗ WP c (.op (.enqueueDma S (.remote (Dev.tc nn : Thread nD τ) D sS hsc) sem hsrc hdst hsem) kk) Q) := by
  subst hn; subst hsS; subst hs
  unfold ow valPts somePts
  iintro ⟨#HR, ⟨%fs, %hfs, Hs⟩, ⟨%fd, Hd⟩, ⟨%W, HO⟩, Ht, Ht'⟩ Hk
  ihave Hr := (rec_at m ρ K c k) $$ HR
  icases Hr with ⟨HI, Hre⟩
  ihave Hr' := (rec_at m ρ K nn k') $$ HR
  icases Hr' with ⟨HI', Hre'⟩
  have h := Rounds.wp_send_pointsTo 𝒱₀ ER (Rd m ρ) (defs := defs₀ (F := F)) (c : Thread nD τ) none (Γ := .empty) (Es := Set.univ) (c' := (nn : Thread nD τ)) (src := S) (dst := D) (hsc := hsc) (hsrc := hsrc) (hdst := hdst) (hsem := hsem)
    (κ₁ := K (c, k)) (κ₂ := K (nn, k')) (q := fullShare) (fs := fs) (k := kk) (Q := Q)
    (r₁ := 0) (r₂ := 0) (d₁ := c) (d₂ := c) (fd := fd) (Rd_mem m ρ hp) (Rd_mem m ρ hp')
    () () (amtK k') hN ((Rd_amount m ρ c k c).trans hkk) (Rd_amount m ρ nn k' c) (O₀ := O + tallyAt (cell nn k') () (amtK k')) O rfl (W := W)
    (by rw [Rd_payload, hpS]; exact toSome c S fs)
    (by rw [Rd_payload, hpD]; exact toVal nn D (D.view.write (Elt F) fd (S.view.read (Elt F) fs) Finset.univ) ((View.read_write_univ _ _).trans hfs))
  iapply h $$ [HI HI' Hs Hd HO Ht Hre Ht' Hre']
  · isplitl [HI]; · iexact HI
    isplitl [HI']; · iexact HI'
    isplitl [Hs]; · iexact Hs
    isplitl [Hd]; · iexact Hd
    isplitl [HO]; · iexact HO
    isplitl [Ht]; · iexact Ht
    isplitl [Hre]; · iexact Hre
    isplitl [Ht']; · iexact Ht'
    iexact Hre'
  rw [hkk]
  iintro ⟨Hc, HO⟩
  iapply Hk
  isplitl [Hc]; · iexact Hc
  iexists _; iexact HO

end Rules

end Cert.KernelIdealRun
-- ==== Proof.KernelIdeal.BodyB.lean ====
/-
# Device 0 cuts the keys and values and sends them

Seven times: load four heads of the keys, store them in a slice of the staging buffer, the same for the values, and
send the slice to its receiver. The printed program is cut at other places than the slices, so each part has its own
statement.
-/
module

public import proofs.«01_k».proof.Proof.KernelIdeal.Rules

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

variable (K : Dev nD × Fin 16 → ℕ)

/-- What a continuation is given, under a name, so that it can be restated. -/
def Give {α : Type} (Q : α → sProp 𝕄) (a : α) : sProp 𝕄 := Q a
theorem give_in {α : Type} (Q : α → sProp 𝕄) (a : α) : Give Q a ⊢ Q a := Entails.of_eq rfl
theorem give_out {α : Type} (Q : α → sProp 𝕄) (a : α) : Q a ⊢ Give Q a := Entails.of_eq rfl

/-! ## A slice of the staging buffer -/

theorem st_sub (p : Fin 7) (t : Fin 2) : (stM.access (stRect p t)).setOn Finset.univ ⊆ (stSlot p).view.set := by
  intro i hi
  have hi' : i ∈ (stRect p t).set := by
    have h := hi; rw [View.setOn_univ] at h
    rwa [show (stM.access (stRect p t)).set = (stRect p t).set from View.set_slice_whole _ _] at h
  refine (mem_st p i).mpr ?_
  have h0 : p.val ≤ (i (0 : Fin 6)).val ∧ (i (0 : Fin 6)).val < p.val + 1 := (Rect.mem_set_unit.mp hi') (0 : Fin 6)
  omega

/-- The slice once the keys are stored. -/
def halfPts (c : Dev nD) (p : Fin 7) (kk : FVec F S2x128x4x64 .bf16) : sProp 𝕄 :=
  iprop(∃ f : Buf (Elt F) ((c : Thread nD τ).loc cc0_scratch0), (stSlot p).view.loc (c : Thread nD τ) ↦[(stSlot p).view.set]{fullShare}
    ((stM.access (stRect p 0)).write (Elt F) f (lift6 kk) Finset.univ))

section Slice
variable (c : Dev nD) (p : Fin 7) (t : Fin 2) {α : Type}

theorem wp_stld {Q : α → sProp 𝕄} {hl : stM.view.LoadsAt (stRect p t).toLoadRect} {k : ((stRect p t).toLoadRect.shape.Idx → Elt F .bf16) → Prog (TpuEff nD τ sig (Elt F) Λ₀ .tc) α} :
    somePts (F := F) c (stSlot p) ⊢ iprop((∀ v, somePts (F := F) c (stSlot p) -∗ WP c (k v) Q) -∗ WP c (.op (.load stM (stRect p t).toLoadRect hl) k) Q) := by
  unfold somePts
  iintro ⟨%f, H⟩ Hk
  iapply (wp_load_rect 𝒱₀ (c : Thread nD τ) none Set.univ (m := stM) (r := stRect p t) (st_sub p t)) $$ H
  iintro H
  iapply Hk
  iexists f; iexact H

theorem wp_stld' {Q : α → sProp 𝕄} (kk : FVec F S2x128x4x64 .bf16) {hl : stM.view.LoadsAt (stRect p t).toLoadRect} {k : ((stRect p t).toLoadRect.shape.Idx → Elt F .bf16) → Prog (TpuEff nD τ sig (Elt F) Λ₀ .tc) α} :
    halfPts c p kk ⊢ iprop((∀ v, halfPts c p kk -∗ WP c (k v) Q) -∗ WP c (.op (.load stM (stRect p t).toLoadRect hl) k) Q) := by
  unfold halfPts
  iintro ⟨%f, H⟩ Hk
  iapply (wp_load_rect 𝒱₀ (c : Thread nD τ) none Set.univ (m := stM) (r := stRect p t) (st_sub p t)) $$ H
  iintro H
  iapply Hk
  iexists f; iexact H

theorem wp_stK {Q : α → sProp 𝕄} (kk : FVec F S2x128x4x64 .bf16) {hx : (stM.access (stRect p 0)).Stores Finset.univ} {hm : (Finset.univ : Finset (stRect p 0).shape.Idx) = Finset.univ ∨ ∀ a, (stRect p 0).stride a = 1}
    {k : PUnit → Prog (TpuEff nD τ sig (Elt F) Λ₀ .tc) α} :
    somePts (F := F) c (stSlot p) ⊢ iprop((halfPts c p kk -∗ WP c (k ⟨⟩) Q) -∗ WP c (.op (.store stM (stRect p 0) (lift6 kk) Finset.univ hx hm) k) Q) := by
  unfold somePts halfPts
  iintro ⟨%f, H⟩ Hk
  iapply (wp_store 𝒱₀ (c : Thread nD τ) none Set.univ (m := stM) (r := stRect p 0) (Mk := Finset.univ) (st_sub p 0)) $$ H
  iintro H
  iapply Hk
  iexists f; iexact H

theorem wp_stV {Q : α → sProp 𝕄} (kk vv : FVec F S2x128x4x64 .bf16) {hx : (stM.access (stRect p 1)).Stores Finset.univ} {hm : (Finset.univ : Finset (stRect p 1).shape.Idx) = Finset.univ ∨ ∀ a, (stRect p 1).stride a = 1}
    {k : PUnit → Prog (TpuEff nD τ sig (Elt F) Λ₀ .tc) α} :
    halfPts c p kk ⊢ iprop((valPts c (stSlot p) (joinKV kk vv) -∗ WP c (k ⟨⟩) Q) -∗ WP c (.op (.store stM (stRect p 1) (lift6 vv) Finset.univ hx hm) k) Q) := by
  unfold halfPts
  iintro ⟨%f, H⟩ Hk
  iapply (wp_store 𝒱₀ (c : Thread nD τ) none Set.univ (m := stM) (r := stRect p 1) (Mk := Finset.univ) (st_sub p 1)) $$ H
  iintro H
  iapply Hk
  iapply (toVal c (stSlot p) _ (stage_read p f kk vv)) $$ H
end Slice

/-! ## A send -/

/-- What send `p` uses besides the slice. -/
def sndRes (p : Fin 7) : sProp 𝕄 := iprop(somePts (F := F) (rcv p) kvM ∗ tok (F := F) 0 (kS p) 0 ∗ tok (F := F) (rcv p) kR 0)
abbrev crS (p : Fin 7) : sProp 𝕄 := cred (tallyAt (cell 0 (kS p)) () Nkv)

theorem kv_a : ∀ p : Fin 7, pays (kS p) 0 0 = true := by decide
theorem kv_b : ∀ p : Fin 7, pays kR 0 (rcv p) = true := by decide
theorem kv_c : ∀ p : Fin 7, amtK (kS p) = amtK kR := by decide

theorem wp_kv (p : Fin 7) {nn : Dev nD} (hn : nn = rcv p) {sS sem : SemLoc sig} (hsS : sS = ksem (kS p)) (hs : sem = ksem kR)
    {hsc : kvM.view.ref.isScScratch = false} {hsrc : (stSlot p).view.WordExact} {hdst : kvM.view.WordExact}
    {hsem : DmaTarget.Typed .vmem sem (.remote (Dev.tc nn : Thread nD τ) kvM sS hsc)}
    (O : CellTallies nD τ sig Unit) {α : Type} {Q : α → sProp 𝕄} {k : PUnit → Prog (TpuEff nD τ sig (Elt F) Λ₀ .tc) α} :
    iprop(records m ρ K ∗ valPts 0 (stSlot p) (kvC m ρ (rcv p)) ∗ sndRes (F := F) p ∗ ow 0 (O + kvT p))
      ⊢ iprop(((crS (F := F) p ∗ ow 0 O) -∗ WP 0 (k ⟨⟩) Q)
          -∗ WP 0 (.op (.enqueueDma (stSlot p) (.remote (Dev.tc nn : Thread nD τ) kvM sS hsc) sem hsrc hdst hsem) k) Q) := by
  unfold sndRes
  have h := wp_snd m ρ K 0 (rcv p) (kS p) kR (kv_a p) (kv_b p) hn hsS hs (stSlot p) kvM (kvC m ρ (rcv p)) (hsc := hsc) (hsrc := hsrc) (hdst := hdst) (hsem := hsem)
    (by subst hs; rfl) (kv_c p) (by unfold payK; rw [dif_pos (show (kS p).val < 7 from p.isLt)]) rfl O (Q := Q) (kk := k)
  iintro ⟨#HR, Hs, ⟨Hd, Ht, Ht'⟩, HO⟩ Hk
  iapply h $$ [Hs Hd HO Ht Ht']
  · isplitr; · iexact HR
    isplitl [Hs]; · iexact Hs
    isplitl [Hd]; · iexact Hd
    isplitl [HO]; · iexact HO
    isplitl [Ht]; · iexact Ht
    iexact Ht'
  iintro ⟨Hc, HO⟩
  iapply Hk
  isplitl [Hc]
  · iapply (Entails.of_eq (congrArg (fun n => (cred (tallyAt (cell 0 (kS p)) () n) : sProp 𝕄)) (show amtK (kS p) = Nkv from kv_c p))); iexact Hc
  iexact HO

/-! ## The parts -/

abbrev kPts (c : Dev nD) : sProp 𝕄 := ((c : Thread nD τ).loc cc0_stg2_0) ↦{fullShare} X2 m ρ c
abbrev vPts (c : Dev nD) : sProp 𝕄 := ((c : Thread nD τ).loc cc0_stg3_0) ↦{fullShare} X3 m ρ c

set_option maxRecDepth 8000 in
theorem part1_spec (h9 : k0_cond9 (0 : Dev nD) = 1#1) (O : CellTallies nD τ sig Unit) {Q : FVec F S2x128x4x64 .bf16 → sProp 𝕄} :
    iprop(records m ρ K ∗ kPts m ρ 0 ∗ vPts m ρ 0 ∗ ow 0 (O + kvT 0) ∗ somePts (F := F) 0 (stSlot 0) ∗ sndRes (F := F) 0)
      ⊢ iprop(((kPts m ρ 0 ∗ vPts m ρ 0 ∗ ow 0 O ∗ crS (F := F) 0) -∗ Q (headsK (X2 m ρ 0) 2))
          -∗ WP 0 (k0_part1 (F := F) xM (Memref.isWhole_whole _) wqM (Memref.isWhole_whole _) kM (Memref.isWhole_whole _) vM (Memref.isWhole_whole _) woM (Memref.isWhole_whole _) oM (Memref.isWhole_whole _) stM (Memref.isWhole_whole _) kvM (Memref.isWhole_whole _) accM (Memref.isWhole_whole _) sbM (Memref.isWhole_whole _) rbM (Memref.isWhole_whole _) cc0_scratch5 cc0_scratch6 cc0_scratch7 cc0_scratch8 cc0_scratch9 (0 : Dev nD) h9 ) Q) := by
  iintro ⟨#HR, HK, HV, HO, Hs0, Hr0⟩ Hk
  rw [k0_part1_eq_skeleton]; unfold k0_part1_skel
  simp only [semSignalWord, semWaitWord, Prog.lift, Prog.bind_op, Prog.bind_ret, Prog.pure_eq_ret, wp_deviceId]
  iapply (wp_load 𝒱₀ ((0 : Dev nD) : Thread nD τ) none Set.univ (m := kM) (Finset.subset_univ _)) $$ HK; iintro HK
  iapply (wp_stld 0 0 0) $$ Hs0; iintro %v00 Hs0
  iapply (wp_stK 0 0 (headsK (X2 m ρ 0) 1)) $$ Hs0; iintro Hs0
  iapply (wp_load 𝒱₀ ((0 : Dev nD) : Thread nD τ) none Set.univ (m := vM) (Finset.subset_univ _)) $$ HV; iintro HV
  iapply (wp_stld' 0 0 1 (headsK (X2 m ρ 0) 1)) $$ Hs0; iintro %v01 Hs0
  iapply (wp_stV 0 0 (headsK (X2 m ρ 0) 1) (headsV (X3 m ρ 0) 1)) $$ Hs0; iintro Hs0
  iapply (wp_kv m ρ K 0 (Fin.ext k0_dev9_eq) rfl rfl _) $$ [Hs0 Hr0 HO]
  · isplitr; · iexact HR
    isplitl [Hs0]; · iexact Hs0
    isplitl [Hr0]; · iexact Hr0
    iexact HO
  iintro ⟨Hc0, HO⟩
  iapply (wp_load 𝒱₀ ((0 : Dev nD) : Thread nD τ) none Set.univ (m := kM) (Finset.subset_univ _)) $$ HK; iintro HK
  try unfold WP
  rw [wp_ret]; imodintro
  iapply (give_in Q _)
  iapply (give_out Q (headsK (X2 m ρ 0) 2))
  iapply Hk
  isplitl [HK]; · iexact HK
  isplitl [HV]; · iexact HV
  isplitl [HO]; · iexact HO
  iexact Hc0

set_option maxRecDepth 8000 in
theorem part2_spec (h9 : k0_cond9 (0 : Dev nD) = 1#1) (O : CellTallies nD τ sig Unit) {Q : PUnit → sProp 𝕄} :
    iprop(records m ρ K ∗ kPts m ρ 0 ∗ vPts m ρ 0 ∗ ow 0 (O + kvT 1) ∗ somePts (F := F) 0 (stSlot 1) ∗ sndRes (F := F) 1 ∗ somePts (F := F) 0 (stSlot 2))
      ⊢ iprop(((kPts m ρ 0 ∗ vPts m ρ 0 ∗ ow 0 O ∗ crS (F := F) 1 ∗ halfPts 0 2 (headsK (X2 m ρ 0) 3)) -∗ Q ⟨⟩)
          -∗ WP 0 (k0_part2 (F := F) xM (Memref.isWhole_whole _) wqM (Memref.isWhole_whole _) kM (Memref.isWhole_whole _) vM (Memref.isWhole_whole _) woM (Memref.isWhole_whole _) oM (Memref.isWhole_whole _) stM (Memref.isWhole_whole _) kvM (Memref.isWhole_whole _) accM (Memref.isWhole_whole _) sbM (Memref.isWhole_whole _) rbM (Memref.isWhole_whole _) cc0_scratch5 cc0_scratch6 cc0_scratch7 cc0_scratch8 cc0_scratch9 (0 : Dev nD) h9 (headsK (X2 m ρ 0) 2)) Q) := by
  iintro ⟨#HR, HK, HV, HO, Hs1, Hr1, Hs2⟩ Hk
  rw [k0_part2_eq_skeleton]; unfold k0_part2_skel
  simp only [semSignalWord, semWaitWord, Prog.lift, Prog.bind_op, Prog.bind_ret, Prog.pure_eq_ret, wp_deviceId]
  iapply (wp_stld 0 1 0) $$ Hs1; iintro %v10 Hs1
  iapply (wp_stK 0 1 (headsK (X2 m ρ 0) 2)) $$ Hs1; iintro Hs1
  iapply (wp_load 𝒱₀ ((0 : Dev nD) : Thread nD τ) none Set.univ (m := vM) (Finset.subset_univ _)) $$ HV; iintro HV
  iapply (wp_stld' 0 1 1 (headsK (X2 m ρ 0) 2)) $$ Hs1; iintro %v11 Hs1
  iapply (wp_stV 0 1 (headsK (X2 m ρ 0) 2) (headsV (X3 m ρ 0) 2)) $$ Hs1; iintro Hs1
  iapply (wp_kv m ρ K 1 (Fin.ext k0_dev10_eq) rfl rfl _) $$ [Hs1 Hr1 HO]
  · isplitr; · iexact HR
    isplitl [Hs1]; · iexact Hs1
    isplitl [Hr1]; · iexact Hr1
    iexact HO
  iintro ⟨Hc1, HO⟩
  iapply (wp_load 𝒱₀ ((0 : Dev nD) : Thread nD τ) none Set.univ (m := kM) (Finset.subset_univ _)) $$ HK; iintro HK
  iapply (wp_stld 0 2 0) $$ Hs2; iintro %v20 Hs2
  iapply (wp_stK 0 2 (headsK (X2 m ρ 0) 3)) $$ Hs2; iintro Hs2
  try unfold WP
  rw [wp_ret]; imodintro
  iapply (give_in Q _)
  iapply (give_out Q ⟨⟩)
  iapply Hk
  isplitl [HK]; · iexact HK
  isplitl [HV]; · iexact HV
  isplitl [HO]; · iexact HO
  isplitl [Hc1]; · iexact Hc1
  iexact Hs2

set_option maxRecDepth 8000 in
theorem part3_spec (h9 : k0_cond9 (0 : Dev nD) = 1#1) (O : CellTallies nD τ sig Unit) {Q : FVec F S2x128x4x64 .bf16 → sProp 𝕄} :
    iprop(records m ρ K ∗ kPts m ρ 0 ∗ vPts m ρ 0 ∗ ow 0 (O + kvT 2) ∗ halfPts 0 2 (headsK (X2 m ρ 0) 3) ∗ sndRes (F := F) 2 ∗ somePts (F := F) 0 (stSlot 3))
      ⊢ iprop(((kPts m ρ 0 ∗ vPts m ρ 0 ∗ ow 0 O ∗ crS (F := F) 2 ∗ halfPts 0 3 (headsK (X2 m ρ 0) 4)) -∗ Q (headsV (X3 m ρ 0) 4))
          -∗ WP 0 (k0_part3 (F := F) xM (Memref.isWhole_whole _) wqM (Memref.isWhole_whole _) kM (Memref.isWhole_whole _) vM (Memref.isWhole_whole _) woM (Memref.isWhole_whole _) oM (Memref.isWhole_whole _) stM (Memref.isWhole_whole _) kvM (Memref.isWhole_whole _) accM (Memref.isWhole_whole _) sbM (Memref.isWhole_whole _) rbM (Memref.isWhole_whole _) cc0_scratch5 cc0_scratch6 cc0_scratch7 cc0_scratch8 cc0_scratch9 (0 : Dev nD) h9 ) Q) := by
  iintro ⟨#HR, HK, HV, HO, Hs2, Hr2, Hs3⟩ Hk
  rw [k0_part3_eq_skeleton]; unfold k0_part3_skel
  simp only [semSignalWord, semWaitWord, Prog.lift, Prog.bind_op, Prog.bind_ret, Prog.pure_eq_ret, wp_deviceId]
  iapply (wp_load 𝒱₀ ((0 : Dev nD) : Thread nD τ) none Set.univ (m := vM) (Finset.subset_univ _)) $$ HV; iintro HV
  iapply (wp_stld' 0 2 1 (headsK (X2 m ρ 0) 3)) $$ Hs2; iintro %v21 Hs2
  iapply (wp_stV 0 2 (headsK (X2 m ρ 0) 3) (headsV (X3 m ρ 0) 3)) $$ Hs2; iintro Hs2
  iapply (wp_kv m ρ K 2 (Fin.ext k0_dev11_eq) rfl rfl _) $$ [Hs2 Hr2 HO]
  · isplitr; · iexact HR
    isplitl [Hs2]; · iexact Hs2
    isplitl [Hr2]; · iexact Hr2
    iexact HO
  iintro ⟨Hc2, HO⟩
  iapply (wp_load 𝒱₀ ((0 : Dev nD) : Thread nD τ) none Set.univ (m := kM) (Finset.subset_univ _)) $$ HK; iintro HK
  iapply (wp_stld 0 3 0) $$ Hs3; iintro %v30 Hs3
  iapply (wp_stK 0 3 (headsK (X2 m ρ 0) 4)) $$ Hs3; iintro Hs3
  iapply (wp_load 𝒱₀ ((0 : Dev nD) : Thread nD τ) none Set.univ (m := vM) (Finset.subset_univ _)) $$ HV; iintro HV
  try unfold WP
  rw [wp_ret]; imodintro
  iapply (give_in Q _)
  iapply (give_out Q (headsV (X3 m ρ 0) 4))
  iapply Hk
  isplitl [HK]; · iexact HK
  isplitl [HV]; · iexact HV
  isplitl [HO]; · iexact HO
  isplitl [Hc2]; · iexact Hc2
  iexact Hs3

set_option maxRecDepth 8000 in
theorem part4_spec (h9 : k0_cond9 (0 : Dev nD) = 1#1) (O : CellTallies nD τ sig Unit) {Q : PUnit → sProp 𝕄} :
    iprop(records m ρ K ∗ kPts m ρ 0 ∗ vPts m ρ 0 ∗ ow 0 (O + kvT 3) ∗ halfPts 0 3 (headsK (X2 m ρ 0) 4) ∗ sndRes (F := F) 3 ∗ somePts (F := F) 0 (stSlot 4))
      ⊢ iprop(((kPts m ρ 0 ∗ vPts m ρ 0 ∗ ow 0 O ∗ crS (F := F) 3 ∗ valPts 0 (stSlot 4) (kvC m ρ (rcv 4))) -∗ Q ⟨⟩)
          -∗ WP 0 (k0_part4 (F := F) xM (Memref.isWhole_whole _) wqM (Memref.isWhole_whole _) kM (Memref.isWhole_whole _) vM (Memref.isWhole_whole _) woM (Memref.isWhole_whole _) oM (Memref.isWhole_whole _) stM (Memref.isWhole_whole _) kvM (Memref.isWhole_whole _) accM (Memref.isWhole_whole _) sbM (Memref.isWhole_whole _) rbM (Memref.isWhole_whole _) cc0_scratch5 cc0_scratch6 cc0_scratch7 cc0_scratch8 cc0_scratch9 (0 : Dev nD) h9 (headsV (X3 m ρ 0) 4)) Q) := by
  iintro ⟨#HR, HK, HV, HO, Hs3, Hr3, Hs4⟩ Hk
  rw [k0_part4_eq_skeleton]; unfold k0_part4_skel
  simp only [semSignalWord, semWaitWord, Prog.lift, Prog.bind_op, Prog.bind_ret, Prog.pure_eq_ret, wp_deviceId]
  iapply (wp_stld' 0 3 1 (headsK (X2 m ρ 0) 4)) $$ Hs3; iintro %v31 Hs3
  iapply (wp_stV 0 3 (headsK (X2 m ρ 0) 4) (headsV (X3 m ρ 0) 4)) $$ Hs3; iintro Hs3
  iapply (wp_kv m ρ K 3 (Fin.ext k0_dev12_eq) rfl rfl _) $$ [Hs3 Hr3 HO]
  · isplitr; · iexact HR
    isplitl [Hs3]; · iexact Hs3
    isplitl [Hr3]; · iexact Hr3
    iexact HO
  iintro ⟨Hc3, HO⟩
  iapply (wp_load 𝒱₀ ((0 : Dev nD) : Thread nD τ) none Set.univ (m := kM) (Finset.subset_univ _)) $$ HK; iintro HK
  iapply (wp_stld 0 4 0) $$ Hs4; iintro %v40 Hs4
  iapply (wp_stK 0 4 (headsK (X2 m ρ 0) 5)) $$ Hs4; iintro Hs4
  iapply (wp_load 𝒱₀ ((0 : Dev nD) : Thread nD τ) none Set.univ (m := vM) (Finset.subset_univ _)) $$ HV; iintro HV
  iapply (wp_stld' 0 4 1 (headsK (X2 m ρ 0) 5)) $$ Hs4; iintro %v41 Hs4
  iapply (wp_stV 0 4 (headsK (X2 m ρ 0) 5) (headsV (X3 m ρ 0) 5)) $$ Hs4; iintro Hs4
  try unfold WP
  rw [wp_ret]; imodintro
  iapply (give_in Q _)
  iapply (give_out Q ⟨⟩)
  iapply Hk
  isplitl [HK]; · iexact HK
  isplitl [HV]; · iexact HV
  isplitl [HO]; · iexact HO
  isplitl [Hc3]; · iexact Hc3
  iexact Hs4

set_option maxRecDepth 8000 in
theorem part5_spec (h9 : k0_cond9 (0 : Dev nD) = 1#1) (O : CellTallies nD τ sig Unit) {Q : PUnit → sProp 𝕄} :
    iprop(records m ρ K ∗ kPts m ρ 0 ∗ vPts m ρ 0 ∗ ow 0 (O + kvT 4) ∗ valPts 0 (stSlot 4) (kvC m ρ (rcv 4)) ∗ sndRes (F := F) 4 ∗ somePts (F := F) 0 (stSlot 5))
      ⊢ iprop(((kPts m ρ 0 ∗ vPts m ρ 0 ∗ ow 0 O ∗ crS (F := F) 4 ∗ valPts 0 (stSlot 5) (kvC m ρ (rcv 5))) -∗ Q ⟨⟩)
          -∗ WP 0 (k0_part5 (F := F) xM (Memref.isWhole_whole _) wqM (Memref.isWhole_whole _) kM (Memref.isWhole_whole _) vM (Memref.isWhole_whole _) woM (Memref.isWhole_whole _) oM (Memref.isWhole_whole _) stM (Memref.isWhole_whole _) kvM (Memref.isWhole_whole _) accM (Memref.isWhole_whole _) sbM (Memref.isWhole_whole _) rbM (Memref.isWhole_whole _) cc0_scratch5 cc0_scratch6 cc0_scratch7 cc0_scratch8 cc0_scratch9 (0 : Dev nD) h9 ) Q) := by
  iintro ⟨#HR, HK, HV, HO, Hs4, Hr4, Hs5⟩ Hk
  rw [k0_part5_eq_skeleton]; unfold k0_part5_skel
  simp only [semSignalWord, semWaitWord, Prog.lift, Prog.bind_op, Prog.bind_ret, Prog.pure_eq_ret, wp_deviceId]
  iapply (wp_kv m ρ K 4 (Fin.ext k0_dev13_eq) rfl rfl _) $$ [Hs4 Hr4 HO]
  · isplitr; · iexact HR
    isplitl [Hs4]; · iexact Hs4
    isplitl [Hr4]; · iexact Hr4
    iexact HO
  iintro ⟨Hc4, HO⟩
  iapply (wp_load 𝒱₀ ((0 : Dev nD) : Thread nD τ) none Set.univ (m := kM) (Finset.subset_univ _)) $$ HK; iintro HK
  iapply (wp_stld 0 5 0) $$ Hs5; iintro %v50 Hs5
  iapply (wp_stK 0 5 (headsK (X2 m ρ 0) 6)) $$ Hs5; iintro Hs5
  iapply (wp_load 𝒱₀ ((0 : Dev nD) : Thread nD τ) none Set.univ (m := vM) (Finset.subset_univ _)) $$ HV; iintro HV
  iapply (wp_stld' 0 5 1 (headsK (X2 m ρ 0) 6)) $$ Hs5; iintro %v51 Hs5
  iapply (wp_stV 0 5 (headsK (X2 m ρ 0) 6) (headsV (X3 m ρ 0) 6)) $$ Hs5; iintro Hs5
  try unfold WP
  rw [wp_ret]; imodintro
  iapply (give_in Q _)
  iapply (give_out Q ⟨⟩)
  iapply Hk
  isplitl [HK]; · iexact HK
  isplitl [HV]; · iexact HV
  isplitl [HO]; · iexact HO
  isplitl [Hc4]; · iexact Hc4
  iexact Hs5

set_option maxRecDepth 8000 in
theorem part6_spec (h9 : k0_cond9 (0 : Dev nD) = 1#1) (O : CellTallies nD τ sig Unit) {Q : PUnit → sProp 𝕄} :
    iprop(records m ρ K ∗ kPts m ρ 0 ∗ vPts m ρ 0 ∗ ow 0 (O + kvT 6 + kvT 5) ∗ valPts 0 (stSlot 5) (kvC m ρ (rcv 5)) ∗ sndRes (F := F) 5 ∗ somePts (F := F) 0 (stSlot 6) ∗ sndRes (F := F) 6)
      ⊢ iprop(((kPts m ρ 0 ∗ vPts m ρ 0 ∗ ow 0 O ∗ crS (F := F) 5 ∗ crS (F := F) 6) -∗ Q ⟨⟩)
          -∗ WP 0 (k0_part6 (F := F) xM (Memref.isWhole_whole _) wqM (Memref.isWhole_whole _) kM (Memref.isWhole_whole _) vM (Memref.isWhole_whole _) woM (Memref.isWhole_whole _) oM (Memref.isWhole_whole _) stM (Memref.isWhole_whole _) kvM (Memref.isWhole_whole _) accM (Memref.isWhole_whole _) sbM (Memref.isWhole_whole _) rbM (Memref.isWhole_whole _) cc0_scratch5 cc0_scratch6 cc0_scratch7 cc0_scratch8 cc0_scratch9 (0 : Dev nD) h9 ) Q) := by
  iintro ⟨#HR, HK, HV, HO, Hs5, Hr5, Hs6, Hr6⟩ Hk
  rw [k0_part6_eq_skeleton]; unfold k0_part6_skel
  simp only [semSignalWord, semWaitWord, Prog.lift, Prog.bind_op, Prog.bind_ret, Prog.pure_eq_ret, wp_deviceId]
  iapply (wp_kv m ρ K 5 (Fin.ext k0_dev14_eq) rfl rfl _) $$ [Hs5 Hr5 HO]
  · isplitr; · iexact HR
    isplitl [Hs5]; · iexact Hs5
    isplitl [Hr5]; · iexact Hr5
    iexact HO
  iintro ⟨Hc5, HO⟩
  iapply (wp_load 𝒱₀ ((0 : Dev nD) : Thread nD τ) none Set.univ (m := kM) (Finset.subset_univ _)) $$ HK; iintro HK
  iapply (wp_stld 0 6 0) $$ Hs6; iintro %v60 Hs6
  iapply (wp_stK 0 6 (headsK (X2 m ρ 0) 7)) $$ Hs6; iintro Hs6
  iapply (wp_load 𝒱₀ ((0 : Dev nD) : Thread nD τ) none Set.univ (m := vM) (Finset.subset_univ _)) $$ HV; iintro HV
  iapply (wp_stld' 0 6 1 (headsK (X2 m ρ 0) 7)) $$ Hs6; iintro %v61 Hs6
  iapply (wp_stV 0 6 (headsK (X2 m ρ 0) 7) (headsV (X3 m ρ 0) 7)) $$ Hs6; iintro Hs6
  iapply (wp_kv m ρ K 6 (Fin.ext k0_dev15_eq) rfl rfl _) $$ [Hs6 Hr6 HO]
  · isplitr; · iexact HR
    isplitl [Hs6]; · iexact Hs6
    isplitl [Hr6]; · iexact Hr6
    iexact HO
  iintro ⟨Hc6, HO⟩
  try unfold WP
  rw [wp_ret]; imodintro
  iapply (give_in Q _)
  iapply (give_out Q ⟨⟩)
  iapply Hk
  isplitl [HK]; · iexact HK
  isplitl [HV]; · iexact HV
  isplitl [HO]; · iexact HO
  isplitl [Hc5]; · iexact Hc5
  iexact Hc6

end Cert.KernelIdealRun
-- ==== Proof.KernelIdeal.Ops.lean ====
/-
# The operations of the rest of the body

Loads and stores of whole buffers, the stores of the key/value buffer and of the two halves of the accumulator, and
the three steps of an exchange.
-/
module

public import proofs.«01_k».proof.Proof.KernelIdeal.BodyB

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

variable (K : Dev nD × Fin 16 → ℕ)

theorem z2 : (![0, 0] : Fin 2 → Nat) = fun _ => 0 := by funext a; fin_cases a <;> rfl
theorem z3 : (![0, 0, 0] : Fin 3 → Nat) = fun _ => 0 := by funext a; fin_cases a <;> rfl

/-! ## Whole buffers -/

section Whole
variable (c : Dev nD) {cs : CoreSpace} {i : Fin (sig.nNear .tc cs)} {hκ : sig.names .tc cs i = true} {α : Type}

theorem wp_ldW {Q : α → sProp 𝕄} {off : Fin (sig.tyNear .tc cs i).shape.rank → Nat} (h : off = fun _ => 0) {inb : ∀ a, off a + (sig.tyNear .tc cs i).shape.size a ≤ (sig.tyNear .tc cs i).shape.size a}
    {hl : (Memref.whole ⟨cs, i, hκ⟩ : Memref sig .tc _ _ _).view.LoadsAt (Rect.unit off (sig.tyNear .tc cs i).shape.size inb).toLoadRect}
    {k : (sig.tyNear .tc cs i).Contents (Elt F) → Prog (TpuEff nD τ sig (Elt F) Λ₀ .tc) α} {f : Buf (Elt F) ((c : Thread nD τ).loc ⟨cs, i, hκ⟩)} :
    (((c : Thread nD τ).loc ⟨cs, i, hκ⟩) ↦{fullShare} f : sProp 𝕄)
      ⊢ iprop(((((c : Thread nD τ).loc ⟨cs, i, hκ⟩) ↦{fullShare} f) -∗ WP c (k f) Q)
        -∗ WP c (.op (.load (Memref.whole ⟨cs, i, hκ⟩) (Rect.unit off (sig.tyNear .tc cs i).shape.size inb).toLoadRect hl) k) Q) := by
  have h1 := wp_load (defs := defs₀ (F := F)) 𝒱₀ (c : Thread nD τ) none (Γ := .empty) Set.univ (Q := Q) (m := Memref.whole ⟨cs, i, hκ⟩)
    (r := (Rect.unit off (sig.tyNear .tc cs i).shape.size inb).toLoadRect) (hl := hl) (k := k) (q := fullShare) (f := f) (S := Finset.univ) (Finset.subset_univ _)
  rw [Memref.readAt_unit_zero (Elt F) ⟨cs, i, hκ⟩ h inb f] at h1
  exact h1

theorem someAll_intro (f : Buf (Elt F) ((c : Thread nD τ).loc ⟨cs, i, hκ⟩)) : (((c : Thread nD τ).loc ⟨cs, i, hκ⟩) ↦{fullShare} f : sProp 𝕄) ⊢ someAll (F := F) c ⟨cs, i, hκ⟩ := by
  unfold someAll; iintro H; iexists f; iexact H
end Whole

section Bufs
variable (c : Dev nD) {α : Type}

theorem wp_ldD_acc {Q : α → sProp 𝕄} {r : LoadRect S256x512} {hl : accM.view.LoadsAt r} {k : (r.shape.Idx → Elt F .f32) → Prog (TpuEff nD τ sig (Elt F) Λ₀ .tc) α} :
    someAll (F := F) c cc0_scratch2 ⊢ iprop((∀ v, someAll (F := F) c cc0_scratch2 -∗ WP c (k v) Q) -∗ WP c (.op (.load accM r hl) k) Q) := by
  unfold someAll
  iintro ⟨%f, H⟩ Hk
  iapply (wp_load 𝒱₀ (c : Thread nD τ) none Set.univ (m := accM) (Finset.subset_univ _)) $$ H
  iintro H
  iapply Hk
  iexists f; iexact H

theorem wp_stW_acc {Q : α → sProp 𝕄} {inb : ∀ a, (![0, 0] : Fin 2 → Nat) a + S256x512.size a ≤ S256x512.size a} {w : S256x512.Idx → Elt F .f32}
    {hx : (accM.access (Rect.unit (s := S256x512) ![0, 0] S256x512.size inb)).Stores Finset.univ} {hm}
    {k : PUnit → Prog (TpuEff nD τ sig (Elt F) Λ₀ .tc) α} :
    someAll (F := F) c cc0_scratch2
      ⊢ iprop(((((c : Thread nD τ).loc cc0_scratch2) ↦{fullShare} w) -∗ WP c (k ⟨⟩) Q)
        -∗ WP c (.op (.store accM (Rect.unit (s := S256x512) ![0, 0] S256x512.size inb) w Finset.univ hx hm) k) Q) := by
  unfold someAll
  iintro ⟨%f, H⟩ Hk
  have h1 := wp_store (defs := defs₀ (F := F)) 𝒱₀ (c : Thread nD τ) none (Γ := .empty) Set.univ (Q := Q) (m := accM)
    (r := Rect.unit (s := S256x512) ![0, 0] S256x512.size inb) (w := w) (Mk := Finset.univ) (hx := hx) (hm := hm) (k := k) (f := f) (S := Finset.univ) (Finset.subset_univ _)
  have e : (accM.access (Rect.unit (s := S256x512) ![0, 0] S256x512.size inb)).write (Elt F) f w Finset.univ = w := Memref.write_access_unit_zero_univ (Elt F) cc0_scratch2 z2 inb f w
  rw [e] at h1
  iapply h1 $$ H
  iexact Hk

theorem wp_ldD_sb {Q : α → sProp 𝕄} {r : LoadRect S256x512} {hl : sbM.view.LoadsAt r} {k : (r.shape.Idx → Elt F .bf16) → Prog (TpuEff nD τ sig (Elt F) Λ₀ .tc) α} :
    someAll (F := F) c cc0_scratch3 ⊢ iprop((∀ v, someAll (F := F) c cc0_scratch3 -∗ WP c (k v) Q) -∗ WP c (.op (.load sbM r hl) k) Q) := by
  unfold someAll
  iintro ⟨%f, H⟩ Hk
  iapply (wp_load 𝒱₀ (c : Thread nD τ) none Set.univ (m := sbM) (Finset.subset_univ _)) $$ H
  iintro H
  iapply Hk
  iexists f; iexact H

theorem wp_stW_sb {Q : α → sProp 𝕄} {inb : ∀ a, (![0, 0] : Fin 2 → Nat) a + S256x512.size a ≤ S256x512.size a} {w : S256x512.Idx → Elt F .bf16}
    {hx : (sbM.access (Rect.unit (s := S256x512) ![0, 0] S256x512.size inb)).Stores Finset.univ} {hm}
    {k : PUnit → Prog (TpuEff nD τ sig (Elt F) Λ₀ .tc) α} :
    someAll (F := F) c cc0_scratch3
      ⊢ iprop(((((c : Thread nD τ).loc cc0_scratch3) ↦{fullShare} w) -∗ WP c (k ⟨⟩) Q)
        -∗ WP c (.op (.store sbM (Rect.unit (s := S256x512) ![0, 0] S256x512.size inb) w Finset.univ hx hm) k) Q) := by
  unfold someAll
  iintro ⟨%f, H⟩ Hk
  have h1 := wp_store (defs := defs₀ (F := F)) 𝒱₀ (c : Thread nD τ) none (Γ := .empty) Set.univ (Q := Q) (m := sbM)
    (r := Rect.unit (s := S256x512) ![0, 0] S256x512.size inb) (w := w) (Mk := Finset.univ) (hx := hx) (hm := hm) (k := k) (f := f) (S := Finset.univ) (Finset.subset_univ _)
  have e : (sbM.access (Rect.unit (s := S256x512) ![0, 0] S256x512.size inb)).write (Elt F) f w Finset.univ = w := Memref.write_access_unit_zero_univ (Elt F) cc0_scratch3 z2 inb f w
  rw [e] at h1
  iapply h1 $$ H
  iexact Hk

theorem wp_ldD_o {Q : α → sProp 𝕄} {r : LoadRect S2x128x512} {hl : oM.view.LoadsAt r} {k : (r.shape.Idx → Elt F .f32) → Prog (TpuEff nD τ sig (Elt F) Λ₀ .tc) α} :
    someAll (F := F) c cc0_stg5_0 ⊢ iprop((∀ v, someAll (F := F) c cc0_stg5_0 -∗ WP c (k v) Q) -∗ WP c (.op (.load oM r hl) k) Q) := by
  unfold someAll
  iintro ⟨%f, H⟩ Hk
  iapply (wp_load 𝒱₀ (c : Thread nD τ) none Set.univ (m := oM) (Finset.subset_univ _)) $$ H
  iintro H
  iapply Hk
  iexists f; iexact H

theorem wp_stW_o {Q : α → sProp 𝕄} {inb : ∀ a, (![0, 0, 0] : Fin 3 → Nat) a + S2x128x512.size a ≤ S2x128x512.size a} {w : S2x128x512.Idx → Elt F .f32}
    {hx : (oM.access (Rect.unit (s := S2x128x512) ![0, 0, 0] S2x128x512.size inb)).Stores Finset.univ} {hm}
    {k : PUnit → Prog (TpuEff nD τ sig (Elt F) Λ₀ .tc) α} :
    someAll (F := F) c cc0_stg5_0
      ⊢ iprop(((((c : Thread nD τ).loc cc0_stg5_0) ↦{fullShare} w) -∗ WP c (k ⟨⟩) Q)
        -∗ WP c (.op (.store oM (Rect.unit (s := S2x128x512) ![0, 0, 0] S2x128x512.size inb) w Finset.univ hx hm) k) Q) := by
  unfold someAll
  iintro ⟨%f, H⟩ Hk
  have h1 := wp_store (defs := defs₀ (F := F)) 𝒱₀ (c : Thread nD τ) none (Γ := .empty) Set.univ (Q := Q) (m := oM)
    (r := Rect.unit (s := S2x128x512) ![0, 0, 0] S2x128x512.size inb) (w := w) (Mk := Finset.univ) (hx := hx) (hm := hm) (k := k) (f := f) (S := Finset.univ) (Finset.subset_univ _)
  have e : (oM.access (Rect.unit (s := S2x128x512) ![0, 0, 0] S2x128x512.size inb)).write (Elt F) f w Finset.univ = w := Memref.write_access_unit_zero_univ (Elt F) cc0_stg5_0 z3 inb f w
  rw [e] at h1
  iapply h1 $$ H
  iexact Hk

theorem wp_ldD_kv {Q : α → sProp 𝕄} {r : LoadRect S2x2x128x4x64} {hl : kvM.view.LoadsAt r} {k : (r.shape.Idx → Elt F .bf16) → Prog (TpuEff nD τ sig (Elt F) Λ₀ .tc) α} :
    someAll (F := F) c cc0_scratch1 ⊢ iprop((∀ v, someAll (F := F) c cc0_scratch1 -∗ WP c (k v) Q) -∗ WP c (.op (.load kvM r hl) k) Q) := by
  unfold someAll
  iintro ⟨%f, H⟩ Hk
  iapply (wp_load 𝒱₀ (c : Thread nD τ) none Set.univ (m := kvM) (Finset.subset_univ _)) $$ H
  iintro H
  iapply Hk
  iexists f; iexact H
end Bufs

/-! ## The key/value buffer -/

abbrev kvPts (c : Dev nD) (x : (cc0_scratch1 : Ref sig .tc).ty.Contents (Elt F)) : sProp 𝕄 := ((c : Thread nD τ).loc cc0_scratch1) ↦{fullShare} x
abbrev xPts (c : Dev nD) : sProp 𝕄 := ((c : Thread nD τ).loc cc0_stg0_0) ↦{fullShare} X0 m ρ c
abbrev wqPts (c : Dev nD) : sProp 𝕄 := ((c : Thread nD τ).loc cc0_stg1_0) ↦{fullShare} X1 m ρ c
abbrev woPts (c : Dev nD) : sProp 𝕄 := ((c : Thread nD τ).loc cc0_stg4_0) ↦{fullShare} X4 m ρ c
abbrev accPts (c : Dev nD) (x : (cc0_scratch2 : Ref sig .tc).ty.Contents (Elt F)) : sProp 𝕄 := ((c : Thread nD τ).loc cc0_scratch2) ↦{fullShare} x
abbrev sbPts (c : Dev nD) (x : (cc0_scratch3 : Ref sig .tc).ty.Contents (Elt F)) : sProp 𝕄 := ((c : Thread nD τ).loc cc0_scratch3) ↦{fullShare} x

theorem kv_set : kvM.view.set = Finset.univ := View.set_whole _
theorem sb_set : sbM.view.set = Finset.univ := View.set_whole _

theorem kv_val (c : Dev nD) (x : (cc0_scratch1 : Ref sig .tc).ty.Contents (Elt F)) : valPts c kvM x ⊢ kvPts c x := by
  unfold valPts
  rw [kv_set]
  iintro ⟨%f, %hf, H⟩
  have e : f = x := hf
  subst e
  iexact H
theorem kv_some (c : Dev nD) : someAll (F := F) c cc0_scratch1 ⊢ somePts (F := F) c kvM := by
  unfold someAll somePts
  iintro ⟨%f, H⟩
  iexists f; rw [kv_set]; iexact H
theorem sb_val (c : Dev nD) (x : (cc0_scratch3 : Ref sig .tc).ty.Contents (Elt F)) : sbPts c x ⊢ valPts c sbM x := by
  unfold valPts
  rw [sb_set]
  iintro H
  iexists x
  isplitr
  · ipureintro; rfl
  iexact H
theorem sb_some (c : Dev nD) : somePts (F := F) c sbM ⊢ someAll (F := F) c cc0_scratch3 := by
  unfold someAll somePts
  iintro ⟨%f, H⟩
  iexists f; rw [← sb_set]; iexact H

/-- The key/value buffer once the keys are stored. -/
def kvHalf (c : Dev nD) (kk : FVec F S2x128x4x64 .bf16) : sProp 𝕄 :=
  iprop(∃ f : (cc0_scratch1 : Ref sig .tc).ty.Contents (Elt F), kvPts c ((kvM.access (kvRect 0)).write (Elt F) f (lift5 kk) Finset.univ))

section KV
variable (c : Dev nD) {α : Type}

theorem wp_kvK {Q : α → sProp 𝕄} (kk : FVec F S2x128x4x64 .bf16) {hx : (kvM.access (kvRect 0)).Stores Finset.univ} {hm : (Finset.univ : Finset (kvRect 0).shape.Idx) = Finset.univ ∨ ∀ a, (kvRect 0).stride a = 1}
    {k : PUnit → Prog (TpuEff nD τ sig (Elt F) Λ₀ .tc) α} :
    someAll (F := F) c cc0_scratch1 ⊢ iprop((kvHalf c kk -∗ WP c (k ⟨⟩) Q) -∗ WP c (.op (.store kvM (kvRect 0) (lift5 kk) Finset.univ hx hm) k) Q) := by
  unfold someAll kvHalf
  iintro ⟨%f, H⟩ Hk
  iapply (wp_store 𝒱₀ (c : Thread nD τ) none Set.univ (m := kvM) (r := kvRect 0) (Mk := Finset.univ) (Finset.subset_univ _)) $$ H
  iintro H
  iapply Hk
  iexists f; iexact H

theorem wp_kvD {Q : α → sProp 𝕄} (kk : FVec F S2x128x4x64 .bf16) {r : LoadRect S2x2x128x4x64} {hl : kvM.view.LoadsAt r} {k : (r.shape.Idx → Elt F .bf16) → Prog (TpuEff nD τ sig (Elt F) Λ₀ .tc) α} :
    kvHalf c kk ⊢ iprop((∀ v, kvHalf c kk -∗ WP c (k v) Q) -∗ WP c (.op (.load kvM r hl) k) Q) := by
  unfold kvHalf
  iintro ⟨%f, H⟩ Hk
  iapply (wp_load 𝒱₀ (c : Thread nD τ) none Set.univ (m := kvM) (Finset.subset_univ _)) $$ H
  iintro H
  iapply Hk
  iexists f; iexact H

theorem wp_kvV {Q : α → sProp 𝕄} (kk vv : FVec F S2x128x4x64 .bf16) {hx : (kvM.access (kvRect 1)).Stores Finset.univ} {hm : (Finset.univ : Finset (kvRect 1).shape.Idx) = Finset.univ ∨ ∀ a, (kvRect 1).stride a = 1}
    {k : PUnit → Prog (TpuEff nD τ sig (Elt F) Λ₀ .tc) α} :
    kvHalf c kk ⊢ iprop((kvPts c (joinKV kk vv) -∗ WP c (k ⟨⟩) Q) -∗ WP c (.op (.store kvM (kvRect 1) (lift5 vv) Finset.univ hx hm) k) Q) := by
  unfold kvHalf
  iintro ⟨%f, H⟩ Hk
  iapply (wp_store 𝒱₀ (c : Thread nD τ) none Set.univ (m := kvM) (r := kvRect 1) (Mk := Finset.univ) (Finset.subset_univ _)) $$ H
  iintro H
  iapply Hk
  have e : ((kvM.access (kvRect 1)).write (Elt F) ((kvM.access (kvRect 0)).write (Elt F) f (lift5 kk) Finset.univ) (lift5 vv) Finset.univ) = joinKV kk vv := kv_write f kk vv
  iapply (Entails.of_eq (congrArg (fun x => (kvPts c x : sProp 𝕄)) e)) $$ H
end KV

/-! ## The accumulator -/

/-- The accumulator once its first half is stored. -/
def accHalf (c : Dev nD) (a : FVec F S128x512 .f32) : sProp 𝕄 :=
  iprop(∃ f : (cc0_scratch2 : Ref sig .tc).ty.Contents (Elt F), accPts c ((accM.access topRect).write (Elt F) f a Finset.univ))

section Acc
variable (c : Dev nD) {α : Type}

theorem wp_accT {Q : α → sProp 𝕄} {a : FVec F S128x512 .f32} {hx : (accM.access topRect).Stores Finset.univ} {hm : (Finset.univ : Finset topRect.shape.Idx) = Finset.univ ∨ ∀ a, topRect.stride a = 1}
    {k : PUnit → Prog (TpuEff nD τ sig (Elt F) Λ₀ .tc) α} :
    someAll (F := F) c cc0_scratch2 ⊢ iprop((accHalf c a -∗ WP c (k ⟨⟩) Q) -∗ WP c (.op (.store accM topRect a Finset.univ hx hm) k) Q) := by
  unfold someAll accHalf
  iintro ⟨%f, H⟩ Hk
  iapply (wp_store 𝒱₀ (c : Thread nD τ) none Set.univ (m := accM) (r := topRect) (Mk := Finset.univ) (Finset.subset_univ _)) $$ H
  iintro H
  iapply Hk
  iexists f; iexact H

theorem wp_accD {Q : α → sProp 𝕄} {a : FVec F S128x512 .f32} {r : LoadRect S256x512} {hl : accM.view.LoadsAt r} {k : (r.shape.Idx → Elt F .f32) → Prog (TpuEff nD τ sig (Elt F) Λ₀ .tc) α} :
    accHalf c a ⊢ iprop((∀ v, accHalf c a -∗ WP c (k v) Q) -∗ WP c (.op (.load accM r hl) k) Q) := by
  unfold accHalf
  iintro ⟨%f, H⟩ Hk
  iapply (wp_load 𝒱₀ (c : Thread nD τ) none Set.univ (m := accM) (Finset.subset_univ _)) $$ H
  iintro H
  iapply Hk
  iexists f; iexact H

theorem wp_accB {Q : α → sProp 𝕄} {a b : FVec F S128x512 .f32} {hx : (accM.access botRect).Stores Finset.univ} {hm : (Finset.univ : Finset botRect.shape.Idx) = Finset.univ ∨ ∀ a, botRect.stride a = 1}
    {k : PUnit → Prog (TpuEff nD τ sig (Elt F) Λ₀ .tc) α} :
    accHalf c a ⊢ iprop((accPts c (stack a b) -∗ WP c (k ⟨⟩) Q) -∗ WP c (.op (.store accM botRect b Finset.univ hx hm) k) Q) := by
  unfold accHalf
  iintro ⟨%f, H⟩ Hk
  iapply (wp_store 𝒱₀ (c : Thread nD τ) none Set.univ (m := accM) (r := botRect) (Mk := Finset.univ) (Finset.subset_univ _)) $$ H
  iintro H
  iapply Hk
  have e : ((accM.access botRect).write (Elt F) ((accM.access topRect).write (Elt F) f a Finset.univ) b Finset.univ) = stack a b := acc_write f a b
  iapply (Entails.of_eq (congrArg (fun x => (accPts c x : sProp 𝕄)) e)) $$ H
end Acc

/-! ## An exchange -/

/-- What sending in exchange `r` uses besides the send buffer. -/
def bfRes (r : Fin 3) (c : Dev nD) : sProp 𝕄 := iprop(somePts (F := F) (pt r c) (rbSlot r) ∗ tok (F := F) c (bS r) c ∗ tok (F := F) (pt r c) (bR r) c)
/-- What waiting in exchange `r` uses besides the credit of the send. -/
def bfW (r : Fin 3) (c : Dev nD) : sProp 𝕄 := iprop(at0 (F := F) c (bS r) ∗ cred (tallyAt (cell c (bR r)) () Nbf) ∗ at0 (F := F) c (bR r))
abbrev bfM (r : Fin 3) (c : Dev nD) : sProp 𝕄 := cred (tallyAt (cell c (bS r)) () Nbf)
/-- What exchange `r` leaves. -/
def bfD (r : Fin 3) (c : Dev nD) : sProp 𝕄 := iprop(at1 (F := F) c (bS r) ∗ at1 (F := F) c (bR r) ∗ valPts c (rbSlot r) (sbR m ρ r (pt r c)))

theorem bf_a : ∀ (r : Fin 3) (c : Dev nD), pays (bS r) c c = true := by decide
theorem bf_b : ∀ (r : Fin 3) (c : Dev nD), pays (bR r) c (pt r c) = true := by decide
theorem bf_c : ∀ r : Fin 3, amtK (bS r) = Nbf := by decide
theorem bf_d : ∀ r : Fin 3, amtK (bR r) = Nbf := by decide
theorem bf_e : ∀ (r : Fin 3) (c : Dev nD), (Finset.univ.filter fun d => pays (bS r) d c) = {c} := by decide
theorem bf_f : ∀ (r : Fin 3) (c : Dev nD), (Finset.univ.filter fun d => pays (bR r) d c) = {pt r c} := by decide
theorem bf_g : ∀ r : Fin 3, (rbSlot r).view.dmaCredit = Nbf := by decide
theorem bf_h : ∀ r : Fin 3, (rbSlot r).view.amount (ksem (bR r)) = Nbf := by decide
theorem bf_l : ∀ r : Fin 3, levK (bS r) = 0 := by decide
theorem bf_l' : ∀ r : Fin 3, levK (bR r) = 3 + r.val := by decide

theorem payS (r : Fin 3) (c d : Dev nD) : payK m ρ c (bS r) d = somePts (F := F) c sbM := by
  fin_cases r <;> rfl
theorem payR (r : Fin 3) (c d : Dev nD) : payK m ρ c (bR r) d = valPts c (rbSlot r) (sbR m ρ r (pt r c)) := by
  fin_cases r <;> rfl

section Bf
variable (r : Fin 3) (c : Dev nD) {α : Type}

theorem wp_bfsnd {Q : α → sProp 𝕄} {nn : Dev nD} (hn : nn = pt r c) {sS sem : SemLoc sig} (hsS : sS = ksem (bS r)) (hs : sem = ksem (bR r))
    {hsc : (rbSlot r).view.ref.isScScratch = false} {hsrc : sbM.view.WordExact} {hdst : (rbSlot r).view.WordExact}
    {hsem : DmaTarget.Typed .vmem sem (.remote (Dev.tc nn : Thread nD τ) (rbSlot r) sS hsc)}
    (O : CellTallies nD τ sig Unit) {k : PUnit → Prog (TpuEff nD τ sig (Elt F) Λ₀ .tc) α} :
    iprop(records m ρ K ∗ sbPts c (sbR m ρ r c) ∗ bfRes (F := F) r c ∗ ow c (O + bfT c r))
      ⊢ iprop(((bfM (F := F) r c ∗ ow c O) -∗ WP c (k ⟨⟩) Q)
          -∗ WP c (.op (.enqueueDma sbM (.remote (Dev.tc nn : Thread nD τ) (rbSlot r) sS hsc) sem hsrc hdst hsem) k) Q) := by
  unfold bfRes bfT
  have h := wp_snd m ρ K c (pt r c) (bS r) (bR r) (bf_a r c) (bf_b r c) hn hsS hs sbM (rbSlot r) (sbR m ρ r c) (hsc := hsc) (hsrc := hsrc) (hdst := hdst) (hsem := hsem)
    (by subst hs; rw [bf_d r]; exact bf_h r) ((bf_c r).trans (bf_d r).symm) (payS m ρ r c c) ((payR m ρ r (pt r c) c).trans (by rw [pt_pt])) O (Q := Q) (kk := k)
  rw [bf_c r, bf_d r] at h
  iintro ⟨#HR, Hs, ⟨Hd, Ht, Ht'⟩, HO⟩ Hk
  iapply h $$ [Hs Hd HO Ht Ht']
  · isplitr; · iexact HR
    isplitl [Hs]; · iapply (sb_val c _); iexact Hs
    isplitl [Hd]; · iexact Hd
    isplitl [HO]; · iexact HO
    isplitl [Ht]; · iexact Ht
    iexact Ht'
  iexact Hk

theorem wp_bfwS {Q : α → sProp 𝕄} {sem : DmaSem sig} (hs : SemLoc.dma sem = ksem (bS r))
    {s : Shape} {e : EltTy} {src : Memref sig .tc .vmem s e} {hsrc : src.view.WordExact} {hdst : sbM.view.WordExact}
    (O : CellTallies nD τ sig Unit) (hO : Above 0 O) {k : PUnit → Prog (TpuEff nD τ sig (Elt F) Λ₀ .tc) α} :
    iprop(records m ρ K ∗ levAts L lv ∗ bfM (F := F) r c ∗ ow c O ∗ at0 (F := F) c (bS r))
      ⊢ iprop(((ow c O ∗ at1 (F := F) c (bS r) ∗ someAll (F := F) c cc0_scratch3) -∗ WP c (k ⟨⟩) Q)
          -∗ WP c (.op (.waitDma2 sem src sbM hsrc hdst) k) Q) := by
  have h := wp_wdma m ρ K c (bS r) c (bf_e r c) hs (dst := sbM) (src := src) (by rw [bf_c r]) O (by rw [bf_l r]; exact hO) (Q := Q) (kk := k) (hsrc := hsrc) (hdst := hdst)
  rw [bf_c r, payS m ρ r c c] at h
  iintro H Hk
  iapply h $$ H
  iintro ⟨HO, Ha, Hs⟩
  iapply Hk
  isplitl [HO]; · iexact HO
  isplitl [Ha]; · iexact Ha
  iapply (sb_some c); iexact Hs

theorem wp_bfwR {Q : α → sProp 𝕄} {sem : DmaSem sig} (hs : SemLoc.dma sem = ksem (bR r))
    {s : Shape} {e : EltTy} {src : Memref sig .tc .vmem s e} {hsrc : src.view.WordExact} {hdst : (rbSlot r).view.WordExact}
    (O : CellTallies nD τ sig Unit) (hO : Above (3 + r.val) O) {k : PUnit → Prog (TpuEff nD τ sig (Elt F) Λ₀ .tc) α} :
    iprop(records m ρ K ∗ levAts L lv ∗ cred (tallyAt (cell c (bR r)) () Nbf) ∗ ow c O ∗ at0 (F := F) c (bR r))
      ⊢ iprop(((ow c O ∗ at1 (F := F) c (bR r) ∗ valPts c (rbSlot r) (sbR m ρ r (pt r c))) -∗ WP c (k ⟨⟩) Q)
          -∗ WP c (.op (.waitDma2 sem src (rbSlot r) hsrc hdst) k) Q) := by
  have h := wp_wdma m ρ K c (bR r) (pt r c) (bf_f r c) hs (dst := rbSlot r) (src := src) (by rw [bf_d r]) O (by rw [bf_l' r]; exact hO) (Q := Q) (kk := k) (hsrc := hsrc) (hdst := hdst)
  rw [bf_d r, payR m ρ r c (pt r c)] at h
  exact h

theorem rb_sub : rbM.view.setOn (Rect.unit (s := S3x256x512) ![r.val, 0, 0] S1x256x512.size (inb_rb r)).toLoadRect.set ⊆ (rbSlot r).view.set := by
  intro i hi
  have hi' : i ∈ (Rect.unit (s := S3x256x512) ![r.val, 0, 0] S1x256x512.size (inb_rb r)).set := by
    have h := hi
    obtain ⟨j, hj, e⟩ := Finset.mem_map.mp h
    have e' : j = i := e
    rw [← e']; exact hj
  refine (mem_rb r i).mpr ?_
  have h0 : r.val ≤ (i (0 : Fin 3)).val ∧ (i (0 : Fin 3)).val < r.val + 1 := (Rect.mem_set_unit.mp hi') (0 : Fin 3)
  omega

theorem wp_rbld {Q : α → sProp 𝕄} (X : S256x512.Idx → Elt F .bf16)
    {hl : rbM.view.LoadsAt (Rect.unit (s := S3x256x512) ![r.val, 0, 0] S1x256x512.size (inb_rb r)).toLoadRect}
    {k : Vec F S1x256x512 .bf16 → Prog (TpuEff nD τ sig (Elt F) Λ₀ .tc) α} :
    valPts c (rbSlot r) X
      ⊢ iprop((valPts c (rbSlot r) X -∗ WP c (k (unsq X)) Q)
          -∗ WP c (.op (.load rbM (Rect.unit (s := S3x256x512) ![r.val, 0, 0] S1x256x512.size (inb_rb r)).toLoadRect hl) k) Q) := by
  unfold valPts
  iintro ⟨%f, %hf, H⟩ Hk
  have h := wp_load (defs := defs₀ (F := F)) 𝒱₀ (c : Thread nD τ) none (Γ := .empty) Set.univ (Q := Q) (m := rbM)
    (r := (Rect.unit (s := S3x256x512) ![r.val, 0, 0] S1x256x512.size (inb_rb r)).toLoadRect) (hl := hl) (k := k) (q := fullShare) (f := f) (rb_sub r)
  rw [rb_load r f, hf] at h
  iapply h $$ H
  iintro H
  iapply Hk
  iexists f
  isplitr
  · ipureintro; exact hf
  iexact H
end Bf

end Cert.KernelIdealRun
-- ==== Proof.KernelIdeal.BodyA.lean ====
/-
# The barrier

Every device sends one unit to every other, then waits for seven: with the units it hands over and receives the
buffers that remote copies write.
-/
module

public import proofs.«01_k».proof.Proof.KernelIdeal.Rules

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

variable (K : Dev nD × Fin 16 → ℕ)

/-- The device's number as the word the program computes. -/
abbrev v2W (c : Dev nD) : BitVec 32 := Scalar.remsi (Scalar.divsi (Dev.word c) 1#32) 8#32

theorem cond1_iff (c : Dev nD) : k0_cond1 c = 1#1 ↔ c ≠ 0 := by revert c; decide
theorem cond2_iff (c : Dev nD) : k0_cond2 c = 1#1 ↔ c ≠ 1 := by revert c; decide
theorem cond3_iff (c : Dev nD) : k0_cond3 c = 1#1 ↔ c ≠ 2 := by revert c; decide
theorem cond4_iff (c : Dev nD) : k0_cond4 c = 1#1 ↔ c ≠ 3 := by revert c; decide
theorem cond5_iff (c : Dev nD) : k0_cond5 c = 1#1 ↔ c ≠ 4 := by revert c; decide
theorem cond6_iff (c : Dev nD) : k0_cond6 c = 1#1 ↔ c ≠ 5 := by revert c; decide
theorem cond7_iff (c : Dev nD) : k0_cond7 c = 1#1 ↔ c ≠ 6 := by revert c; decide
theorem cond8_iff (c : Dev nD) : k0_cond8 c = 1#1 ↔ c ≠ 7 := by revert c; decide

theorem O₀_eq (c : Dev nD) : O₀ c = ((((((((bfO c + kaO c) + sB c 7) + sB c 6) + sB c 5) + sB c 4) + sB c 3) + sB c 2) + sB c 1) + sB c 0 := by
  unfold O₀ barO; simp only [add_assoc]

theorem card_br (c : Dev nD) : (Finset.univ.filter fun d => pays br d c).card = 7 := by revert c; decide

/-- All the barrier units of a device. -/
def barAll (c : Dev nD) : sProp 𝕄 :=
  iprop(barRes (F := F) c 0 ∗ barRes (F := F) c 1 ∗ barRes (F := F) c 2 ∗ barRes (F := F) c 3 ∗ barRes (F := F) c 4 ∗ barRes (F := F) c 5 ∗ barRes (F := F) c 6 ∗ barRes (F := F) c 7)

set_option maxRecDepth 8000 in
theorem part8_spec (c : Dev nD) {Q : (Σ' (d0 : Dev nD) (v2 : BitVec 32), BitVec 1) → sProp 𝕄} :
    iprop(records m ρ K ∗ levAts L lv ∗ ow c (O₀ c) ∗ barAll (F := F) c ∗ cred (tallyAt (cell c br) () 7) ∗ at0 c br)
      ⊢ iprop(((ow c (bfO c + kaO c) ∗ at1 c br ∗ bigSep (Finset.univ.filter fun d => pays br d c) fun d => barPay (F := F) d c)
            -∗ Q ⟨c, v2W c, Scalar.cmpi .eq (v2W c) 0#32⟩)
          -∗ WP c (k0_part8 (F := F) xM (Memref.isWhole_whole _) wqM (Memref.isWhole_whole _) kM (Memref.isWhole_whole _) vM (Memref.isWhole_whole _) woM (Memref.isWhole_whole _) oM (Memref.isWhole_whole _) stM (Memref.isWhole_whole _) kvM (Memref.isWhole_whole _) accM (Memref.isWhole_whole _) sbM (Memref.isWhole_whole _) rbM (Memref.isWhole_whole _) cc0_scratch5 cc0_scratch6 cc0_scratch7 cc0_scratch8 cc0_scratch9) Q) := by
  rw [O₀_eq]
  unfold barAll
  iintro ⟨#HR, #HL, HO, ⟨H0, H1, H2, H3, H4, H5, H6, H7⟩, Hc, Ha⟩ Hk
  rw [k0_part8_eq_skeleton]; unfold k0_part8_skel
  simp only [semSignalWord, semWaitWord, Prog.lift, Prog.bind_op, Prog.bind_ret, Prog.pure_eq_ret, wp_deviceId]
  iapply (wp_csig m ρ K c 0 (cond1_iff c) (fun _ => Fin.ext k0_dev1_eq) rfl (by decide) _) $$ [HO H0]
  · isplitr; · iexact HR
    isplitl [HO]; · iexact HO
    iexact H0
  iintro HO
  iapply (wp_csig m ρ K c 1 (cond2_iff c) (fun _ => Fin.ext k0_dev2_eq) rfl (by decide) _) $$ [HO H1]
  · isplitr; · iexact HR
    isplitl [HO]; · iexact HO
    iexact H1
  iintro HO
  iapply (wp_csig m ρ K c 2 (cond3_iff c) (fun _ => Fin.ext k0_dev3_eq) rfl (by decide) _) $$ [HO H2]
  · isplitr; · iexact HR
    isplitl [HO]; · iexact HO
    iexact H2
  iintro HO
  iapply (wp_csig m ρ K c 3 (cond4_iff c) (fun _ => Fin.ext k0_dev4_eq) rfl (by decide) _) $$ [HO H3]
  · isplitr; · iexact HR
    isplitl [HO]; · iexact HO
    iexact H3
  iintro HO
  iapply (wp_csig m ρ K c 4 (cond5_iff c) (fun _ => Fin.ext k0_dev5_eq) rfl (by decide) _) $$ [HO H4]
  · isplitr; · iexact HR
    isplitl [HO]; · iexact HO
    iexact H4
  iintro HO
  iapply (wp_csig m ρ K c 5 (cond6_iff c) (fun _ => Fin.ext k0_dev6_eq) rfl (by decide) _) $$ [HO H5]
  · isplitr; · iexact HR
    isplitl [HO]; · iexact HO
    iexact H5
  iintro HO
  iapply (wp_csig m ρ K c 6 (cond7_iff c) (fun _ => Fin.ext k0_dev7_eq) rfl (by decide) _) $$ [HO H6]
  · isplitr; · iexact HR
    isplitl [HO]; · iexact HO
    iexact H6
  iintro HO
  iapply (wp_csig m ρ K c 7 (cond8_iff c) (fun _ => Fin.ext k0_dev8_eq) rfl (by decide) _) $$ [HO H7]
  · isplitr; · iexact HR
    isplitl [HO]; · iexact HO
    iexact H7
  iintro HO
  iapply (wp_wreg m ρ K c br 7 (card_br c) rfl rfl (by decide) (bfO c + kaO c)
      (((above_bfO (by decide) c).add (above_kaO c)).mono (by decide))) $$ [HO Hc Ha]
  · isplitr; · iexact HR
    isplitr; · iexact HL
    isplitl [Hc]; · iexact Hc
    isplitl [HO]; · iexact HO
    iexact Ha
  iintro ⟨HO, Ha, Hp⟩
  unfold WP; rw [wp_ret]; imodintro
  iapply Hk
  isplitl [HO]; · iexact HO
  isplitl [Ha]; · iexact Ha
  iexact Hp

end Cert.KernelIdealRun
-- ==== Proof.KernelIdeal.BodyC.lean ====
/-
# The parts of the body after the barrier

Each part's statement: what it uses, what it gives back, and the values it computes. Where a part does something on
device 0 only, or on the others only, it has two statements.
-/
module

public import proofs.«01_k».proof.Proof.KernelIdeal.Ops
public import proofs.«01_k».proof.Proof.KernelIdeal.BodyA

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

variable (K : Dev nD × Fin 16 → ℕ)

theorem pos9 : k0_cond9 (0 : Dev nD) = 1#1 := by decide
theorem neg10 : ¬ k0_cond10 (0 : Dev nD) = 1#1 := by decide
theorem neg9 : ∀ c : Dev nD, c ≠ 0 → ¬ k0_cond9 c = 1#1 := by decide
theorem pos10 : ∀ c : Dev nD, c ≠ 0 → k0_cond10 c = 1#1 := by decide
theorem posW : Scalar.cmpi .ne (Scalar.extui (Scalar.cmpi .eq (v2W 0) 0#32) : BitVec 32) 0#32 = 1#1 := by decide
theorem negW : ∀ c : Dev nD, c ≠ 0 → ¬ Scalar.cmpi .ne (Scalar.extui (Scalar.cmpi .eq (v2W c) 0#32) : BitVec 32) 0#32 = 1#1 := by decide

theorem ak_a : ∀ c : Dev nD, c ≠ 0 → pays ak c 0 = true := by decide
theorem kR_f : ∀ c : Dev nD, c ≠ 0 → (Finset.univ.filter fun d => pays kR d c) = {0} := by decide
theorem kS_f : ∀ p : Fin 7, (Finset.univ.filter fun d => pays (kS p) d 0) = {0} := by decide
theorem kS_l : ∀ p : Fin 7, levK (kS p) = 0 := by decide
theorem kS_c : ∀ p : Fin 7, (stSlot p).view.dmaCredit = amtK (kS p) := by decide
theorem ak_f : (Finset.univ.filter fun d => pays ak d (0 : Dev nD)).card = 7 := by decide
theorem pay_kR (c d : Dev nD) : payK m ρ c kR d = valPts c kvM (kvC m ρ c) := rfl
theorem pay_kS (p : Fin 7) (c d : Dev nD) : payK m ρ c (kS p) d = somePts (F := F) c (stSlot p) := by
  unfold payK; rw [dif_pos (show (kS p).val < 7 from p.isLt)]
theorem pay_ak (c d : Dev nD) : payK m ρ c ak d = iprop(emp) := rfl

/-- Waiting for send `p` to have left. -/
theorem wp_kvw (p : Fin 7) {α : Type} {Q : α → sProp 𝕄} {sem : DmaSem sig} (hs : SemLoc.dma sem = ksem (kS p))
    {s : Shape} {e : EltTy} {src : Memref sig .tc .vmem s e} {hsrc : src.view.WordExact} {hdst : (stSlot p).view.WordExact}
    (O : CellTallies nD τ sig Unit) (hO : Above 0 O) {k : PUnit → Prog (TpuEff nD τ sig (Elt F) Λ₀ .tc) α} :
    iprop(records m ρ K ∗ levAts L lv ∗ crS (F := F) p ∗ ow 0 O ∗ at0 (F := F) 0 (kS p))
      ⊢ iprop(((ow 0 O ∗ at1 (F := F) 0 (kS p) ∗ somePts (F := F) 0 (stSlot p)) -∗ WP 0 (k ⟨⟩) Q)
          -∗ WP 0 (.op (.waitDma2 sem src (stSlot p) hsrc hdst) k) Q) := by
  have h := wp_wdma m ρ K 0 (kS p) 0 (kS_f p) hs (dst := stSlot p) (src := src) (kS_c p) O (by rw [kS_l p]; exact hO) (Q := Q) (kk := k) (hsrc := hsrc) (hdst := hdst)
  rw [pay_kS m ρ p 0 0, show amtK (kS p) = Nkv from kv_c p] at h
  exact h

theorem kvO_add (O : CellTallies nD τ sig Unit) : O + kvO = O + kvT 6 + kvT 5 + kvT 4 + kvT 3 + kvT 2 + kvT 1 + kvT 0 := by
  unfold kvO; simp only [← add_assoc]

set_option maxRecDepth 8000 in
theorem part9_zero (O : CellTallies nD τ sig Unit) {v28 : BitVec 1} {Q : (Σ' (v37 : FVec F S256x256 .bf16) (v65 : IVec S128x128 32) (v66 : IVec S128x128 32) (c64_i32_24 : BitVec 32) (v68 : IVec S128x128 32), BitVec 32) → sProp 𝕄} :
    iprop(records m ρ K ∗ kPts m ρ 0 ∗ vPts m ρ 0 ∗ xPts m ρ 0 ∗ wqPts m ρ 0 ∗ ow 0 (O + kvO) ∗ someAll (F := F) 0 cc0_scratch1 ∗ somePts (F := F) 0 (stSlot 0) ∗ somePts (F := F) 0 (stSlot 1) ∗ somePts (F := F) 0 (stSlot 2) ∗ somePts (F := F) 0 (stSlot 3) ∗ somePts (F := F) 0 (stSlot 4) ∗ somePts (F := F) 0 (stSlot 5) ∗ somePts (F := F) 0 (stSlot 6) ∗ sndRes (F := F) 0 ∗ sndRes (F := F) 1 ∗ sndRes (F := F) 2 ∗ sndRes (F := F) 3 ∗ sndRes (F := F) 4 ∗ sndRes (F := F) 5 ∗ sndRes (F := F) 6)
      ⊢ iprop(((kPts m ρ 0 ∗ vPts m ρ 0 ∗ xPts m ρ 0 ∗ wqPts m ρ 0 ∗ ow 0 (O) ∗ kvPts 0 (kvC m ρ 0) ∗ crS (F := F) 0 ∗ crS (F := F) 1 ∗ crS (F := F) 2 ∗ crS (F := F) 3 ∗ crS (F := F) 4 ∗ crS (F := F) 5 ∗ crS (F := F) 6) -∗ Q ⟨qC m ρ 0, k0_pay20, col, 64#32, k0_pay21, 0#32⟩)
          -∗ WP 0 (k0_part9 (F := F) xM (Memref.isWhole_whole _) wqM (Memref.isWhole_whole _) kM (Memref.isWhole_whole _) vM (Memref.isWhole_whole _) woM (Memref.isWhole_whole _) oM (Memref.isWhole_whole _) stM (Memref.isWhole_whole _) kvM (Memref.isWhole_whole _) accM (Memref.isWhole_whole _) sbM (Memref.isWhole_whole _) rbM (Memref.isWhole_whole _) cc0_scratch5 cc0_scratch6 cc0_scratch7 cc0_scratch8 cc0_scratch9 (0 : Dev nD) (v2W 0) v28) Q) := by
  iintro ⟨#HR, HK, HV, HX, HW, HO, Hkv, Hs0, Hs1, Hs2, Hs3, Hs4, Hs5, Hs6, Hr0, Hr1, Hr2, Hr3, Hr4, Hr5, Hr6⟩ Hk
  rw [k0_part9_eq_skeleton]; unfold k0_part9_skel
  simp only [semSignalWord, semWaitWord, Prog.lift, Prog.bind_op, Prog.bind_ret, Prog.pure_eq_ret, wp_deviceId]
  rw [dif_pos pos9]
  simp only [wp_bind]
  rw [kvO_add]
  iapply (part1_spec m ρ K pos9 _) $$ [HK HV HO Hs0 Hr0]
  · isplitr; · iexact HR
    isplitl [HK]; · iexact HK
    isplitl [HV]; · iexact HV
    isplitl [HO]; · iexact HO
    isplitl [Hs0]; · iexact Hs0
    iexact Hr0
  iintro ⟨HK, HV, HO, Hc0⟩
  try beta_reduce
  iapply (part2_spec m ρ K pos9 _) $$ [HK HV HO Hs1 Hr1 Hs2]
  · isplitr; · iexact HR
    isplitl [HK]; · iexact HK
    isplitl [HV]; · iexact HV
    isplitl [HO]; · iexact HO
    isplitl [Hs1]; · iexact Hs1
    isplitl [Hr1]; · iexact Hr1
    iexact Hs2
  iintro ⟨HK, HV, HO, Hc1, Hs2⟩
  try beta_reduce
  iapply (part3_spec m ρ K pos9 _) $$ [HK HV HO Hs2 Hr2 Hs3]
  · isplitr; · iexact HR
    isplitl [HK]; · iexact HK
    isplitl [HV]; · iexact HV
    isplitl [HO]; · iexact HO
    isplitl [Hs2]; · iexact Hs2
    isplitl [Hr2]; · iexact Hr2
    iexact Hs3
  iintro ⟨HK, HV, HO, Hc2, Hs3⟩
  try beta_reduce
  iapply (part4_spec m ρ K pos9 _) $$ [HK HV HO Hs3 Hr3 Hs4]
  · isplitr; · iexact HR
    isplitl [HK]; · iexact HK
    isplitl [HV]; · iexact HV
    isplitl [HO]; · iexact HO
    isplitl [Hs3]; · iexact Hs3
    isplitl [Hr3]; · iexact Hr3
    iexact Hs4
  iintro ⟨HK, HV, HO, Hc3, Hs4⟩
  try beta_reduce
  iapply (part5_spec m ρ K pos9 _) $$ [HK HV HO Hs4 Hr4 Hs5]
  · isplitr; · iexact HR
    isplitl [HK]; · iexact HK
    isplitl [HV]; · iexact HV
    isplitl [HO]; · iexact HO
    isplitl [Hs4]; · iexact Hs4
    isplitl [Hr4]; · iexact Hr4
    iexact Hs5
  iintro ⟨HK, HV, HO, Hc4, Hs5⟩
  try beta_reduce
  iapply (part6_spec m ρ K pos9 _) $$ [HK HV HO Hs5 Hr5 Hs6 Hr6]
  · isplitr; · iexact HR
    isplitl [HK]; · iexact HK
    isplitl [HV]; · iexact HV
    isplitl [HO]; · iexact HO
    isplitl [Hs5]; · iexact Hs5
    isplitl [Hr5]; · iexact Hr5
    isplitl [Hs6]; · iexact Hs6
    iexact Hr6
  iintro ⟨HK, HV, HO, Hc5, Hc6⟩
  try beta_reduce
  iapply (wp_load 𝒱₀ ((0 : Dev nD) : Thread nD τ) none Set.univ (m := kM) (Finset.subset_univ _)) $$ HK; iintro HK
  iapply (wp_ldD_kv 0) $$ Hkv; iintro %vk Hkv
  iapply (wp_kvK 0 (headsK (X2 m ρ 0) 0)) $$ Hkv; iintro Hkv
  iapply (wp_load 𝒱₀ ((0 : Dev nD) : Thread nD τ) none Set.univ (m := vM) (Finset.subset_univ _)) $$ HV; iintro HV
  iapply (wp_kvD 0 (headsK (X2 m ρ 0) 0)) $$ Hkv; iintro %vv Hkv
  iapply (wp_kvV 0 (headsK (X2 m ρ 0) 0) (headsV (X3 m ρ 0) 0)) $$ Hkv; iintro Hkv
  iapply (wp_ldW 0 z3) $$ HX; iintro HX
  iapply (wp_ldW 0 z2) $$ HW; iintro HW
  rw [dif_neg neg10]
  try unfold WP
  rw [wp_ret]; imodintro
  iapply (give_in Q _)
  iapply (give_out Q ⟨qC m ρ 0, k0_pay20, col, 64#32, k0_pay21, 0#32⟩)
  iapply Hk
  isplitl [HK]; · iexact HK
  isplitl [HV]; · iexact HV
  isplitl [HX]; · iexact HX
  isplitl [HW]; · iexact HW
  isplitl [HO]; · iexact HO
  isplitl [Hkv]; · iexact Hkv
  isplitl [Hc0]; · iexact Hc0
  isplitl [Hc1]; · iexact Hc1
  isplitl [Hc2]; · iexact Hc2
  isplitl [Hc3]; · iexact Hc3
  isplitl [Hc4]; · iexact Hc4
  isplitl [Hc5]; · iexact Hc5
  iexact Hc6

set_option maxRecDepth 8000 in
theorem part9_pos (c : Dev nD) (hc : c ≠ 0) (O : CellTallies nD τ sig Unit) (hO : Above 2 (O + tallyAt (cell 0 ak) () 1)) {v28 : BitVec 1} {Q : (Σ' (v37 : FVec F S256x256 .bf16) (v65 : IVec S128x128 32) (v66 : IVec S128x128 32) (c64_i32_24 : BitVec 32) (v68 : IVec S128x128 32), BitVec 32) → sProp 𝕄} :
    iprop(records m ρ K ∗ levAts L lv ∗ xPts m ρ c ∗ wqPts m ρ c ∗ ow c (O + tallyAt (cell 0 ak) () 1) ∗ cred (tallyAt (cell c kR) () Nkv) ∗ at0 (F := F) c kR ∗ tok (F := F) 0 ak c)
      ⊢ iprop(((xPts m ρ c ∗ wqPts m ρ c ∗ ow c (O) ∗ kvPts c (kvC m ρ c) ∗ at1 (F := F) c kR) -∗ Q ⟨qC m ρ c, k0_pay20, col, 64#32, k0_pay21, 0#32⟩)
          -∗ WP c (k0_part9 (F := F) xM (Memref.isWhole_whole _) wqM (Memref.isWhole_whole _) kM (Memref.isWhole_whole _) vM (Memref.isWhole_whole _) woM (Memref.isWhole_whole _) oM (Memref.isWhole_whole _) stM (Memref.isWhole_whole _) kvM (Memref.isWhole_whole _) accM (Memref.isWhole_whole _) sbM (Memref.isWhole_whole _) rbM (Memref.isWhole_whole _) cc0_scratch5 cc0_scratch6 cc0_scratch7 cc0_scratch8 cc0_scratch9 c (v2W c) v28) Q) := by
  iintro ⟨#HR, #HL, HX, HW, HO, Hcr, Hat, Htk⟩ Hk
  rw [k0_part9_eq_skeleton]; unfold k0_part9_skel
  simp only [semSignalWord, semWaitWord, Prog.lift, Prog.bind_op, Prog.bind_ret, Prog.pure_eq_ret, wp_deviceId]
  rw [dif_neg (neg9 c hc)]
  iapply (wp_ldW c z3) $$ HX; iintro HX
  iapply (wp_ldW c z2) $$ HW; iintro HW
  rw [dif_pos (pos10 c hc)]
  iapply (wp_wdma m ρ K c kR 0 (kR_f c hc) rfl rfl _ hO) $$ [Hcr HO Hat]
  · isplitr; · iexact HR
    isplitr; · iexact HL
    isplitl [Hcr]; · iexact Hcr
    isplitl [HO]; · iexact HO
    iexact Hat
  iintro ⟨HO, Hat, Hkv⟩
  ihave Hemp := (show (iprop(emp) : sProp 𝕄) ⊢ payK m ρ 0 ak c from Entails.of_eq rfl) $$ []
  · iempintro
  iapply (wp_sig m ρ K c 0 ak (ak_a c hc) rfl (Fin.ext k0_dev16_eq) rfl rfl O) $$ [HO Htk Hemp]
  · isplitr; · iexact HR
    isplitl [HO]; · iexact HO
    isplitl [Htk]; · iexact Htk
    iexact Hemp
  iintro HO
  ihave Hkv := (show payK m ρ c kR 0 ⊢ kvPts c (kvC m ρ c) from kv_val c (kvC m ρ c)) $$ Hkv
  try unfold WP
  rw [wp_ret]; imodintro
  iapply (give_in Q _)
  iapply (give_out Q ⟨qC m ρ c, k0_pay20, col, 64#32, k0_pay21, 0#32⟩)
  iapply Hk
  isplitl [HX]; · iexact HX
  isplitl [HW]; · iexact HW
  isplitl [HO]; · iexact HO
  isplitl [Hkv]; · iexact Hkv
  iexact Hat

section Att
variable (c : Dev nD) (q : FVec F S256x256 .bf16) (w : FVec F S256x512 .f32) (kv : (cc0_scratch1 : Ref sig .tc).ty.Contents (Elt F))

set_option maxRecDepth 8000 in
theorem part10_spec  {Q : (Σ' (v91 : IVec S128x128 1) (v93 : FVec F S256x512 .f32) (v94 : FVec F S128x512 .f32) (v99 : FVec F S128x64 .bf16) (v104 : FVec F S128x128 .f32), FVec F S128x1 .f32) → sProp 𝕄} :
    iprop(woPts m ρ c ∗ kvPts c kv)
      ⊢ iprop(((woPts m ρ c ∗ kvPts c kv) -∗ Q ⟨mk, wC m ρ c, k0_pay24 (F := F), (k0_pay25 (kvAt kv ![1,0,0,0,0] inb_S2x2x128x4x64_S1x1x128x1x64_1_0_0_0_0)), (k0_pay26 q k0_pay20 col 64#32 k0_pay21 0#32 (kvAt kv ![0,0,0,0,0] inb_S2x2x128x4x64_S1x1x128x1x64_0_0_0_0_0)), (k0_pay27 q k0_pay20 col 64#32 k0_pay21 0#32 (kvAt kv ![0,0,0,0,0] inb_S2x2x128x4x64_S1x1x128x1x64_0_0_0_0_0))⟩)
          -∗ WP c (k0_part10 (F := F) xM (Memref.isWhole_whole _) wqM (Memref.isWhole_whole _) kM (Memref.isWhole_whole _) vM (Memref.isWhole_whole _) woM (Memref.isWhole_whole _) oM (Memref.isWhole_whole _) stM (Memref.isWhole_whole _) kvM (Memref.isWhole_whole _) accM (Memref.isWhole_whole _) sbM (Memref.isWhole_whole _) rbM (Memref.isWhole_whole _) cc0_scratch5 cc0_scratch6 cc0_scratch7 cc0_scratch8 cc0_scratch9 q k0_pay20 col 64#32 k0_pay21 0#32) Q) := by
  iintro ⟨HWo, Hkv⟩ Hk
  rw [k0_part10_eq_skeleton]; unfold k0_part10_skel
  simp only [semSignalWord, semWaitWord, Prog.lift, Prog.bind_op, Prog.bind_ret, Prog.pure_eq_ret, wp_deviceId]
  iapply (wp_ldW c z2) $$ HWo; iintro HWo
  iapply (wp_load 𝒱₀ (c : Thread nD τ) none Set.univ (m := kvM) (Finset.subset_univ _)) $$ Hkv; iintro Hkv
  iapply (wp_load 𝒱₀ (c : Thread nD τ) none Set.univ (m := kvM) (Finset.subset_univ _)) $$ Hkv; iintro Hkv
  try unfold WP
  rw [wp_ret]; imodintro
  iapply (give_in Q _)
  iapply (give_out Q ⟨mk, wC m ρ c, k0_pay24 (F := F), (k0_pay25 (kvAt kv ![1,0,0,0,0] inb_S2x2x128x4x64_S1x1x128x1x64_1_0_0_0_0)), (k0_pay26 q k0_pay20 col 64#32 k0_pay21 0#32 (kvAt kv ![0,0,0,0,0] inb_S2x2x128x4x64_S1x1x128x1x64_0_0_0_0_0)), (k0_pay27 q k0_pay20 col 64#32 k0_pay21 0#32 (kvAt kv ![0,0,0,0,0] inb_S2x2x128x4x64_S1x1x128x1x64_0_0_0_0_0))⟩)
  iapply Hk
  isplitl [HWo]; · iexact HWo
  iexact Hkv

set_option maxRecDepth 8000 in
theorem part11_spec  {Q : (Σ' (v142 : FVec F S128x512 .f32), FVec F S128x64 .bf16) → sProp 𝕄} :
    iprop(kvPts c kv)
      ⊢ iprop(((kvPts c kv) -∗ Q ⟨t1 q w kv, k0_pay29 q⟩)
          -∗ WP c (k0_part11 (F := F) xM (Memref.isWhole_whole _) wqM (Memref.isWhole_whole _) kM (Memref.isWhole_whole _) vM (Memref.isWhole_whole _) woM (Memref.isWhole_whole _) oM (Memref.isWhole_whole _) stM (Memref.isWhole_whole _) kvM (Memref.isWhole_whole _) accM (Memref.isWhole_whole _) sbM (Memref.isWhole_whole _) rbM (Memref.isWhole_whole _) cc0_scratch5 cc0_scratch6 cc0_scratch7 cc0_scratch8 cc0_scratch9 q mk w (k0_pay24 (F := F)) (k0_pay25 (kvAt kv ![1,0,0,0,0] inb_S2x2x128x4x64_S1x1x128x1x64_1_0_0_0_0)) (k0_pay26 q k0_pay20 col 64#32 k0_pay21 0#32 (kvAt kv ![0,0,0,0,0] inb_S2x2x128x4x64_S1x1x128x1x64_0_0_0_0_0)) (k0_pay27 q k0_pay20 col 64#32 k0_pay21 0#32 (kvAt kv ![0,0,0,0,0] inb_S2x2x128x4x64_S1x1x128x1x64_0_0_0_0_0))) Q) := by
  iintro Hkv Hk
  rw [k0_part11_eq_skeleton]; unfold k0_part11_skel
  simp only [semSignalWord, semWaitWord, Prog.lift, Prog.bind_op, Prog.bind_ret, Prog.pure_eq_ret, wp_deviceId]
  iapply (wp_load 𝒱₀ (c : Thread nD τ) none Set.univ (m := kvM) (Finset.subset_univ _)) $$ Hkv; iintro Hkv
  iapply (wp_load 𝒱₀ (c : Thread nD τ) none Set.univ (m := kvM) (Finset.subset_univ _)) $$ Hkv; iintro Hkv
  try unfold WP
  rw [wp_ret]; imodintro
  iapply (give_in Q _)
  iapply (give_out Q ⟨t1 q w kv, k0_pay29 q⟩)
  iapply Hk
  iexact Hkv

set_option maxRecDepth 8000 in
theorem part12_spec  {Q : (Σ' (v166 : FVec F S128x512 .f32) (v171 : FVec F S128x64 .bf16), FVec F S128x128 .f32) → sProp 𝕄} :
    iprop(kvPts c kv)
      ⊢ iprop(((kvPts c kv) -∗ Q ⟨t2 q w kv, k0_pay31 (kvAt kv ![1,0,0,3,0] inb_S2x2x128x4x64_S1x1x128x1x64_1_0_0_3_0), k0_pay32 q mk (kvAt kv ![0,0,0,3,0] inb_S2x2x128x4x64_S1x1x128x1x64_0_0_0_3_0)⟩)
          -∗ WP c (k0_part12 (F := F) xM (Memref.isWhole_whole _) wqM (Memref.isWhole_whole _) kM (Memref.isWhole_whole _) vM (Memref.isWhole_whole _) woM (Memref.isWhole_whole _) oM (Memref.isWhole_whole _) stM (Memref.isWhole_whole _) kvM (Memref.isWhole_whole _) accM (Memref.isWhole_whole _) sbM (Memref.isWhole_whole _) rbM (Memref.isWhole_whole _) cc0_scratch5 cc0_scratch6 cc0_scratch7 cc0_scratch8 cc0_scratch9 q mk w (t1 q w kv) (k0_pay29 q)) Q) := by
  iintro Hkv Hk
  rw [k0_part12_eq_skeleton]; unfold k0_part12_skel
  simp only [semSignalWord, semWaitWord, Prog.lift, Prog.bind_op, Prog.bind_ret, Prog.pure_eq_ret, wp_deviceId]
  iapply (wp_load 𝒱₀ (c : Thread nD τ) none Set.univ (m := kvM) (Finset.subset_univ _)) $$ Hkv; iintro Hkv
  iapply (wp_load 𝒱₀ (c : Thread nD τ) none Set.univ (m := kvM) (Finset.subset_univ _)) $$ Hkv; iintro Hkv
  iapply (wp_load 𝒱₀ (c : Thread nD τ) none Set.univ (m := kvM) (Finset.subset_univ _)) $$ Hkv; iintro Hkv
  iapply (wp_load 𝒱₀ (c : Thread nD τ) none Set.univ (m := kvM) (Finset.subset_univ _)) $$ Hkv; iintro Hkv
  try unfold WP
  rw [wp_ret]; imodintro
  iapply (give_in Q _)
  iapply (give_out Q ⟨t2 q w kv, k0_pay31 (kvAt kv ![1,0,0,3,0] inb_S2x2x128x4x64_S1x1x128x1x64_1_0_0_3_0), k0_pay32 q mk (kvAt kv ![0,0,0,3,0] inb_S2x2x128x4x64_S1x1x128x1x64_0_0_0_3_0)⟩)
  iapply Hk
  iexact Hkv

set_option maxRecDepth 8000 in
theorem part13_spec  {Q : (Σ' (v194 : FVec F S128x512 .f32) (v199 : FVec F S128x64 .bf16), FVec F S128x128 .f32) → sProp 𝕄} :
    iprop(kvPts c kv ∗ someAll (F := F) c cc0_scratch2)
      ⊢ iprop(((kvPts c kv ∗ accHalf c (top q w kv)) -∗ Q ⟨k0_pay34 (F := F), k0_pay35 (kvAt kv ![1,1,0,0,0] inb_S2x2x128x4x64_S1x1x128x1x64_1_1_0_0_0), k0_pay36 q mk (kvAt kv ![0,1,0,0,0] inb_S2x2x128x4x64_S1x1x128x1x64_0_1_0_0_0)⟩)
          -∗ WP c (k0_part13 (F := F) xM (Memref.isWhole_whole _) wqM (Memref.isWhole_whole _) kM (Memref.isWhole_whole _) vM (Memref.isWhole_whole _) woM (Memref.isWhole_whole _) oM (Memref.isWhole_whole _) stM (Memref.isWhole_whole _) kvM (Memref.isWhole_whole _) accM (Memref.isWhole_whole _) sbM (Memref.isWhole_whole _) rbM (Memref.isWhole_whole _) cc0_scratch5 cc0_scratch6 cc0_scratch7 cc0_scratch8 cc0_scratch9 q mk w (t2 q w kv) (k0_pay31 (kvAt kv ![1,0,0,3,0] inb_S2x2x128x4x64_S1x1x128x1x64_1_0_0_3_0)) (k0_pay32 q mk (kvAt kv ![0,0,0,3,0] inb_S2x2x128x4x64_S1x1x128x1x64_0_0_0_3_0))) Q) := by
  iintro ⟨Hkv, Hacc⟩ Hk
  rw [k0_part13_eq_skeleton]; unfold k0_part13_skel
  simp only [semSignalWord, semWaitWord, Prog.lift, Prog.bind_op, Prog.bind_ret, Prog.pure_eq_ret, wp_deviceId]
  iapply (wp_ldD_acc c) $$ Hacc; iintro %va Hacc
  iapply (wp_accT c (a := top q w kv)) $$ Hacc; iintro Hacc
  iapply (wp_load 𝒱₀ (c : Thread nD τ) none Set.univ (m := kvM) (Finset.subset_univ _)) $$ Hkv; iintro Hkv
  iapply (wp_load 𝒱₀ (c : Thread nD τ) none Set.univ (m := kvM) (Finset.subset_univ _)) $$ Hkv; iintro Hkv
  try unfold WP
  rw [wp_ret]; imodintro
  iapply (give_in Q _)
  iapply (give_out Q ⟨k0_pay34 (F := F), k0_pay35 (kvAt kv ![1,1,0,0,0] inb_S2x2x128x4x64_S1x1x128x1x64_1_1_0_0_0), k0_pay36 q mk (kvAt kv ![0,1,0,0,0] inb_S2x2x128x4x64_S1x1x128x1x64_0_1_0_0_0)⟩)
  iapply Hk
  isplitl [Hkv]; · iexact Hkv
  iexact Hacc

set_option maxRecDepth 8000 in
theorem part14_spec  {Q : (Σ' (v242 : FVec F S128x512 .f32) (v243 : FVec F S128x64 .bf16), FVec F S128x64 .bf16) → sProp 𝕄} :
    iprop(kvPts c kv)
      ⊢ iprop(((kvPts c kv) -∗ Q ⟨b1 q w kv, k0_pay38 q, k0_pay39 (kvAt kv ![0,1,0,2,0] inb_S2x2x128x4x64_S1x1x128x1x64_0_1_0_2_0)⟩)
          -∗ WP c (k0_part14 (F := F) xM (Memref.isWhole_whole _) wqM (Memref.isWhole_whole _) kM (Memref.isWhole_whole _) vM (Memref.isWhole_whole _) woM (Memref.isWhole_whole _) oM (Memref.isWhole_whole _) stM (Memref.isWhole_whole _) kvM (Memref.isWhole_whole _) accM (Memref.isWhole_whole _) sbM (Memref.isWhole_whole _) rbM (Memref.isWhole_whole _) cc0_scratch5 cc0_scratch6 cc0_scratch7 cc0_scratch8 cc0_scratch9 q mk w (k0_pay34 (F := F)) (k0_pay35 (kvAt kv ![1,1,0,0,0] inb_S2x2x128x4x64_S1x1x128x1x64_1_1_0_0_0)) (k0_pay36 q mk (kvAt kv ![0,1,0,0,0] inb_S2x2x128x4x64_S1x1x128x1x64_0_1_0_0_0))) Q) := by
  iintro Hkv Hk
  rw [k0_part14_eq_skeleton]; unfold k0_part14_skel
  simp only [semSignalWord, semWaitWord, Prog.lift, Prog.bind_op, Prog.bind_ret, Prog.pure_eq_ret, wp_deviceId]
  iapply (wp_load 𝒱₀ (c : Thread nD τ) none Set.univ (m := kvM) (Finset.subset_univ _)) $$ Hkv; iintro Hkv
  iapply (wp_load 𝒱₀ (c : Thread nD τ) none Set.univ (m := kvM) (Finset.subset_univ _)) $$ Hkv; iintro Hkv
  iapply (wp_load 𝒱₀ (c : Thread nD τ) none Set.univ (m := kvM) (Finset.subset_univ _)) $$ Hkv; iintro Hkv
  try unfold WP
  rw [wp_ret]; imodintro
  iapply (give_in Q _)
  iapply (give_out Q ⟨b1 q w kv, k0_pay38 q, k0_pay39 (kvAt kv ![0,1,0,2,0] inb_S2x2x128x4x64_S1x1x128x1x64_0_1_0_2_0)⟩)
  iapply Hk
  iexact Hkv

set_option maxRecDepth 8000 in
theorem part15_spec  {Q : (Σ' (v266 : FVec F S128x512 .f32) (v271 : FVec F S128x64 .bf16) (v281 : FVec F S128x128 .f32), FVec F S128 .f32) → sProp 𝕄} :
    iprop(kvPts c kv)
      ⊢ iprop(((kvPts c kv) -∗ Q ⟨b2 q w kv, k0_pay41 (kvAt kv ![1,1,0,3,0] inb_S2x2x128x4x64_S1x1x128x1x64_1_1_0_3_0), k0_pay42 q mk (kvAt kv ![0,1,0,3,0] inb_S2x2x128x4x64_S1x1x128x1x64_0_1_0_3_0), k0_pay43 q mk (kvAt kv ![0,1,0,3,0] inb_S2x2x128x4x64_S1x1x128x1x64_0_1_0_3_0)⟩)
          -∗ WP c (k0_part15 (F := F) xM (Memref.isWhole_whole _) wqM (Memref.isWhole_whole _) kM (Memref.isWhole_whole _) vM (Memref.isWhole_whole _) woM (Memref.isWhole_whole _) oM (Memref.isWhole_whole _) stM (Memref.isWhole_whole _) kvM (Memref.isWhole_whole _) accM (Memref.isWhole_whole _) sbM (Memref.isWhole_whole _) rbM (Memref.isWhole_whole _) cc0_scratch5 cc0_scratch6 cc0_scratch7 cc0_scratch8 cc0_scratch9 q mk w (b1 q w kv) (k0_pay38 q) (k0_pay39 (kvAt kv ![0,1,0,2,0] inb_S2x2x128x4x64_S1x1x128x1x64_0_1_0_2_0))) Q) := by
  iintro Hkv Hk
  rw [k0_part15_eq_skeleton]; unfold k0_part15_skel
  simp only [semSignalWord, semWaitWord, Prog.lift, Prog.bind_op, Prog.bind_ret, Prog.pure_eq_ret, wp_deviceId]
  iapply (wp_load 𝒱₀ (c : Thread nD τ) none Set.univ (m := kvM) (Finset.subset_univ _)) $$ Hkv; iintro Hkv
  iapply (wp_load 𝒱₀ (c : Thread nD τ) none Set.univ (m := kvM) (Finset.subset_univ _)) $$ Hkv; iintro Hkv
  iapply (wp_load 𝒱₀ (c : Thread nD τ) none Set.univ (m := kvM) (Finset.subset_univ _)) $$ Hkv; iintro Hkv
  try unfold WP
  rw [wp_ret]; imodintro
  iapply (give_in Q _)
  iapply (give_out Q ⟨b2 q w kv, k0_pay41 (kvAt kv ![1,1,0,3,0] inb_S2x2x128x4x64_S1x1x128x1x64_1_1_0_3_0), k0_pay42 q mk (kvAt kv ![0,1,0,3,0] inb_S2x2x128x4x64_S1x1x128x1x64_0_1_0_3_0), k0_pay43 q mk (kvAt kv ![0,1,0,3,0] inb_S2x2x128x4x64_S1x1x128x1x64_0_1_0_3_0)⟩)
  iapply Hk
  iexact Hkv

end Att

set_option maxRecDepth 8000 in
theorem part7_spec (O : CellTallies nD τ sig Unit) (hO : Above 0 O) {Q : PUnit → sProp 𝕄} :
    iprop(records m ρ K ∗ levAts L lv ∗ ow 0 (O) ∗ crS (F := F) 0 ∗ crS (F := F) 1 ∗ crS (F := F) 2 ∗ crS (F := F) 3 ∗ at0 (F := F) 0 (kS 0) ∗ at0 (F := F) 0 (kS 1) ∗ at0 (F := F) 0 (kS 2) ∗ at0 (F := F) 0 (kS 3))
      ⊢ iprop(((ow 0 (O) ∗ at1 (F := F) 0 (kS 0) ∗ at1 (F := F) 0 (kS 1) ∗ at1 (F := F) 0 (kS 2) ∗ at1 (F := F) 0 (kS 3) ∗ somePts (F := F) 0 (stSlot 0) ∗ somePts (F := F) 0 (stSlot 1) ∗ somePts (F := F) 0 (stSlot 2) ∗ somePts (F := F) 0 (stSlot 3)) -∗ Q ⟨⟩)
          -∗ WP 0 (k0_part7 (F := F) xM (Memref.isWhole_whole _) wqM (Memref.isWhole_whole _) kM (Memref.isWhole_whole _) vM (Memref.isWhole_whole _) woM (Memref.isWhole_whole _) oM (Memref.isWhole_whole _) stM (Memref.isWhole_whole _) kvM (Memref.isWhole_whole _) accM (Memref.isWhole_whole _) sbM (Memref.isWhole_whole _) rbM (Memref.isWhole_whole _) cc0_scratch5 cc0_scratch6 cc0_scratch7 cc0_scratch8 cc0_scratch9 ) Q) := by
  iintro ⟨#HR, #HL, HO, Hc0, Hc1, Hc2, Hc3, Ha0, Ha1, Ha2, Ha3⟩ Hk
  rw [k0_part7_eq_skeleton]; unfold k0_part7_skel
  simp only [semSignalWord, semWaitWord, Prog.lift, Prog.bind_op, Prog.bind_ret, Prog.pure_eq_ret, wp_deviceId]
  iapply (wp_kvw m ρ K 0 rfl O hO) $$ [Hc0 HO Ha0]
  · isplitr; · iexact HR
    isplitr; · iexact HL
    isplitl [Hc0]; · iexact Hc0
    isplitl [HO]; · iexact HO
    iexact Ha0
  iintro ⟨HO, Ha0, Hs0⟩
  iapply (wp_kvw m ρ K 1 rfl O hO) $$ [Hc1 HO Ha1]
  · isplitr; · iexact HR
    isplitr; · iexact HL
    isplitl [Hc1]; · iexact Hc1
    isplitl [HO]; · iexact HO
    iexact Ha1
  iintro ⟨HO, Ha1, Hs1⟩
  iapply (wp_kvw m ρ K 2 rfl O hO) $$ [Hc2 HO Ha2]
  · isplitr; · iexact HR
    isplitr; · iexact HL
    isplitl [Hc2]; · iexact Hc2
    isplitl [HO]; · iexact HO
    iexact Ha2
  iintro ⟨HO, Ha2, Hs2⟩
  iapply (wp_kvw m ρ K 3 rfl O hO) $$ [Hc3 HO Ha3]
  · isplitr; · iexact HR
    isplitr; · iexact HL
    isplitl [Hc3]; · iexact Hc3
    isplitl [HO]; · iexact HO
    iexact Ha3
  iintro ⟨HO, Ha3, Hs3⟩
  try unfold WP
  rw [wp_ret]; imodintro
  iapply Hk
  isplitl [HO]; · iexact HO
  isplitl [Ha0]; · iexact Ha0
  isplitl [Ha1]; · iexact Ha1
  isplitl [Ha2]; · iexact Ha2
  isplitl [Ha3]; · iexact Ha3
  isplitl [Hs0]; · iexact Hs0
  isplitl [Hs1]; · iexact Hs1
  isplitl [Hs2]; · iexact Hs2
  iexact Hs3

theorem dev17 : ∀ c : Dev nD, (⟨k0_dev17 c, k0_dev17_lt c⟩ : Dev nD) = pt 0 c := by decide
theorem dev18 : ∀ c : Dev nD, (⟨k0_dev18 c, k0_dev18_lt c⟩ : Dev nD) = pt 1 c := by decide
theorem dev19 : ∀ c : Dev nD, (⟨k0_dev19 c, k0_dev19_lt c⟩ : Dev nD) = pt 2 c := by decide
theorem above_t (r : Fin 3) (c : Dev nD) {n : ℕ} (h : n < 3 + r.val) : Above n (bfT c r) := above_bfT c r (by rw [bf_l']; exact h)

set_option maxRecDepth 8000 in
theorem part16_zero  {Q : BitVec 32 → sProp 𝕄} :
    iprop(records m ρ K ∗ levAts L lv ∗ ow 0 (bfO 0) ∗ accHalf 0 (top (qC m ρ 0) (wC m ρ 0) (kvC m ρ 0)) ∗ someAll (F := F) 0 cc0_scratch3 ∗ bfRes (F := F) 0 0 ∗ crS (F := F) 0 ∗ crS (F := F) 1 ∗ crS (F := F) 2 ∗ crS (F := F) 3 ∗ crS (F := F) 4 ∗ crS (F := F) 5 ∗ crS (F := F) 6 ∗ at0 (F := F) 0 (kS 0) ∗ at0 (F := F) 0 (kS 1) ∗ at0 (F := F) 0 (kS 2) ∗ at0 (F := F) 0 (kS 3) ∗ at0 (F := F) 0 (kS 4) ∗ at0 (F := F) 0 (kS 5) ∗ at0 (F := F) 0 (kS 6))
      ⊢ iprop(((ow 0 (bfT 0 2 + bfT 0 1) ∗ accPts 0 (acc0 m ρ 0) ∗ bfM (F := F) 0 0 ∗ at1 (F := F) 0 (kS 0) ∗ at1 (F := F) 0 (kS 1) ∗ at1 (F := F) 0 (kS 2) ∗ at1 (F := F) 0 (kS 3) ∗ at1 (F := F) 0 (kS 4) ∗ at1 (F := F) 0 (kS 5) ∗ at1 (F := F) 0 (kS 6) ∗ somePts (F := F) 0 (stSlot 0) ∗ somePts (F := F) 0 (stSlot 1) ∗ somePts (F := F) 0 (stSlot 2) ∗ somePts (F := F) 0 (stSlot 3) ∗ somePts (F := F) 0 (stSlot 4) ∗ somePts (F := F) 0 (stSlot 5) ∗ somePts (F := F) 0 (stSlot 6)) -∗ Q (Scalar.xori (v2W 0) 1#32))
          -∗ WP 0 (k0_part16 (F := F) xM (Memref.isWhole_whole _) wqM (Memref.isWhole_whole _) kM (Memref.isWhole_whole _) vM (Memref.isWhole_whole _) woM (Memref.isWhole_whole _) oM (Memref.isWhole_whole _) stM (Memref.isWhole_whole _) kvM (Memref.isWhole_whole _) accM (Memref.isWhole_whole _) sbM (Memref.isWhole_whole _) rbM (Memref.isWhole_whole _) cc0_scratch5 cc0_scratch6 cc0_scratch7 cc0_scratch8 cc0_scratch9 (0 : Dev nD) (v2W 0) (wC m ρ 0) (b2 (qC m ρ 0) (wC m ρ 0) (kvC m ρ 0)) (k0_pay41 (kvAt (kvC m ρ 0) ![1,1,0,3,0] inb_S2x2x128x4x64_S1x1x128x1x64_1_1_0_3_0)) (k0_pay42 (qC m ρ 0) mk (kvAt (kvC m ρ 0) ![0,1,0,3,0] inb_S2x2x128x4x64_S1x1x128x1x64_0_1_0_3_0)) (k0_pay43 (qC m ρ 0) mk (kvAt (kvC m ρ 0) ![0,1,0,3,0] inb_S2x2x128x4x64_S1x1x128x1x64_0_1_0_3_0))) Q) := by
  iintro ⟨#HR, #HL, HO, Hacc, Hsb, Hb0, Hc0, Hc1, Hc2, Hc3, Hc4, Hc5, Hc6, Ha0, Ha1, Ha2, Ha3, Ha4, Ha5, Ha6⟩ Hk
  rw [k0_part16_eq_skeleton]; unfold k0_part16_skel
  simp only [semSignalWord, semWaitWord, Prog.lift, Prog.bind_op, Prog.bind_ret, Prog.pure_eq_ret, wp_deviceId]
  iapply (wp_accD 0) $$ Hacc; iintro %va Hacc
  iapply (wp_accB 0 (b := bot (qC m ρ 0) (wC m ρ 0) (kvC m ρ 0))) $$ Hacc; iintro Hacc
  rw [dif_pos posW]
  simp only [wp_bind]
  iapply (part7_spec m ρ K _ (above_bfO (by decide) 0)) $$ [HO Hc0 Hc1 Hc2 Hc3 Ha0 Ha1 Ha2 Ha3]
  · isplitr; · iexact HR
    isplitr; · iexact HL
    isplitl [HO]; · iexact HO
    isplitl [Hc0]; · iexact Hc0
    isplitl [Hc1]; · iexact Hc1
    isplitl [Hc2]; · iexact Hc2
    isplitl [Hc3]; · iexact Hc3
    isplitl [Ha0]; · iexact Ha0
    isplitl [Ha1]; · iexact Ha1
    isplitl [Ha2]; · iexact Ha2
    iexact Ha3
  iintro ⟨HO, Ha0, Ha1, Ha2, Ha3, Hs0, Hs1, Hs2, Hs3⟩
  try beta_reduce
  iapply (wp_kvw m ρ K 4 rfl _ (above_bfO (by decide) 0)) $$ [Hc4 HO Ha4]
  · isplitr; · iexact HR
    isplitr; · iexact HL
    isplitl [Hc4]; · iexact Hc4
    isplitl [HO]; · iexact HO
    iexact Ha4
  iintro ⟨HO, Ha4, Hs4⟩
  iapply (wp_kvw m ρ K 5 rfl _ (above_bfO (by decide) 0)) $$ [Hc5 HO Ha5]
  · isplitr; · iexact HR
    isplitr; · iexact HL
    isplitl [Hc5]; · iexact Hc5
    isplitl [HO]; · iexact HO
    iexact Ha5
  iintro ⟨HO, Ha5, Hs5⟩
  iapply (wp_kvw m ρ K 6 rfl _ (above_bfO (by decide) 0)) $$ [Hc6 HO Ha6]
  · isplitr; · iexact HR
    isplitr; · iexact HL
    isplitl [Hc6]; · iexact Hc6
    isplitl [HO]; · iexact HO
    iexact Ha6
  iintro ⟨HO, Ha6, Hs6⟩
  unfold bfO
  iapply (wp_ldW 0 z2) $$ Hacc; iintro Hacc
  iapply (wp_ldD_sb 0) $$ Hsb; iintro %vsb0 Hsb
  iapply (wp_stW_sb 0 (w := sbR m ρ 0 0)) $$ Hsb; iintro Hsb
  iapply (wp_bfsnd m ρ K 0 0 (dev17 0) rfl rfl _) $$ [Hsb Hb0 HO]
  · isplitr; · iexact HR
    isplitl [Hsb]; · iexact Hsb
    isplitl [Hb0]; · iexact Hb0
    iexact HO
  iintro ⟨Hm0, HO⟩
  try unfold WP
  rw [wp_ret]; imodintro
  iapply (give_in Q _)
  iapply (give_out Q (Scalar.xori (v2W 0) 1#32))
  iapply Hk
  isplitl [HO]; · iexact HO
  isplitl [Hacc]; · iexact Hacc
  isplitl [Hm0]; · iexact Hm0
  isplitl [Ha0]; · iexact Ha0
  isplitl [Ha1]; · iexact Ha1
  isplitl [Ha2]; · iexact Ha2
  isplitl [Ha3]; · iexact Ha3
  isplitl [Ha4]; · iexact Ha4
  isplitl [Ha5]; · iexact Ha5
  isplitl [Ha6]; · iexact Ha6
  isplitl [Hs0]; · iexact Hs0
  isplitl [Hs1]; · iexact Hs1
  isplitl [Hs2]; · iexact Hs2
  isplitl [Hs3]; · iexact Hs3
  isplitl [Hs4]; · iexact Hs4
  isplitl [Hs5]; · iexact Hs5
  iexact Hs6

set_option maxRecDepth 8000 in
theorem part16_pos (c : Dev nD) (hc : c ≠ 0) {Q : BitVec 32 → sProp 𝕄} :
    iprop(records m ρ K ∗ ow c (bfO c) ∗ accHalf c (top (qC m ρ c) (wC m ρ c) (kvC m ρ c)) ∗ someAll (F := F) c cc0_scratch3 ∗ bfRes (F := F) 0 c)
      ⊢ iprop(((ow c (bfT c 2 + bfT c 1) ∗ accPts c (acc0 m ρ c) ∗ bfM (F := F) 0 c) -∗ Q (Scalar.xori (v2W c) 1#32))
          -∗ WP c (k0_part16 (F := F) xM (Memref.isWhole_whole _) wqM (Memref.isWhole_whole _) kM (Memref.isWhole_whole _) vM (Memref.isWhole_whole _) woM (Memref.isWhole_whole _) oM (Memref.isWhole_whole _) stM (Memref.isWhole_whole _) kvM (Memref.isWhole_whole _) accM (Memref.isWhole_whole _) sbM (Memref.isWhole_whole _) rbM (Memref.isWhole_whole _) cc0_scratch5 cc0_scratch6 cc0_scratch7 cc0_scratch8 cc0_scratch9 c (v2W c) (wC m ρ c) (b2 (qC m ρ c) (wC m ρ c) (kvC m ρ c)) (k0_pay41 (kvAt (kvC m ρ c) ![1,1,0,3,0] inb_S2x2x128x4x64_S1x1x128x1x64_1_1_0_3_0)) (k0_pay42 (qC m ρ c) mk (kvAt (kvC m ρ c) ![0,1,0,3,0] inb_S2x2x128x4x64_S1x1x128x1x64_0_1_0_3_0)) (k0_pay43 (qC m ρ c) mk (kvAt (kvC m ρ c) ![0,1,0,3,0] inb_S2x2x128x4x64_S1x1x128x1x64_0_1_0_3_0))) Q) := by
  iintro ⟨#HR, HO, Hacc, Hsb, Hb0⟩ Hk
  rw [k0_part16_eq_skeleton]; unfold k0_part16_skel
  simp only [semSignalWord, semWaitWord, Prog.lift, Prog.bind_op, Prog.bind_ret, Prog.pure_eq_ret, wp_deviceId]
  iapply (wp_accD c) $$ Hacc; iintro %va Hacc
  iapply (wp_accB c (b := bot (qC m ρ c) (wC m ρ c) (kvC m ρ c))) $$ Hacc; iintro Hacc
  rw [dif_neg (negW c hc)]
  unfold bfO
  iapply (wp_ldW c z2) $$ Hacc; iintro Hacc
  iapply (wp_ldD_sb c) $$ Hsb; iintro %vsb0 Hsb
  iapply (wp_stW_sb c (w := sbR m ρ 0 c)) $$ Hsb; iintro Hsb
  iapply (wp_bfsnd m ρ K 0 c (dev17 c) rfl rfl _) $$ [Hsb Hb0 HO]
  · isplitr; · iexact HR
    isplitl [Hsb]; · iexact Hsb
    isplitl [Hb0]; · iexact Hb0
    iexact HO
  iintro ⟨Hm0, HO⟩
  try unfold WP
  rw [wp_ret]; imodintro
  iapply (give_in Q _)
  iapply (give_out Q (Scalar.xori (v2W c) 1#32))
  iapply Hk
  isplitl [HO]; · iexact HO
  isplitl [Hacc]; · iexact Hacc
  iexact Hm0

set_option maxRecDepth 8000 in
theorem part17_spec (c : Dev nD) {v : BitVec 32} {Q : BitVec 32 → sProp 𝕄} :
    iprop(records m ρ K ∗ levAts L lv ∗ ow c (bfT c 2 + bfT c 1) ∗ accPts c (acc0 m ρ c) ∗ bfM (F := F) 0 c ∗ bfW (F := F) 0 c ∗ bfRes (F := F) 1 c)
      ⊢ iprop(((ow c (bfT c 2) ∗ accPts c (acc1 m ρ c) ∗ bfM (F := F) 1 c ∗ bfD m ρ 0 c) -∗ Q (Scalar.xori (v2W c) 3#32))
          -∗ WP c (k0_part17 (F := F) xM (Memref.isWhole_whole _) wqM (Memref.isWhole_whole _) kM (Memref.isWhole_whole _) vM (Memref.isWhole_whole _) woM (Memref.isWhole_whole _) oM (Memref.isWhole_whole _) stM (Memref.isWhole_whole _) kvM (Memref.isWhole_whole _) accM (Memref.isWhole_whole _) sbM (Memref.isWhole_whole _) rbM (Memref.isWhole_whole _) cc0_scratch5 cc0_scratch6 cc0_scratch7 cc0_scratch8 cc0_scratch9 c (v2W c) v) Q) := by
  iintro ⟨#HR, #HL, HO, Hacc, Hm0, Hw0, Hb1⟩ Hk
  rw [k0_part17_eq_skeleton]; unfold k0_part17_skel
  simp only [semSignalWord, semWaitWord, Prog.lift, Prog.bind_op, Prog.bind_ret, Prog.pure_eq_ret, wp_deviceId]
  unfold bfW
  icases Hw0 with ⟨HaS0, HcR0, HaR0⟩
  iapply (wp_bfwS m ρ K 0 c rfl _ ((above_t 2 c (by decide)).add (above_t 1 c (by decide)))) $$ [Hm0 HO HaS0]
  · isplitr; · iexact HR
    isplitr; · iexact HL
    isplitl [Hm0]; · iexact Hm0
    isplitl [HO]; · iexact HO
    iexact HaS0
  iintro ⟨HO, HaS0, Hsb⟩
  iapply (wp_bfwR m ρ K 0 c rfl _ ((above_t 2 c (by decide)).add (above_t 1 c (by decide)))) $$ [HcR0 HO HaR0]
  · isplitr; · iexact HR
    isplitr; · iexact HL
    isplitl [HcR0]; · iexact HcR0
    isplitl [HO]; · iexact HO
    iexact HaR0
  iintro ⟨HO, HaR0, Hrb0⟩
  iapply (wp_ldW c z2) $$ Hacc; iintro Hacc
  iapply (wp_rbld 0 c) $$ Hrb0; iintro Hrb0
  ihave Hacc := (someAll_intro c (i := cc0_scratch2.idx) (hκ := cc0_scratch2.names) _) $$ Hacc
  iapply (wp_ldD_acc c) $$ Hacc; iintro %vd0 Hacc
  iapply (wp_stW_acc c (w := acc1 m ρ c)) $$ Hacc; iintro Hacc
  iapply (wp_ldW c z2) $$ Hacc; iintro Hacc
  iapply (wp_ldD_sb c) $$ Hsb; iintro %vsb1 Hsb
  iapply (wp_stW_sb c (w := sbR m ρ 1 c)) $$ Hsb; iintro Hsb
  iapply (wp_bfsnd m ρ K 1 c (dev18 c) rfl rfl _) $$ [Hsb Hb1 HO]
  · isplitr; · iexact HR
    isplitl [Hsb]; · iexact Hsb
    isplitl [Hb1]; · iexact Hb1
    iexact HO
  iintro ⟨Hm1, HO⟩
  ihave Hd0 : bfD m ρ 0 c $$ [HaS0 HaR0 Hrb0]
  · unfold bfD
    isplitl [HaS0]; · iexact HaS0
    isplitl [HaR0]; · iexact HaR0
    iexact Hrb0
  try unfold WP
  rw [wp_ret]; imodintro
  iapply (give_in Q _)
  iapply (give_out Q (Scalar.xori (v2W c) 3#32))
  iapply Hk
  isplitl [HO]; · iexact HO
  isplitl [Hacc]; · iexact Hacc
  isplitl [Hm1]; · iexact Hm1
  iexact Hd0

set_option maxRecDepth 8000 in
theorem part18_spec (c : Dev nD) {v : BitVec 32} {Q : BitVec 32 → sProp 𝕄} :
    iprop(records m ρ K ∗ levAts L lv ∗ ow c (bfT c 2) ∗ accPts c (acc1 m ρ c) ∗ bfM (F := F) 1 c ∗ bfW (F := F) 1 c)
      ⊢ iprop(((ow c (bfT c 2) ∗ accPts c (acc2 m ρ c) ∗ sbPts c (sbR m ρ 2 c) ∗ bfD m ρ 1 c) -∗ Q (Scalar.xori (v2W c) 4#32))
          -∗ WP c (k0_part18 (F := F) xM (Memref.isWhole_whole _) wqM (Memref.isWhole_whole _) kM (Memref.isWhole_whole _) vM (Memref.isWhole_whole _) woM (Memref.isWhole_whole _) oM (Memref.isWhole_whole _) stM (Memref.isWhole_whole _) kvM (Memref.isWhole_whole _) accM (Memref.isWhole_whole _) sbM (Memref.isWhole_whole _) rbM (Memref.isWhole_whole _) cc0_scratch5 cc0_scratch6 cc0_scratch7 cc0_scratch8 cc0_scratch9 (v2W c) v) Q) := by
  iintro ⟨#HR, #HL, HO, Hacc, Hm1, Hw1⟩ Hk
  rw [k0_part18_eq_skeleton]; unfold k0_part18_skel
  simp only [semSignalWord, semWaitWord, Prog.lift, Prog.bind_op, Prog.bind_ret, Prog.pure_eq_ret, wp_deviceId]
  unfold bfW
  icases Hw1 with ⟨HaS1, HcR1, HaR1⟩
  iapply (wp_bfwS m ρ K 1 c rfl _ (above_t 2 c (by decide))) $$ [Hm1 HO HaS1]
  · isplitr; · iexact HR
    isplitr; · iexact HL
    isplitl [Hm1]; · iexact Hm1
    isplitl [HO]; · iexact HO
    iexact HaS1
  iintro ⟨HO, HaS1, Hsb⟩
  iapply (wp_bfwR m ρ K 1 c rfl _ (above_t 2 c (by decide))) $$ [HcR1 HO HaR1]
  · isplitr; · iexact HR
    isplitr; · iexact HL
    isplitl [HcR1]; · iexact HcR1
    isplitl [HO]; · iexact HO
    iexact HaR1
  iintro ⟨HO, HaR1, Hrb1⟩
  iapply (wp_ldW c z2) $$ Hacc; iintro Hacc
  iapply (wp_rbld 1 c) $$ Hrb1; iintro Hrb1
  ihave Hacc := (someAll_intro c (i := cc0_scratch2.idx) (hκ := cc0_scratch2.names) _) $$ Hacc
  iapply (wp_ldD_acc c) $$ Hacc; iintro %vd1 Hacc
  iapply (wp_stW_acc c (w := acc2 m ρ c)) $$ Hacc; iintro Hacc
  iapply (wp_ldW c z2) $$ Hacc; iintro Hacc
  iapply (wp_ldD_sb c) $$ Hsb; iintro %vsb2 Hsb
  iapply (wp_stW_sb c (w := sbR m ρ 2 c)) $$ Hsb; iintro Hsb
  ihave Hd1 : bfD m ρ 1 c $$ [HaS1 HaR1 Hrb1]
  · unfold bfD
    isplitl [HaS1]; · iexact HaS1
    isplitl [HaR1]; · iexact HaR1
    iexact Hrb1
  try unfold WP
  rw [wp_ret]; imodintro
  iapply (give_in Q _)
  iapply (give_out Q (Scalar.xori (v2W c) 4#32))
  iapply Hk
  isplitl [HO]; · iexact HO
  isplitl [Hacc]; · iexact Hacc
  isplitl [Hsb]; · iexact Hsb
  iexact Hd1

set_option maxRecDepth 8000 in
theorem part19_pos (c : Dev nD) (hc : c ≠ 0) {v : BitVec 32} {Q : (FVec F S2x128x512 .f32) → sProp 𝕄} :
    iprop(records m ρ K ∗ levAts L lv ∗ ow c (bfT c 2) ∗ accPts c (acc2 m ρ c) ∗ sbPts c (sbR m ρ 2 c) ∗ bfRes (F := F) 2 c ∗ bfW (F := F) 2 c)
      ⊢ iprop(((ow c (0) ∗ accPts c (acc3 m ρ c) ∗ someAll (F := F) c cc0_scratch3 ∗ bfD m ρ 2 c) -∗ Q (outC m ρ c))
          -∗ WP c (k0_part19 (F := F) xM (Memref.isWhole_whole _) wqM (Memref.isWhole_whole _) kM (Memref.isWhole_whole _) vM (Memref.isWhole_whole _) woM (Memref.isWhole_whole _) oM (Memref.isWhole_whole _) stM (Memref.isWhole_whole _) kvM (Memref.isWhole_whole _) accM (Memref.isWhole_whole _) sbM (Memref.isWhole_whole _) rbM (Memref.isWhole_whole _) cc0_scratch5 cc0_scratch6 cc0_scratch7 cc0_scratch8 cc0_scratch9 c (v2W c) v) Q) := by
  iintro ⟨#HR, #HL, HO, Hacc, Hsb, Hb2, Hw2⟩ Hk
  rw [k0_part19_eq_skeleton]; unfold k0_part19_skel
  simp only [semSignalWord, semWaitWord, Prog.lift, Prog.bind_op, Prog.bind_ret, Prog.pure_eq_ret, wp_deviceId]
  rw [show bfT c 2 = 0 + bfT c 2 from (zero_add _).symm]
  unfold bfW
  iapply (wp_bfsnd m ρ K 2 c (dev19 c) rfl rfl _) $$ [Hsb Hb2 HO]
  · isplitr; · iexact HR
    isplitl [Hsb]; · iexact Hsb
    isplitl [Hb2]; · iexact Hb2
    iexact HO
  iintro ⟨Hm2, HO⟩
  icases Hw2 with ⟨HaS2, HcR2, HaR2⟩
  iapply (wp_bfwS m ρ K 2 c rfl _ (Above.zero _)) $$ [Hm2 HO HaS2]
  · isplitr; · iexact HR
    isplitr; · iexact HL
    isplitl [Hm2]; · iexact Hm2
    isplitl [HO]; · iexact HO
    iexact HaS2
  iintro ⟨HO, HaS2, Hsb⟩
  iapply (wp_bfwR m ρ K 2 c rfl _ (Above.zero _)) $$ [HcR2 HO HaR2]
  · isplitr; · iexact HR
    isplitr; · iexact HL
    isplitl [HcR2]; · iexact HcR2
    isplitl [HO]; · iexact HO
    iexact HaR2
  iintro ⟨HO, HaR2, Hrb2⟩
  iapply (wp_ldW c z2) $$ Hacc; iintro Hacc
  iapply (wp_rbld 2 c) $$ Hrb2; iintro Hrb2
  ihave Hacc := (someAll_intro c (i := cc0_scratch2.idx) (hκ := cc0_scratch2.names) _) $$ Hacc
  iapply (wp_ldD_acc c) $$ Hacc; iintro %vd2 Hacc
  iapply (wp_stW_acc c (w := acc3 m ρ c)) $$ Hacc; iintro Hacc
  ihave Hd2 : bfD m ρ 2 c $$ [HaS2 HaR2 Hrb2]
  · unfold bfD
    isplitl [HaS2]; · iexact HaS2
    isplitl [HaR2]; · iexact HaR2
    iexact Hrb2
  rw [dif_neg (negW c hc)]
  iapply (wp_ldW c z2) $$ Hacc; iintro Hacc
  try unfold WP
  rw [wp_ret]; imodintro
  iapply (give_in Q _)
  iapply (give_out Q (outC m ρ c))
  iapply Hk
  isplitl [HO]; · iexact HO
  isplitl [Hacc]; · iexact Hacc
  isplitl [Hsb]; · iexact Hsb
  iexact Hd2

set_option maxRecDepth 8000 in
theorem part19_zero (c : Dev nD) (hc : c = 0) {v : BitVec 32} {Q : (FVec F S2x128x512 .f32) → sProp 𝕄} :
    iprop(records m ρ K ∗ levAts L lv ∗ ow c (bfT c 2) ∗ accPts c (acc2 m ρ c) ∗ sbPts c (sbR m ρ 2 c) ∗ bfRes (F := F) 2 c ∗ bfW (F := F) 2 c ∗ cred (tallyAt (cell c ak) () 7) ∗ at0 (F := F) c ak)
      ⊢ iprop(((ow c (0) ∗ accPts c (acc3 m ρ c) ∗ someAll (F := F) c cc0_scratch3 ∗ bfD m ρ 2 c ∗ at1 (F := F) c ak) -∗ Q (outC m ρ c))
          -∗ WP c (k0_part19 (F := F) xM (Memref.isWhole_whole _) wqM (Memref.isWhole_whole _) kM (Memref.isWhole_whole _) vM (Memref.isWhole_whole _) woM (Memref.isWhole_whole _) oM (Memref.isWhole_whole _) stM (Memref.isWhole_whole _) kvM (Memref.isWhole_whole _) accM (Memref.isWhole_whole _) sbM (Memref.isWhole_whole _) rbM (Memref.isWhole_whole _) cc0_scratch5 cc0_scratch6 cc0_scratch7 cc0_scratch8 cc0_scratch9 c (v2W c) v) Q) := by
  iintro ⟨#HR, #HL, HO, Hacc, Hsb, Hb2, Hw2, Hca, Hk0⟩ Hk
  rw [k0_part19_eq_skeleton]; unfold k0_part19_skel
  simp only [semSignalWord, semWaitWord, Prog.lift, Prog.bind_op, Prog.bind_ret, Prog.pure_eq_ret, wp_deviceId]
  rw [show bfT c 2 = 0 + bfT c 2 from (zero_add _).symm]
  unfold bfW
  iapply (wp_bfsnd m ρ K 2 c (dev19 c) rfl rfl _) $$ [Hsb Hb2 HO]
  · isplitr; · iexact HR
    isplitl [Hsb]; · iexact Hsb
    isplitl [Hb2]; · iexact Hb2
    iexact HO
  iintro ⟨Hm2, HO⟩
  icases Hw2 with ⟨HaS2, HcR2, HaR2⟩
  iapply (wp_bfwS m ρ K 2 c rfl _ (Above.zero _)) $$ [Hm2 HO HaS2]
  · isplitr; · iexact HR
    isplitr; · iexact HL
    isplitl [Hm2]; · iexact Hm2
    isplitl [HO]; · iexact HO
    iexact HaS2
  iintro ⟨HO, HaS2, Hsb⟩
  iapply (wp_bfwR m ρ K 2 c rfl _ (Above.zero _)) $$ [HcR2 HO HaR2]
  · isplitr; · iexact HR
    isplitr; · iexact HL
    isplitl [HcR2]; · iexact HcR2
    isplitl [HO]; · iexact HO
    iexact HaR2
  iintro ⟨HO, HaR2, Hrb2⟩
  iapply (wp_ldW c z2) $$ Hacc; iintro Hacc
  iapply (wp_rbld 2 c) $$ Hrb2; iintro Hrb2
  ihave Hacc := (someAll_intro c (i := cc0_scratch2.idx) (hκ := cc0_scratch2.names) _) $$ Hacc
  iapply (wp_ldD_acc c) $$ Hacc; iintro %vd2 Hacc
  iapply (wp_stW_acc c (w := acc3 m ρ c)) $$ Hacc; iintro Hacc
  ihave Hd2 : bfD m ρ 2 c $$ [HaS2 HaR2 Hrb2]
  · unfold bfD
    isplitl [HaS2]; · iexact HaS2
    isplitl [HaR2]; · iexact HaR2
    iexact Hrb2
  rw [dif_pos (show Scalar.cmpi .ne (Scalar.extui (Scalar.cmpi .eq (v2W c) 0#32) : BitVec 32) 0#32 = 1#1 by rw [hc]; exact posW)]
  iapply (wp_wreg m ρ K c ak 7 (by rw [hc]; exact ak_f) rfl rfl rfl _ (Above.zero _)) $$ [Hca HO Hk0]
  · isplitr; · iexact HR
    isplitr; · iexact HL
    isplitl [Hca]; · iexact Hca
    isplitl [HO]; · iexact HO
    iexact Hk0
  iintro ⟨HO, Hk0, Hjunk⟩
  iapply (wp_ldW c z2) $$ Hacc; iintro Hacc
  try unfold WP
  rw [wp_ret]; imodintro
  iapply (give_in Q _)
  iapply (give_out Q (outC m ρ c))
  iapply Hk
  isplitl [HO]; · iexact HO
  isplitl [Hacc]; · iexact Hacc
  isplitl [Hsb]; · iexact Hsb
  isplitl [Hd2]; · iexact Hd2
  iexact Hk0

end Cert.KernelIdealRun
-- ==== Proof.KernelIdeal.Deal.lean ====
/-
# Dealing out what a device starts with

A device starts with the rights to pay every duty it names, its place at each of its sixteen cells, and its launch credit.
Here these are listed one by one, what the barrier hands over is put together and taken apart, and at the end the cells
are closed.
-/
module

public import proofs.«01_k».proof.Proof.KernelIdeal.BodyC

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

variable (K : Dev nD × Fin 16 → ℕ)

/-! ## Listing -/

theorem sep3 (Φ : Fin 3 → sProp 𝕄) : bigSep Finset.univ Φ = iprop(Φ 0 ∗ Φ 1 ∗ Φ 2) :=
  bigSep_univ_eq_bigSepL [(0 : Fin 3), 1, 2] (by decide) (by decide) Φ
theorem sep7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [(0 : Fin 7), 1, 2, 3, 4, 5, 6] (by decide) (by decide) Φ
theorem sep8 (Φ : Dev nD → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [(0 : Dev nD), 1, 2, 3, 4, 5, 6, 7] (by decide) (by decide) Φ
theorem sep16 (Φ : Fin 16 → sProp 𝕄) : bigSep Finset.univ Φ = iprop(Φ (kS 0) ∗ Φ (kS 1) ∗ Φ (kS 2) ∗ Φ (kS 3) ∗ Φ (kS 4) ∗ Φ (kS 5) ∗ Φ (kS 6) ∗ Φ kR
    ∗ Φ (bS 0) ∗ Φ (bS 1) ∗ Φ (bS 2) ∗ Φ (bR 0) ∗ Φ (bR 1) ∗ Φ (bR 2) ∗ Φ ak ∗ Φ br) :=
  bigSep_univ_eq_bigSepL [kS 0, kS 1, kS 2, kS 3, kS 4, kS 5, kS 6, kR, bS 0, bS 1, bS 2, bR 0, bR 1, bR 2, ak, br] (by decide) (by decide) Φ

/-- A family that is there for one device only. -/
theorem sep_one (p : Dev nD → Prop) [DecidablePred p] (a : Dev nD) (h : ∀ n, p n ↔ n = a) (X : Dev nD → sProp 𝕄) :
    (bigSep Finset.univ fun n => if p n then X n else iprop(emp)) = X a := by
  have e : Finset.univ.filter p = {a} := by ext n; simp [h n]
  have g := bigSep_filter Finset.univ p X
  rw [e, bigSep_singleton] at g
  exact g.symm

/-- One member of a family, the others dropped. -/
theorem bigSep_entry {s : Finset (Dev nD)} {i : Dev nD} (h : i ∈ s) {Φ : Dev nD → sProp 𝕄} : bigSep s Φ ⊢ Φ i :=
  (Entails.of_eq rfl).trans (bigSep_elim (Φ := Φ) h)

/-! ## The rights to pay -/

/-- The rights of device `c` to pay duties of kind `k`. -/
def payT (c : Dev nD) (k : Fin 16) : sProp 𝕄 := bigSep Finset.univ fun n : Dev nD => if pays k c n = true then tok (F := F) n k c else iprop(emp)

theorem payT_bS (c : Dev nD) (r : Fin 3) : payT (F := F) c (bS r) = tok c (bS r) c :=
  sep_one (fun n => pays (bS r) c n = true) c (by revert c r; decide) (fun n => tok n (bS r) c)
theorem payT_bR (c : Dev nD) (r : Fin 3) : payT (F := F) c (bR r) = tok (pt r c) (bR r) c :=
  sep_one (fun n => pays (bR r) c n = true) (pt r c) (by revert c r; decide) (fun n => tok n (bR r) c)
theorem payT_kS (p : Fin 7) : payT (F := F) 0 (kS p) = tok 0 (kS p) 0 :=
  sep_one (fun n => pays (kS p) 0 n = true) 0 (by revert p; decide) (fun n => tok n (kS p) 0)
theorem payT_ak (c : Dev nD) (hc : c ≠ 0) : payT (F := F) c ak = tok 0 ak c :=
  sep_one (fun n => pays ak c n = true) 0 (by revert c; decide) (fun n => tok n ak c)
theorem payT_kR : payT (F := F) 0 kR ⊢ iprop(tok (rcv 0) kR 0 ∗ tok (rcv 1) kR 0 ∗ tok (rcv 2) kR 0 ∗ tok (rcv 3) kR 0 ∗ tok (rcv 4) kR 0 ∗ tok (rcv 5) kR 0 ∗ tok (rcv 6) kR 0) := by
  unfold payT
  rw [sep8, if_pos (show pays kR 0 1 = true by decide), if_pos (show pays kR 0 2 = true by decide), if_pos (show pays kR 0 3 = true by decide),
    if_pos (show pays kR 0 4 = true by decide), if_pos (show pays kR 0 5 = true by decide), if_pos (show pays kR 0 6 = true by decide), if_pos (show pays kR 0 7 = true by decide)]
  iintro ⟨-, H⟩
  iexact H

/-! ## The barrier -/

theorem br_iff : ∀ c n : Dev nD, pays br c n = true ↔ c ≠ n := by decide
theorem pt_iff : ∀ (r : Fin 3) (c n : Dev nD), pt r c = n ↔ n = pt r c := by decide

theorem slots_all (c : Dev nD) (r : Fin 3) : (bigSep Finset.univ fun n => slotFor (F := F) c n r) = somePts (F := F) c (rbSlot r) :=
  sep_one (fun n => pt r c = n) (pt r c) (fun n => pt_iff r c n) (fun _ => somePts c (rbSlot r))
theorem kv_all (c : Dev nD) : (bigSep Finset.univ fun n => kvFor (F := F) c n) = somePts (F := F) c kvM :=
  sep_one (fun n => n = 0) 0 (fun n => Iff.rfl) (fun _ => somePts c kvM)

/-- What the units of the barrier carry from one device is what it has to give. -/
theorem bar_build (c : Dev nD) :
    iprop(payT (F := F) c br ∗ somePts c (rbSlot 0) ∗ somePts c (rbSlot 1) ∗ somePts c (rbSlot 2) ∗ (if c = 0 then emp else somePts c kvM)) ⊢ barAll (F := F) c := by
  have e : barAll (F := F) c = bigSep Finset.univ fun n => barRes c n := (sep8 _).symm
  have e2 : (if c = 0 then iprop(emp) else somePts (F := F) c kvM) = bigSep Finset.univ fun n => if c = 0 then iprop(emp) else kvFor (F := F) c n := by
    split
    · exact (bigSep_emp_const _).symm
    · exact (kv_all c).symm
  rw [e, e2, ← slots_all c 0, ← slots_all c 1, ← slots_all c 2]
  unfold payT
  rw [← bigSep_sep', ← bigSep_sep', ← bigSep_sep', ← bigSep_sep']
  refine bigSep_mono fun n _ => ?_
  show iprop((if pays br c n = true then tok n br c else emp) ∗ slotFor c n 0 ∗ slotFor c n 1 ∗ slotFor c n 2 ∗ (if c = 0 then emp else kvFor c n)) ⊢ barRes c n
  unfold barRes barPay
  by_cases h : c = n
  · rw [if_pos h]
    iintro -
    iempintro
  · rw [if_neg h, if_pos ((br_iff c n).mpr h)]
    by_cases h0 : c = 0
    · rw [if_pos h0, show kvFor (F := F) c n = iprop(emp) from if_neg fun hn => h (h0.trans hn.symm)]
    · rw [if_neg h0]

/-- What a device takes from its barrier: the slots of its partners, and the slots for keys and values addressed to it. -/
theorem bar_get (c : Dev nD) :
    (bigSep (Finset.univ.filter fun d => pays br d c) fun d => barPay (F := F) d c)
      ⊢ iprop(somePts (pt 0 c) (rbSlot 0) ∗ somePts (pt 1 c) (rbSlot 1) ∗ somePts (pt 2 c) (rbSlot 2) ∗ bigSep (Finset.univ.filter fun d => pays br d c) fun d => kvFor (F := F) d c) := by
  unfold barPay
  rw [bigSep_sep', bigSep_sep', bigSep_sep']
  have g : ∀ r : Fin 3, (bigSep (Finset.univ.filter fun d => pays br d c = true) fun d => slotFor (F := F) d c r) ⊢ somePts (F := F) (pt r c) (rbSlot r) := fun r =>
    (bigSep_entry (i := pt r c) (Finset.mem_filter.mpr ⟨Finset.mem_univ _, (br_iff _ _).mpr (pt_ne r c)⟩)).trans
      (Entails.of_eq (if_pos (pt_pt r c)))
  iintro ⟨H0, H1, H2, H3⟩
  isplitl [H0]; · iapply (g 0); iexact H0
  isplitl [H1]; · iapply (g 1); iexact H1
  isplitl [H2]; · iapply (g 2); iexact H2
  iexact H3

theorem bar_kv : (bigSep (Finset.univ.filter fun d => pays br d 0) fun d => kvFor (F := F) d 0)
    = iprop(somePts (rcv 0) kvM ∗ somePts (rcv 1) kvM ∗ somePts (rcv 2) kvM ∗ somePts (rcv 3) kvM ∗ somePts (rcv 4) kvM ∗ somePts (rcv 5) kvM ∗ somePts (rcv 6) kvM) := by
  rw [show (bigSep (Finset.univ.filter fun d => pays br d 0 = true) fun d => kvFor (F := F) d 0) = bigSep (Finset.univ.filter fun d => pays br d 0 = true) fun d => somePts (F := F) d kvM from
      bigSep_congr fun d _ => if_pos rfl]
  exact bigSep_eq_bigSepL_of_eq [(rcv 0), (rcv 1), (rcv 2), (rcv 3), (rcv 4), (rcv 5), (rcv 6)] (by decide) (by decide) _

/-! ## Launch credit -/

/-- The units that will come to each cell without an action of its own device. -/
def dueTo (c : Dev nD) (k : Fin 16) : ℕ :=
  if k = kR then (if c = 0 then 0 else Nkv) else if k = bR 0 then Nbf else if k = bR 1 then Nbf else if k = bR 2 then Nbf
  else if k = ak then (if c = 0 then 7 else 0) else if k = br then 7 else 0

abbrev crT (c : Dev nD) (k : Fin 16) : sProp 𝕄 := cred (tallyAt (cell c k) () (dueTo c k))

theorem due_bR (c : Dev nD) (r : Fin 3) : dueTo c (bR r) = Nbf := by
  have h : ∀ r : Fin 3, r = 0 ∨ r = 1 ∨ r = 2 := by decide
  rcases h r with rfl | rfl | rfl <;> rfl
theorem due_br (c : Dev nD) : dueTo c br = 7 := rfl
theorem due_kR (c : Dev nD) (hc : c ≠ 0) : dueTo c kR = Nkv := if_neg hc
theorem due_ak : dueTo 0 ak = 7 := rfl

/-! ## Closing -/

theorem close1 (c : Dev nD) (k : Fin 16) : iprop(records m ρ K ∗ at1 c k) ⊢ iprop(|={Set.univ}=> semVal (cell c k) 0) := by
  iintro ⟨#HR, Ha⟩
  ihave #HX := (rec_at m ρ K c k) $$ HR
  icases HX with ⟨#HI, -⟩
  iapply (Rounds.cell_close ER (Rd m ρ) (Set.mem_univ (K (c, k))) (fun h => h) (R := 0 + 1) (Rd_later m ρ (cell c k))) $$ [Ha]
  isplitr
  · iexact HI
  · iexact Ha

theorem none_at (c : Dev nD) (k : Fin 16) (h : ∀ d : Dev nD, ¬ pays k d c = true) : ∀ r, 0 ≤ r → (Rd (F := F) m ρ).duties (cell c k) r = ∅ := by
  intro r _
  rcases Nat.eq_zero_or_pos r with rfl | hr
  · rw [Rd_duties]; exact Finset.filter_eq_empty_iff.mpr fun d _ => h d
  · exact Rd_later m ρ _ r hr

theorem close0 (c : Dev nD) (k : Fin 16) (h : ∀ d : Dev nD, ¬ pays k d c = true) : iprop(records m ρ K ∗ at0 c k) ⊢ iprop(|={Set.univ}=> semVal (cell c k) 0) := by
  iintro ⟨#HR, Ha⟩
  ihave #HX := (rec_at m ρ K c k) $$ HR
  icases HX with ⟨#HI, -⟩
  iapply (Rounds.cell_close ER (Rd m ρ) (Set.mem_univ (K (c, k))) (fun h => h) (R := 0) (none_at m ρ c k h)) $$ [Ha]
  isplitr
  · iexact HI
  · iexact Ha

theorem none_kS : ∀ (p : Fin 7) (c : Dev nD), c ≠ 0 → ∀ d : Dev nD, ¬ pays (kS p) d c = true := by decide
theorem none_kR : ∀ d : Dev nD, ¬ pays kR d 0 = true := by decide
theorem none_ak : ∀ c : Dev nD, c ≠ 0 → ∀ d : Dev nD, ¬ pays ak d c = true := by decide

/-- Contents that read as given are contents. -/
theorem val_some (c : Dev nD) {s : Shape} {e : EltTy} (M : Memref sig .tc .vmem s e) (X : s.Idx → Elt F e) : valPts c M X ⊢ somePts (F := F) c M := by
  unfold valPts somePts
  iintro ⟨%f, -, H⟩
  iexists f; iexact H

end Cert.KernelIdealRun
-- ==== Proof.KernelIdeal.BodyD.lean ====
/-
# The whole body of one device

From what a device starts with, through the parts one after the other, to what it leaves: its inputs as they were, the
result written, the scratch buffers at some contents, and every cell at zero. Device 0 and the other devices go
different ways.
-/
module

public import proofs.«01_k».proof.Proof.KernelIdeal.Deal

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

variable (K : Dev nD × Fin 16 → ℕ)

/-- What the body of one device starts with. -/
def bodyIn (c : Dev nD) : sProp 𝕄 :=
  iprop(records m ρ K ∗ levAts L lv ∗ ow c (O₀ c) ∗ (bigSep Finset.univ fun k => payT (F := F) c k) ∗ (bigSep Finset.univ fun k => at0 (F := F) c k) ∗ (bigSep Finset.univ fun k => crT (F := F) c k)
    ∗ xPts m ρ c ∗ wqPts m ρ c ∗ kPts m ρ c ∗ vPts m ρ c ∗ woPts m ρ c ∗ someAll (F := F) c cc0_stg5_0
    ∗ someAll (F := F) c cc0_scratch0 ∗ someAll (F := F) c cc0_scratch1 ∗ someAll (F := F) c cc0_scratch2 ∗ someAll (F := F) c cc0_scratch3 ∗ someAll (F := F) c cc0_scratch4)

/-- What it leaves. -/
def bodyOut (c : Dev nD) : sProp 𝕄 :=
  iprop(ow c 0 ∗ (bigSep Finset.univ fun k => semVal (cell c k) 0)
    ∗ xPts m ρ c ∗ wqPts m ρ c ∗ kPts m ρ c ∗ vPts m ρ c ∗ woPts m ρ c ∗ (((c : Thread nD τ).loc cc0_stg5_0) ↦{fullShare} outC m ρ c)
    ∗ someAll (F := F) c cc0_scratch0 ∗ someAll (F := F) c cc0_scratch1 ∗ someAll (F := F) c cc0_scratch2 ∗ someAll (F := F) c cc0_scratch3 ∗ someAll (F := F) c cc0_scratch4)

theorem rb_cut (c : Dev nD) : someAll (F := F) c cc0_scratch4 ⊢ iprop(somePts (F := F) c (rbSlot 0) ∗ somePts (F := F) c (rbSlot 1) ∗ somePts (F := F) c (rbSlot 2)) :=
  (rb_split c).trans (Entails.of_eq (sep3 _))
theorem rb_glue (c : Dev nD) : iprop(somePts (F := F) c (rbSlot 0) ∗ somePts (F := F) c (rbSlot 1) ∗ somePts (F := F) c (rbSlot 2)) ⊢ someAll (F := F) c cc0_scratch4 :=
  (Entails.of_eq (sep3 (fun r => somePts (F := F) c (rbSlot r))).symm).trans (rb_join c)
theorem st_cut (c : Dev nD) : someAll (F := F) c cc0_scratch0 ⊢ iprop(somePts (F := F) c (stSlot 0) ∗ somePts (F := F) c (stSlot 1) ∗ somePts (F := F) c (stSlot 2) ∗ somePts (F := F) c (stSlot 3) ∗ somePts (F := F) c (stSlot 4) ∗ somePts (F := F) c (stSlot 5) ∗ somePts (F := F) c (stSlot 6)) :=
  (st_split c).trans (Entails.of_eq (sep7 _))
theorem st_glue (c : Dev nD) : iprop(somePts (F := F) c (stSlot 0) ∗ somePts (F := F) c (stSlot 1) ∗ somePts (F := F) c (stSlot 2) ∗ somePts (F := F) c (stSlot 3) ∗ somePts (F := F) c (stSlot 4) ∗ somePts (F := F) c (stSlot 5) ∗ somePts (F := F) c (stSlot 6)) ⊢ someAll (F := F) c cc0_scratch0 :=
  (Entails.of_eq (sep7 (fun p => somePts (F := F) c (stSlot p))).symm).trans (st_join c)

theorem bar_build_zero : iprop(payT (F := F) 0 br ∗ somePts 0 (rbSlot 0) ∗ somePts 0 (rbSlot 1) ∗ somePts 0 (rbSlot 2)) ⊢ barAll (F := F) 0 := by
  have h := bar_build (F := F) 0
  rw [if_pos rfl] at h
  iintro ⟨HT, H0, H1, H2⟩
  iapply h
  isplitl [HT]; · iexact HT
  isplitl [H0]; · iexact H0
  isplitl [H1]; · iexact H1
  isplitl [H2]; · iexact H2
  iempintro
theorem bar_build_pos (c : Dev nD) (hc : c ≠ 0) : iprop(payT (F := F) c br ∗ somePts c (rbSlot 0) ∗ somePts c (rbSlot 1) ∗ somePts c (rbSlot 2) ∗ somePts c kvM) ⊢ barAll (F := F) c := by
  have h := bar_build (F := F) c
  rwa [if_neg hc] at h

/-- The rights and the credit of device 0, listed. -/
theorem toks_zero : (bigSep Finset.univ fun k => payT (F := F) 0 k)
    ⊢ iprop(tok 0 (kS 0) 0 ∗ tok 0 (kS 1) 0 ∗ tok 0 (kS 2) 0 ∗ tok 0 (kS 3) 0 ∗ tok 0 (kS 4) 0 ∗ tok 0 (kS 5) 0 ∗ tok 0 (kS 6) 0 ∗ (tok (rcv 0) kR 0 ∗ tok (rcv 1) kR 0 ∗ tok (rcv 2) kR 0 ∗ tok (rcv 3) kR 0 ∗ tok (rcv 4) kR 0 ∗ tok (rcv 5) kR 0 ∗ tok (rcv 6) kR 0) ∗ tok 0 (bS 0) 0 ∗ tok 0 (bS 1) 0 ∗ tok 0 (bS 2) 0 ∗ tok (pt 0 0) (bR 0) 0 ∗ tok (pt 1 0) (bR 1) 0 ∗ tok (pt 2 0) (bR 2) 0 ∗ payT 0 br) := by
  rw [sep16]
  rw [payT_kS 0, payT_kS 1, payT_kS 2, payT_kS 3, payT_kS 4, payT_kS 5, payT_kS 6, payT_bS 0 0, payT_bS 0 1, payT_bS 0 2, payT_bR 0 0, payT_bR 0 1, payT_bR 0 2]
  iintro ⟨T0, T1, T2, T3, T4, T5, T6, T7, T8, T9, T10, T11, T12, T13, -, T15⟩
  isplitl [T0]; · iexact T0
  isplitl [T1]; · iexact T1
  isplitl [T2]; · iexact T2
  isplitl [T3]; · iexact T3
  isplitl [T4]; · iexact T4
  isplitl [T5]; · iexact T5
  isplitl [T6]; · iexact T6
  isplitl [T7]; · iapply payT_kR; iexact T7
  isplitl [T8]; · iexact T8
  isplitl [T9]; · iexact T9
  isplitl [T10]; · iexact T10
  isplitl [T11]; · iexact T11
  isplitl [T12]; · iexact T12
  isplitl [T13]; · iexact T13
  iexact T15
theorem toks_pos (c : Dev nD) (hc : c ≠ 0) : (bigSep Finset.univ fun k => payT (F := F) c k) ⊢ iprop(tok c (bS 0) c ∗ tok c (bS 1) c ∗ tok c (bS 2) c ∗ tok (pt 0 c) (bR 0) c ∗ tok (pt 1 c) (bR 1) c ∗ tok (pt 2 c) (bR 2) c ∗ tok 0 ak c ∗ payT c br) := by
  rw [sep16]
  rw [payT_ak c hc, payT_bS c 0, payT_bS c 1, payT_bS c 2, payT_bR c 0, payT_bR c 1, payT_bR c 2]
  iintro ⟨-, -, -, -, -, -, -, -, T8, T9, T10, T11, T12, T13, T14, T15⟩
  isplitl [T8]; · iexact T8
  isplitl [T9]; · iexact T9
  isplitl [T10]; · iexact T10
  isplitl [T11]; · iexact T11
  isplitl [T12]; · iexact T12
  isplitl [T13]; · iexact T13
  isplitl [T14]; · iexact T14
  iexact T15
theorem creds_zero : (bigSep Finset.univ fun k => crT (F := F) 0 k) ⊢ iprop(cred (tallyAt (cell 0 (bR 0)) () Nbf) ∗ cred (tallyAt (cell 0 (bR 1)) () Nbf) ∗ cred (tallyAt (cell 0 (bR 2)) () Nbf) ∗ cred (tallyAt (cell 0 ak) () 7) ∗ cred (tallyAt (cell 0 br) () 7)) := by
  rw [sep16]
  unfold crT
  rw [due_bR 0 0, due_bR 0 1, due_bR 0 2, due_ak, due_br]
  iintro ⟨-, -, -, -, -, -, -, -, -, -, -, T11, T12, T13, T14, T15⟩
  isplitl [T11]; · iexact T11
  isplitl [T12]; · iexact T12
  isplitl [T13]; · iexact T13
  isplitl [T14]; · iexact T14
  iexact T15
theorem creds_pos (c : Dev nD) (hc : c ≠ 0) : (bigSep Finset.univ fun k => crT (F := F) c k) ⊢ iprop(cred (tallyAt (cell c kR) () Nkv) ∗ cred (tallyAt (cell c (bR 0)) () Nbf) ∗ cred (tallyAt (cell c (bR 1)) () Nbf) ∗ cred (tallyAt (cell c (bR 2)) () Nbf) ∗ cred (tallyAt (cell c br) () 7)) := by
  rw [sep16]
  unfold crT
  rw [due_kR c hc, due_bR c 0, due_bR c 1, due_bR c 2, due_br]
  iintro ⟨-, -, -, -, -, -, -, T7, -, -, -, T11, T12, T13, -, T15⟩
  isplitl [T7]; · iexact T7
  isplitl [T11]; · iexact T11
  isplitl [T12]; · iexact T12
  isplitl [T13]; · iexact T13
  iexact T15

theorem kaO_zero : kaO 0 = kvO := if_pos rfl
theorem kaO_pos (c : Dev nD) (hc : c ≠ 0) : kaO c = tallyAt (cell 0 ak) () 1 := if_neg hc

set_option maxRecDepth 8000 in
theorem body_zero {Q : PUnit → sProp 𝕄} :
    bodyIn m ρ K 0 ⊢ iprop((bodyOut m ρ 0 -∗ Q ⟨⟩) -∗ WP 0 (cc0_body (F := F) xM (Memref.isWhole_whole _) wqM (Memref.isWhole_whole _) kM (Memref.isWhole_whole _) vM (Memref.isWhole_whole _) woM (Memref.isWhole_whole _) oM (Memref.isWhole_whole _) stM (Memref.isWhole_whole _) kvM (Memref.isWhole_whole _) accM (Memref.isWhole_whole _) sbM (Memref.isWhole_whole _) rbM (Memref.isWhole_whole _) cc0_scratch5 cc0_scratch6 cc0_scratch7 cc0_scratch8 cc0_scratch9) Q) := by
  unfold bodyIn
  rw [sep16 fun k => at0 (F := F) 0 k]
  iintro ⟨#HR, #HL, HO, HT, ⟨A0, A1, A2, A3, A4, A5, A6, A7, A8, A9, A10, A11, A12, A13, A14, A15⟩, HC, HX, HW, HK, HV, HWo, H5, Z0, Z1, Z2, Z3, Z4⟩ Hk
  icases toks_zero $$ HT with ⟨E0, E1, E2, E3, E4, E5, E6, ⟨G0, G1, G2, G3, G4, G5, G6⟩, B0, B1, B2, D0, D1, D2, T15⟩
  icases creds_zero $$ HC with ⟨C0, C1, C2, Cak, Cbr⟩
  icases (rb_cut 0) $$ Z4 with ⟨S0, S1, S2⟩
  icases (st_cut 0) $$ Z0 with ⟨U0, U1, U2, U3, U4, U5, U6⟩
  ihave HB : barAll (F := F) 0 $$ [T15 S0 S1 S2]
  · iapply bar_build_zero
    isplitl [T15]; · iexact T15
    isplitl [S0]; · iexact S0
    isplitl [S1]; · iexact S1
    iexact S2
  rw [cc0_body_eq_skeleton]; unfold cc0_body_skel
  simp only [wp_bind]
  iapply (part8_spec m ρ K 0) $$ [HO HB Cbr A15]
  · isplitr; · iexact HR
    isplitr; · iexact HL
    isplitl [HO]; · iexact HO
    isplitl [HB]; · iexact HB
    isplitl [Cbr]; · iexact Cbr
    iexact A15
  try dsimp only
  iintro ⟨HO, A15, HB⟩
  icases (bar_get 0) $$ HB with ⟨P0, P1, P2, HB⟩
  ihave R0 : bfRes (F := F) 0 0 $$ [P0 B0 D0]
  · unfold bfRes
    isplitl [P0]; · iexact P0
    isplitl [B0]; · iexact B0
    iexact D0
  ihave W0 : bfW (F := F) 0 0 $$ [A8 C0 A11]
  · unfold bfW
    isplitl [A8]; · iexact A8
    isplitl [C0]; · iexact C0
    iexact A11
  ihave R1 : bfRes (F := F) 1 0 $$ [P1 B1 D1]
  · unfold bfRes
    isplitl [P1]; · iexact P1
    isplitl [B1]; · iexact B1
    iexact D1
  ihave W1 : bfW (F := F) 1 0 $$ [A9 C1 A12]
  · unfold bfW
    isplitl [A9]; · iexact A9
    isplitl [C1]; · iexact C1
    iexact A12
  ihave R2 : bfRes (F := F) 2 0 $$ [P2 B2 D2]
  · unfold bfRes
    isplitl [P2]; · iexact P2
    isplitl [B2]; · iexact B2
    iexact D2
  ihave W2 : bfW (F := F) 2 0 $$ [A10 C2 A13]
  · unfold bfW
    isplitl [A10]; · iexact A10
    isplitl [C2]; · iexact C2
    iexact A13
  rw [kaO_zero]
  icases (Entails.of_eq bar_kv) $$ HB with ⟨M0, M1, M2, M3, M4, M5, M6⟩
  ihave N0 : sndRes (F := F) 0 $$ [M0 E0 G0]
  · unfold sndRes
    isplitl [M0]; · iexact M0
    isplitl [E0]; · iexact E0
    iexact G0
  ihave N1 : sndRes (F := F) 1 $$ [M1 E1 G1]
  · unfold sndRes
    isplitl [M1]; · iexact M1
    isplitl [E1]; · iexact E1
    iexact G1
  ihave N2 : sndRes (F := F) 2 $$ [M2 E2 G2]
  · unfold sndRes
    isplitl [M2]; · iexact M2
    isplitl [E2]; · iexact E2
    iexact G2
  ihave N3 : sndRes (F := F) 3 $$ [M3 E3 G3]
  · unfold sndRes
    isplitl [M3]; · iexact M3
    isplitl [E3]; · iexact E3
    iexact G3
  ihave N4 : sndRes (F := F) 4 $$ [M4 E4 G4]
  · unfold sndRes
    isplitl [M4]; · iexact M4
    isplitl [E4]; · iexact E4
    iexact G4
  ihave N5 : sndRes (F := F) 5 $$ [M5 E5 G5]
  · unfold sndRes
    isplitl [M5]; · iexact M5
    isplitl [E5]; · iexact E5
    iexact G5
  ihave N6 : sndRes (F := F) 6 $$ [M6 E6 G6]
  · unfold sndRes
    isplitl [M6]; · iexact M6
    isplitl [E6]; · iexact E6
    iexact G6
  iapply (part9_zero m ρ K (bfO 0)) $$ [HK HV HX HW HO Z1 U0 U1 U2 U3 U4 U5 U6 N0 N1 N2 N3 N4 N5 N6]
  · isplitr; · iexact HR
    isplitl [HK]; · iexact HK
    isplitl [HV]; · iexact HV
    isplitl [HX]; · iexact HX
    isplitl [HW]; · iexact HW
    isplitl [HO]; · iexact HO
    isplitl [Z1]; · iexact Z1
    isplitl [U0]; · iexact U0
    isplitl [U1]; · iexact U1
    isplitl [U2]; · iexact U2
    isplitl [U3]; · iexact U3
    isplitl [U4]; · iexact U4
    isplitl [U5]; · iexact U5
    isplitl [U6]; · iexact U6
    isplitl [N0]; · iexact N0
    isplitl [N1]; · iexact N1
    isplitl [N2]; · iexact N2
    isplitl [N3]; · iexact N3
    isplitl [N4]; · iexact N4
    isplitl [N5]; · iexact N5
    iexact N6
  try dsimp only
  iintro ⟨HK, HV, HX, HW, HO, Hkv, Y0, Y1, Y2, Y3, Y4, Y5, Y6⟩
  iapply (part10_spec m ρ 0 (qC m ρ 0) (kvC m ρ 0)) $$ [HWo Hkv]
  · isplitl [HWo]; · iexact HWo
    iexact Hkv
  try dsimp only
  iintro ⟨HWo, Hkv⟩
  iapply (part11_spec 0 (qC m ρ 0) (wC m ρ 0) (kvC m ρ 0)) $$ Hkv
  try dsimp only
  iintro Hkv
  iapply (part12_spec 0 (qC m ρ 0) (wC m ρ 0) (kvC m ρ 0)) $$ Hkv
  try dsimp only
  iintro Hkv
  iapply (part13_spec 0 (qC m ρ 0) (wC m ρ 0) (kvC m ρ 0)) $$ [Hkv Z2]
  · isplitl [Hkv]; · iexact Hkv
    iexact Z2
  try dsimp only
  iintro ⟨Hkv, Z2⟩
  iapply (part14_spec 0 (qC m ρ 0) (wC m ρ 0) (kvC m ρ 0)) $$ Hkv
  try dsimp only
  iintro Hkv
  iapply (part15_spec 0 (qC m ρ 0) (wC m ρ 0) (kvC m ρ 0)) $$ Hkv
  try dsimp only
  iintro Hkv
  iapply (part16_zero m ρ K) $$ [HO Z2 Z3 R0 Y0 Y1 Y2 Y3 Y4 Y5 Y6 A0 A1 A2 A3 A4 A5 A6]
  · isplitr; · iexact HR
    isplitr; · iexact HL
    isplitl [HO]; · iexact HO
    isplitl [Z2]; · iexact Z2
    isplitl [Z3]; · iexact Z3
    isplitl [R0]; · iexact R0
    isplitl [Y0]; · iexact Y0
    isplitl [Y1]; · iexact Y1
    isplitl [Y2]; · iexact Y2
    isplitl [Y3]; · iexact Y3
    isplitl [Y4]; · iexact Y4
    isplitl [Y5]; · iexact Y5
    isplitl [Y6]; · iexact Y6
    isplitl [A0]; · iexact A0
    isplitl [A1]; · iexact A1
    isplitl [A2]; · iexact A2
    isplitl [A3]; · iexact A3
    isplitl [A4]; · iexact A4
    isplitl [A5]; · iexact A5
    iexact A6
  try dsimp only
  iintro ⟨HO, Z2, F0, A0, A1, A2, A3, A4, A5, A6, U0, U1, U2, U3, U4, U5, U6⟩
  iapply (part17_spec m ρ K 0) $$ [HO Z2 F0 W0 R1]
  · isplitr; · iexact HR
    isplitr; · iexact HL
    isplitl [HO]; · iexact HO
    isplitl [Z2]; · iexact Z2
    isplitl [F0]; · iexact F0
    isplitl [W0]; · iexact W0
    iexact R1
  try dsimp only
  iintro ⟨HO, Z2, F1, V0⟩
  iapply (part18_spec m ρ K 0) $$ [HO Z2 F1 W1]
  · isplitr; · iexact HR
    isplitr; · iexact HL
    isplitl [HO]; · iexact HO
    isplitl [Z2]; · iexact Z2
    isplitl [F1]; · iexact F1
    iexact W1
  try dsimp only
  iintro ⟨HO, Z2, Z3, V1⟩
  iapply (part19_zero m ρ K 0 rfl) $$ [HO Z2 Z3 R2 W2 Cak A14]
  · isplitr; · iexact HR
    isplitr; · iexact HL
    isplitl [HO]; · iexact HO
    isplitl [Z2]; · iexact Z2
    isplitl [Z3]; · iexact Z3
    isplitl [R2]; · iexact R2
    isplitl [W2]; · iexact W2
    isplitl [Cak]; · iexact Cak
    iexact A14
  try dsimp only
  iintro ⟨HO, Z2, Z3, V2, A14⟩
  simp only [Prog.lift, Prog.bind_op, Prog.bind_ret, Prog.pure_eq_ret]
  iapply (wp_ldD_o 0) $$ H5; iintro %vd H5
  try unfold WP
  rw [wp_ret]; imodintro
  iapply (wp_stW_o 0 (w := outC m ρ 0)) $$ H5; iintro H5
  try unfold WP
  rw [wp_ret]; imodintro
  unfold bfD
  icases V0 with ⟨A8, A11, S0⟩
  icases V1 with ⟨A9, A12, S1⟩
  icases V2 with ⟨A10, A13, S2⟩
  imod (close1 m ρ K 0 (kS 0)) $$ [A0] with A0
  · isplitr; · iexact HR
    iexact A0
  imod (close1 m ρ K 0 (kS 1)) $$ [A1] with A1
  · isplitr; · iexact HR
    iexact A1
  imod (close1 m ρ K 0 (kS 2)) $$ [A2] with A2
  · isplitr; · iexact HR
    iexact A2
  imod (close1 m ρ K 0 (kS 3)) $$ [A3] with A3
  · isplitr; · iexact HR
    iexact A3
  imod (close1 m ρ K 0 (kS 4)) $$ [A4] with A4
  · isplitr; · iexact HR
    iexact A4
  imod (close1 m ρ K 0 (kS 5)) $$ [A5] with A5
  · isplitr; · iexact HR
    iexact A5
  imod (close1 m ρ K 0 (kS 6)) $$ [A6] with A6
  · isplitr; · iexact HR
    iexact A6
  imod (close0 m ρ K 0 kR none_kR) $$ [A7] with A7
  · isplitr; · iexact HR
    iexact A7
  imod (close1 m ρ K 0 (bS 0)) $$ [A8] with A8
  · isplitr; · iexact HR
    iexact A8
  imod (close1 m ρ K 0 (bS 1)) $$ [A9] with A9
  · isplitr; · iexact HR
    iexact A9
  imod (close1 m ρ K 0 (bS 2)) $$ [A10] with A10
  · isplitr; · iexact HR
    iexact A10
  imod (close1 m ρ K 0 (bR 0)) $$ [A11] with A11
  · isplitr; · iexact HR
    iexact A11
  imod (close1 m ρ K 0 (bR 1)) $$ [A12] with A12
  · isplitr; · iexact HR
    iexact A12
  imod (close1 m ρ K 0 (bR 2)) $$ [A13] with A13
  · isplitr; · iexact HR
    iexact A13
  imod (close1 m ρ K 0 ak) $$ [A14] with A14
  · isplitr; · iexact HR
    iexact A14
  imod (close1 m ρ K 0 br) $$ [A15] with A15
  · isplitr; · iexact HR
    iexact A15
  try unfold WP
  rw [wp_ret]; imodintro
  iapply Hk
  unfold bodyOut
  rw [sep16 fun k => semVal (cell 0 k) 0]
  isplitl [HO]; · iexact HO
  isplitl [A0 A1 A2 A3 A4 A5 A6 A7 A8 A9 A10 A11 A12 A13 A14 A15]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    isplitl [A12]; · iexact A12
    isplitl [A13]; · iexact A13
    isplitl [A14]; · iexact A14
    iexact A15
  isplitl [HX]; · iexact HX
  isplitl [HW]; · iexact HW
  isplitl [HK]; · iexact HK
  isplitl [HV]; · iexact HV
  isplitl [HWo]; · iexact HWo
  isplitl [H5]; · iexact H5
  isplitl [U0 U1 U2 U3 U4 U5 U6]
  · iapply (st_glue 0)
    isplitl [U0]; · iexact U0
    isplitl [U1]; · iexact U1
    isplitl [U2]; · iexact U2
    isplitl [U3]; · iexact U3
    isplitl [U4]; · iexact U4
    isplitl [U5]; · iexact U5
    iexact U6
  isplitl [Hkv]; · iapply (someAll_intro 0 (i := cc0_scratch1.idx) (hκ := cc0_scratch1.names) _); iexact Hkv
  isplitl [Z2]; · iapply (someAll_intro 0 (i := cc0_scratch2.idx) (hκ := cc0_scratch2.names) _); iexact Z2
  isplitl [Z3]; · iexact Z3
  iapply (rb_glue 0)
  isplitl [S0]; · iapply (val_some 0 (rbSlot 0) _); iexact S0
  isplitl [S1]; · iapply (val_some 0 (rbSlot 1) _); iexact S1
  iapply (val_some 0 (rbSlot 2) _); iexact S2

set_option maxRecDepth 8000 in
theorem body_pos (c : Dev nD) (hc : c ≠ 0) {Q : PUnit → sProp 𝕄} :
    bodyIn m ρ K c ⊢ iprop((bodyOut m ρ c -∗ Q ⟨⟩) -∗ WP c (cc0_body (F := F) xM (Memref.isWhole_whole _) wqM (Memref.isWhole_whole _) kM (Memref.isWhole_whole _) vM (Memref.isWhole_whole _) woM (Memref.isWhole_whole _) oM (Memref.isWhole_whole _) stM (Memref.isWhole_whole _) kvM (Memref.isWhole_whole _) accM (Memref.isWhole_whole _) sbM (Memref.isWhole_whole _) rbM (Memref.isWhole_whole _) cc0_scratch5 cc0_scratch6 cc0_scratch7 cc0_scratch8 cc0_scratch9) Q) := by
  unfold bodyIn
  rw [sep16 fun k => at0 (F := F) c k]
  iintro ⟨#HR, #HL, HO, HT, ⟨A0, A1, A2, A3, A4, A5, A6, A7, A8, A9, A10, A11, A12, A13, A14, A15⟩, HC, HX, HW, HK, HV, HWo, H5, Z0, Z1, Z2, Z3, Z4⟩ Hk
  icases (toks_pos c hc) $$ HT with ⟨B0, B1, B2, D0, D1, D2, Tak, T15⟩
  icases (creds_pos c hc) $$ HC with ⟨CkR, C0, C1, C2, Cbr⟩
  icases (rb_cut c) $$ Z4 with ⟨S0, S1, S2⟩
  ihave Z1 := (kv_some c) $$ Z1
  ihave HB : barAll (F := F) c $$ [T15 S0 S1 S2 Z1]
  · iapply (bar_build_pos c hc)
    isplitl [T15]; · iexact T15
    isplitl [S0]; · iexact S0
    isplitl [S1]; · iexact S1
    isplitl [S2]; · iexact S2
    iexact Z1
  rw [cc0_body_eq_skeleton]; unfold cc0_body_skel
  simp only [wp_bind]
  iapply (part8_spec m ρ K c) $$ [HO HB Cbr A15]
  · isplitr; · iexact HR
    isplitr; · iexact HL
    isplitl [HO]; · iexact HO
    isplitl [HB]; · iexact HB
    isplitl [Cbr]; · iexact Cbr
    iexact A15
  try dsimp only
  iintro ⟨HO, A15, HB⟩
  icases (bar_get c) $$ HB with ⟨P0, P1, P2, HB⟩
  ihave R0 : bfRes (F := F) 0 c $$ [P0 B0 D0]
  · unfold bfRes
    isplitl [P0]; · iexact P0
    isplitl [B0]; · iexact B0
    iexact D0
  ihave W0 : bfW (F := F) 0 c $$ [A8 C0 A11]
  · unfold bfW
    isplitl [A8]; · iexact A8
    isplitl [C0]; · iexact C0
    iexact A11
  ihave R1 : bfRes (F := F) 1 c $$ [P1 B1 D1]
  · unfold bfRes
    isplitl [P1]; · iexact P1
    isplitl [B1]; · iexact B1
    iexact D1
  ihave W1 : bfW (F := F) 1 c $$ [A9 C1 A12]
  · unfold bfW
    isplitl [A9]; · iexact A9
    isplitl [C1]; · iexact C1
    iexact A12
  ihave R2 : bfRes (F := F) 2 c $$ [P2 B2 D2]
  · unfold bfRes
    isplitl [P2]; · iexact P2
    isplitl [B2]; · iexact B2
    iexact D2
  ihave W2 : bfW (F := F) 2 c $$ [A10 C2 A13]
  · unfold bfW
    isplitl [A10]; · iexact A10
    isplitl [C2]; · iexact C2
    iexact A13
  rw [kaO_pos c hc]
  iapply (part9_pos m ρ K c hc (bfO c) ((above_bfO (by decide) c).add (Above.tally _ _ _ (by decide)))) $$ [HX HW HO CkR A7 Tak]
  · isplitr; · iexact HR
    isplitr; · iexact HL
    isplitl [HX]; · iexact HX
    isplitl [HW]; · iexact HW
    isplitl [HO]; · iexact HO
    isplitl [CkR]; · iexact CkR
    isplitl [A7]; · iexact A7
    iexact Tak
  try dsimp only
  iintro ⟨HX, HW, HO, Hkv, A7⟩
  iapply (part10_spec m ρ c (qC m ρ c) (kvC m ρ c)) $$ [HWo Hkv]
  · isplitl [HWo]; · iexact HWo
    iexact Hkv
  try dsimp only
  iintro ⟨HWo, Hkv⟩
  iapply (part11_spec c (qC m ρ c) (wC m ρ c) (kvC m ρ c)) $$ Hkv
  try dsimp only
  iintro Hkv
  iapply (part12_spec c (qC m ρ c) (wC m ρ c) (kvC m ρ c)) $$ Hkv
  try dsimp only
  iintro Hkv
  iapply (part13_spec c (qC m ρ c) (wC m ρ c) (kvC m ρ c)) $$ [Hkv Z2]
  · isplitl [Hkv]; · iexact Hkv
    iexact Z2
  try dsimp only
  iintro ⟨Hkv, Z2⟩
  iapply (part14_spec c (qC m ρ c) (wC m ρ c) (kvC m ρ c)) $$ Hkv
  try dsimp only
  iintro Hkv
  iapply (part15_spec c (qC m ρ c) (wC m ρ c) (kvC m ρ c)) $$ Hkv
  try dsimp only
  iintro Hkv
  iapply (part16_pos m ρ K c hc) $$ [HO Z2 Z3 R0]
  · isplitr; · iexact HR
    isplitl [HO]; · iexact HO
    isplitl [Z2]; · iexact Z2
    isplitl [Z3]; · iexact Z3
    iexact R0
  try dsimp only
  iintro ⟨HO, Z2, F0⟩
  iapply (part17_spec m ρ K c) $$ [HO Z2 F0 W0 R1]
  · isplitr; · iexact HR
    isplitr; · iexact HL
    isplitl [HO]; · iexact HO
    isplitl [Z2]; · iexact Z2
    isplitl [F0]; · iexact F0
    isplitl [W0]; · iexact W0
    iexact R1
  try dsimp only
  iintro ⟨HO, Z2, F1, V0⟩
  iapply (part18_spec m ρ K c) $$ [HO Z2 F1 W1]
  · isplitr; · iexact HR
    isplitr; · iexact HL
    isplitl [HO]; · iexact HO
    isplitl [Z2]; · iexact Z2
    isplitl [F1]; · iexact F1
    iexact W1
  try dsimp only
  iintro ⟨HO, Z2, Z3, V1⟩
  iapply (part19_pos m ρ K c hc) $$ [HO Z2 Z3 R2 W2]
  · isplitr; · iexact HR
    isplitr; · iexact HL
    isplitl [HO]; · iexact HO
    isplitl [Z2]; · iexact Z2
    isplitl [Z3]; · iexact Z3
    isplitl [R2]; · iexact R2
    iexact W2
  try dsimp only
  iintro ⟨HO, Z2, Z3, V2⟩
  simp only [Prog.lift, Prog.bind_op, Prog.bind_ret, Prog.pure_eq_ret]
  iapply (wp_ldD_o c) $$ H5; iintro %vd H5
  try unfold WP
  rw [wp_ret]; imodintro
  iapply (wp_stW_o c (w := outC m ρ c)) $$ H5; iintro H5
  try unfold WP
  rw [wp_ret]; imodintro
  unfold bfD
  icases V0 with ⟨A8, A11, S0⟩
  icases V1 with ⟨A9, A12, S1⟩
  icases V2 with ⟨A10, A13, S2⟩
  imod (close0 m ρ K c (kS 0) (none_kS 0 c hc)) $$ [A0] with A0
  · isplitr; · iexact HR
    iexact A0
  imod (close0 m ρ K c (kS 1) (none_kS 1 c hc)) $$ [A1] with A1
  · isplitr; · iexact HR
    iexact A1
  imod (close0 m ρ K c (kS 2) (none_kS 2 c hc)) $$ [A2] with A2
  · isplitr; · iexact HR
    iexact A2
  imod (close0 m ρ K c (kS 3) (none_kS 3 c hc)) $$ [A3] with A3
  · isplitr; · iexact HR
    iexact A3
  imod (close0 m ρ K c (kS 4) (none_kS 4 c hc)) $$ [A4] with A4
  · isplitr; · iexact HR
    iexact A4
  imod (close0 m ρ K c (kS 5) (none_kS 5 c hc)) $$ [A5] with A5
  · isplitr; · iexact HR
    iexact A5
  imod (close0 m ρ K c (kS 6) (none_kS 6 c hc)) $$ [A6] with A6
  · isplitr; · iexact HR
    iexact A6
  imod (close1 m ρ K c kR) $$ [A7] with A7
  · isplitr; · iexact HR
    iexact A7
  imod (close1 m ρ K c (bS 0)) $$ [A8] with A8
  · isplitr; · iexact HR
    iexact A8
  imod (close1 m ρ K c (bS 1)) $$ [A9] with A9
  · isplitr; · iexact HR
    iexact A9
  imod (close1 m ρ K c (bS 2)) $$ [A10] with A10
  · isplitr; · iexact HR
    iexact A10
  imod (close1 m ρ K c (bR 0)) $$ [A11] with A11
  · isplitr; · iexact HR
    iexact A11
  imod (close1 m ρ K c (bR 1)) $$ [A12] with A12
  · isplitr; · iexact HR
    iexact A12
  imod (close1 m ρ K c (bR 2)) $$ [A13] with A13
  · isplitr; · iexact HR
    iexact A13
  imod (close0 m ρ K c ak (none_ak c hc)) $$ [A14] with A14
  · isplitr; · iexact HR
    iexact A14
  imod (close1 m ρ K c br) $$ [A15] with A15
  · isplitr; · iexact HR
    iexact A15
  try unfold WP
  rw [wp_ret]; imodintro
  iapply Hk
  unfold bodyOut
  rw [sep16 fun k => semVal (cell c k) 0]
  isplitl [HO]; · iexact HO
  isplitl [A0 A1 A2 A3 A4 A5 A6 A7 A8 A9 A10 A11 A12 A13 A14 A15]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    isplitl [A12]; · iexact A12
    isplitl [A13]; · iexact A13
    isplitl [A14]; · iexact A14
    iexact A15
  isplitl [HX]; · iexact HX
  isplitl [HW]; · iexact HW
  isplitl [HK]; · iexact HK
  isplitl [HV]; · iexact HV
  isplitl [HWo]; · iexact HWo
  isplitl [H5]; · iexact H5
  isplitl [Z0]; · iexact Z0
  isplitl [Hkv]; · iapply (someAll_intro c (i := cc0_scratch1.idx) (hκ := cc0_scratch1.names) _); iexact Hkv
  isplitl [Z2]; · iapply (someAll_intro c (i := cc0_scratch2.idx) (hκ := cc0_scratch2.names) _); iexact Z2
  isplitl [Z3]; · iexact Z3
  iapply (rb_glue c)
  isplitl [S0]; · iapply (val_some c (rbSlot 0) _); iexact S0
  isplitl [S1]; · iapply (val_some c (rbSlot 1) _); iexact S1
  iapply (val_some c (rbSlot 2) _); iexact S2

/-- The body of any device. -/
theorem body_spec (c : Dev nD) {Q : PUnit → sProp 𝕄} :
    bodyIn m ρ K c ⊢ iprop((bodyOut m ρ c -∗ Q ⟨⟩) -∗ WP c (cc0_body (F := F) xM (Memref.isWhole_whole _) wqM (Memref.isWhole_whole _) kM (Memref.isWhole_whole _) vM (Memref.isWhole_whole _) woM (Memref.isWhole_whole _) oM (Memref.isWhole_whole _) stM (Memref.isWhole_whole _) kvM (Memref.isWhole_whole _) accM (Memref.isWhole_whole _) sbM (Memref.isWhole_whole _) rbM (Memref.isWhole_whole _) cc0_scratch5 cc0_scratch6 cc0_scratch7 cc0_scratch8 cc0_scratch9) Q) := by
  by_cases hc : c = 0
  · subst hc; exact body_zero m ρ K
  · exact body_pos m ρ K c hc

end Cert.KernelIdealRun
-- ==== Proof.KernelIdeal.Launch.lean ====
/-
# The launch

The eight devices are started together: the records of all cells are minted once, the rights to pay are handed to the
devices that pay, every cell's counter goes into its record, and each device gets the credit the others will send it.
From there the body of each device runs (`BodyD`), and at the end every counter is back at zero.
-/
module

public import Idealize.ShloMosaic.Lib.Pipeline.CollectiveSegs
public import proofs.«01_k».proof.Proof.KernelIdeal.BodyD
public import proofs.«01_k».proof.Proof.Gen.KernelIdeal.Points

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The pipeline's data -/

/-- The kernel's own semaphores. -/
abbrev osem : Fin 15 → SemLoc sig := fun k => ksem k.castSucc

/-- What a device holds besides its buffers: the records, its places, its rights, its credit, the levels. -/
def G' (c : Dev nD) : sProp 𝕄 := iprop(∃ K, records m ρ K ∗ (bigSep Finset.univ fun k => at0 (F := F) c k) ∗ bigSep Finset.univ fun k => payT (F := F) c k)
def start (c : Dev nD) : sProp 𝕄 := iprop(G' m ρ c ∗ (bigSep Finset.univ fun k => crT (F := F) c k) ∗ levAts L lv)
def scrAll (c : Dev nD) : sProp 𝕄 :=
  iprop(someAll (F := F) c cc0_scratch0 ∗ someAll (F := F) c cc0_scratch1 ∗ someAll (F := F) c cc0_scratch2 ∗ someAll (F := F) c cc0_scratch3 ∗ someAll (F := F) c cc0_scratch4)
def Φ₀ (c : Dev nD) : sProp 𝕄 := iprop(start m ρ c ∗ scrAll (F := F) c)
def Φ₁ (c : Dev nD) : sProp 𝕄 := iprop((bigSep Finset.univ fun k => semVal (cell c k) 0) ∗ scrAll (F := F) c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => X0 m ρ c
    | ⟨1, _⟩ => X1 m ρ c
    | ⟨2, _⟩ => X2 m ρ c
    | ⟨3, _⟩ => X3 m ρ c
    | ⟨4, _⟩ => X4 m ρ c
    | ⟨5, _⟩ => outC m ρ c
  Φ t := match t with
    | ⟨0, _⟩ => Φ₀ m ρ c
    | ⟨_ + 1, _⟩ => Φ₁ (F := F) c
  q _ := fullShare
  owed t := match t with
    | ⟨0, _⟩ => O₀ c
    | ⟨_ + 1, _⟩ => 0

theorem owns_all (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

/-! ## The obligation of the body -/

def obPre (c : Dev nD) : sProp 𝕄 :=
  iprop(Φ₀ m ρ c ∗ (dats m ρ 0 c).owesAt () t0_0.castSucc ∗ (∃ d, stg c cc0_stg0_0 ((dats m ρ 0 c).before (0 : Fin 6) t0_0 d)) ∗ (∃ d, stg c cc0_stg1_0 ((dats m ρ 0 c).before (1 : Fin 6) t0_0 d)) ∗ (∃ d, stg c cc0_stg2_0 ((dats m ρ 0 c).before (2 : Fin 6) t0_0 d)) ∗ (∃ d, stg c cc0_stg3_0 ((dats m ρ 0 c).before (3 : Fin 6) t0_0 d)) ∗ (∃ d, stg c cc0_stg4_0 ((dats m ρ 0 c).before (4 : Fin 6) t0_0 d)) ∗ (∃ d, stg c cc0_stg5_0 ((dats m ρ 0 c).before (5 : Fin 6) t0_0 d)))
def obPost (c : Dev nD) : sProp 𝕄 :=
  iprop(Φ₁ (F := F) c ∗ (dats m ρ 0 c).owesAt () t0_0.succ ∗ stg c cc0_stg0_0 (X0 m ρ c) ∗ stg c cc0_stg1_0 (X1 m ρ c) ∗ stg c cc0_stg2_0 (X2 m ρ c) ∗ stg c cc0_stg3_0 (X3 m ρ c) ∗ stg c cc0_stg4_0 (X4 m ρ c) ∗ stg c cc0_stg5_0 (outC m ρ c))

set_option maxRecDepth 8000 in
theorem ob_run (c : Dev nD) : obPre m ρ c ⊢ WP c (cc0_body (F := F) xM (Memref.isWhole_whole _) wqM (Memref.isWhole_whole _) kM (Memref.isWhole_whole _) vM (Memref.isWhole_whole _) woM (Memref.isWhole_whole _) oM (Memref.isWhole_whole _) stM (Memref.isWhole_whole _) kvM (Memref.isWhole_whole _) accM (Memref.isWhole_whole _) sbM (Memref.isWhole_whole _) rbM (Memref.isWhole_whole _) cc0_scratch5 cc0_scratch6 cc0_scratch7 cc0_scratch8 cc0_scratch9) (fun _ => obPost m ρ c) := by
  unfold obPre Φ₀ start G' scrAll Dat.owesAt Pipeline.owesWithin
  iintro ⟨⟨⟨⟨%K, HR, HA, HT⟩, HC, HL⟩, Z0, Z1, Z2, Z3, Z4⟩, ⟨%W, %hW, HO⟩, ⟨%d0, %g0, %hg0, HX⟩, ⟨%d1, %g1, %hg1, HW⟩, ⟨%d2, %g2, %hg2, HK⟩, ⟨%d3, %g3, %hg3, HV⟩, ⟨%d4, %g4, %hg4, HWo⟩, ⟨%d5, %g5, %hg5, H5⟩⟩
  have h0 : g0 = X0 m ρ c := by rw [hg0]; unfold Dat.before; rw [if_pos (fetch0_0 t0_0)]; rfl
  subst h0
  have h1 : g1 = X1 m ρ c := by rw [hg1]; unfold Dat.before; rw [if_pos (fetch0_1 t0_0)]; rfl
  subst h1
  have h2 : g2 = X2 m ρ c := by rw [hg2]; unfold Dat.before; rw [if_pos (fetch0_2 t0_0)]; rfl
  subst h2
  have h3 : g3 = X3 m ρ c := by rw [hg3]; unfold Dat.before; rw [if_pos (fetch0_3 t0_0)]; rfl
  subst h3
  have h4 : g4 = X4 m ρ c := by rw [hg4]; unfold Dat.before; rw [if_pos (fetch0_4 t0_0)]; rfl
  subst h4
  rw [show (dats m ρ 0 c).owed t0_0.castSucc = O₀ c from rfl]
  ihave HO : ow c (O₀ c) $$ [HO]
  · unfold ow; iexists W; iexact HO
  ihave H5 := (someAll_intro c (i := cc0_stg5_0.idx) (hκ := cc0_stg5_0.names) _) $$ H5
  iapply (body_spec m ρ K c) $$ [HR HL HO HT HA HC HX HW HK HV HWo H5 Z0 Z1 Z2 Z3 Z4]
  · unfold bodyIn
    isplitl [HR]; · iexact HR
    isplitl [HL]; · iexact HL
    isplitl [HO]; · iexact HO
    isplitl [HT]; · iexact HT
    isplitl [HA]; · iexact HA
    isplitl [HC]; · iexact HC
    isplitl [HX]; · iexact HX
    isplitl [HW]; · iexact HW
    isplitl [HK]; · iexact HK
    isplitl [HV]; · iexact HV
    isplitl [HWo]; · iexact HWo
    isplitl [H5]; · iexact H5
    isplitl [Z0]; · iexact Z0
    isplitl [Z1]; · iexact Z1
    isplitl [Z2]; · iexact Z2
    isplitl [Z3]; · iexact Z3
    iexact Z4
  unfold bodyOut
  iintro ⟨HO, HA, HX, HW, HK, HV, HWo, H5, HZ⟩
  unfold obPost Φ₁ scrAll Dat.owesAt Pipeline.owesWithin
  rw [show (dats m ρ 0 c).owed t0_0.succ = 0 from rfl]
  unfold ow
  icases HO with ⟨%W', HO⟩
  isplitl [HA HZ]
  · isplitl [HA]; · iexact HA
    iexact HZ
  isplitl [HO]
  · iexists W'
    isplitr; · ipureintro; exact fun _ _ => Or.inl trivial
    iexact HO
  isplitl [HX]
  · iexists _; isplitr; · (ipureintro; rfl)
    iexact HX
  isplitl [HW]
  · iexists _; isplitr; · (ipureintro; rfl)
    iexact HW
  isplitl [HK]
  · iexists _; isplitr; · (ipureintro; rfl)
    iexact HK
  isplitl [HV]
  · iexists _; isplitr; · (ipureintro; rfl)
    iexact HV
  isplitl [HWo]
  · iexists _; isplitr; · (ipureintro; rfl)
    iexact HWo
  iexists _; isplitr; · (ipureintro; rfl)
  iexact H5

set_option maxRecDepth 8000 in
theorem body_obligation (c : Dev nD) : BodyObligation (dats (F := F) m ρ 0 c) (defs₀ (F := F)) 𝒱₀ () Set.univ := fun t => by
  rw [fin_N0 t]
  rw [bigSep_W0, bigSep_W0]
  simp only [owns_all]
  exact ob_run m ρ c

/-! ## Minting -/

def cellAt (p : Dev nD × Fin 16) : GSem nD τ sig := cell p.1 p.2
theorem cellAt_inj : Function.Injective cellAt := fun p q h => Prod.ext (cell_inj h).1 (cell_inj h).2
def ringCells : Finset (GSem nD τ sig) := Finset.univ.map ⟨cellAt, cellAt_inj⟩

/-- Every duty of every cell: whose cell, which, who pays. -/
def tokAt (x : Dev nD × Fin 16 × Dev nD) : GSem nD τ sig × ℕ × Dev nD := (cell x.1 x.2.1, 0, x.2.2)
theorem tokAt_inj : Function.Injective tokAt := fun x y h => by
  have h1 := cell_inj (congrArg Prod.fst h)
  exact Prod.ext h1.1 (Prod.ext h1.2 (congrArg (fun z => z.2.2) h))
def ringToks : Finset (GSem nD τ sig × ℕ × Dev nD) := (Finset.univ.filter fun x : Dev nD × Fin 16 × Dev nD => pays x.2.1 x.2.2 x.1 = true).map ⟨tokAt, tokAt_inj⟩

def u₀ : UU :=
  (initOf (Pipeline.cells cfgs cellOf_inj) (Pipeline.launchToks cfgs cellOf_inj), initOf ringCells ringToks)

/-- The duties of a device's own cells. -/
def toks (c : Dev nD) : sProp 𝕄 :=
  bigSep Finset.univ fun k : Fin 16 => bigSep Finset.univ fun d : Dev nD => if pays k d c = true then tok (F := F) c k d else iprop(emp)

/-- What minting gives a device. -/
def G (c : Dev nD) : sProp 𝕄 :=
  iprop((bigSep Finset.univ fun k : Fin 16 => roundState ER (Rd m ρ) (cell c k) 0)
    ∗ ((bigSep Finset.univ fun k : Fin 16 => at0 (F := F) c k) ∗ (bigSep Finset.univ fun k : Fin 16 => reached ER (cell c k) 0)) ∗ toks (F := F) c)

theorem cells_eq (Φ : GSem nD τ sig → sProp 𝕄) : bigSep ringCells Φ = bigSep Finset.univ fun c : Dev nD => bigSep Finset.univ fun k : Fin 16 => Φ (cell c k) := by
  unfold ringCells; rw [bigSep_map, bigSep_univ_prod]; rfl
theorem toks_eq : bigSep ringToks (fun x => (dutyTok ER x.1 x.2.1 x.2.2 : sProp 𝕄)) = bigSep Finset.univ fun c : Dev nD => toks (F := F) c := by
  unfold ringToks toks
  rw [bigSep_map]
  have h := bigSep_filter Finset.univ (fun x : Dev nD × Fin 16 × Dev nD => pays x.2.1 x.2.2 x.1 = true) (fun x => tok (F := F) x.1 x.2.1 x.2.2)
  rw [bigSep_univ_prod] at h
  refine h.trans (bigSep_congr fun c _ => ?_)
  rw [bigSep_univ_prod]
  rfl

theorem fund_ring : BI.own (ER (initOf ringCells ringToks)) ⊢ (|==> bigSep Finset.univ (G m ρ) : sProp 𝕄) := by
  iintro HX
  imod (Rounds.fund ER (Rd m ρ) ringCells ringToks) $$ HX with ⟨Hst, Hr, Hat, Htok⟩
  imodintro
  ihave Hst := (Entails.of_eq (cells_eq fun g => roundState ER (Rd m ρ) g 0)) $$ Hst
  ihave Hat := (Entails.of_eq (cells_eq fun g => atPos ER g 0 ∅ 0)) $$ Hat
  ihave Hr := (Entails.of_eq (cells_eq fun g => reached ER g 0)) $$ Hr
  ihave Htok := (Entails.of_eq (toks_eq (F := F))) $$ Htok
  unfold G; simp only [bigSep_sep']
  isplitl [Hst]; · iexact Hst
  isplitl [Hat Hr]
  · isplitl [Hat]; · iexact Hat
    iexact Hr
  iexact Htok

/-! ## Placing the records -/

theorem split16 (Φ : Fin 16 → sProp 𝕄) : bigSep Finset.univ Φ = iprop((bigSep Finset.univ fun k : Fin 15 => Φ k.castSucc) ∗ Φ br) := by
  rw [bigSep_univ_at Φ br, show (Finset.univ : Finset (Fin 16)).erase br = (Finset.univ : Finset (Fin 15)).map Fin.castSuccEmb by decide, bigSep_map]
  exact equiv_iff.mp ⟨BI.sep_comm, BI.sep_comm⟩

theorem unscoped_eq (c : Dev nD) : (unscopedSems0 c : sProp 𝕄) = semVal (cell c br) 0 := by
  unfold unscopedSems0; rw [bigSep_eq_bigSepL_of_eq [ksem br] (by decide) (by decide)]; rfl

theorem sems_eq (c : Dev nD) :
    iprop(Pipeline.ownSems0 (Ix := Unit) (Name := ℕ) (U := UU) (Lvl := ℕ) (Val := Elt F) (τ := τ) osem c ∗ unscopedSems0 c)
      = (bigSep Finset.univ fun k : Fin 16 => semVal (cell c k) 0 : sProp 𝕄) := by
  rw [split16, unscoped_eq]; rfl

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (Rd (F := F) m ρ) κ (cell c k)))
          ∗ ((bigSep Finset.univ fun k : Fin 16 => at0 (F := F) c k) ∗ (bigSep Finset.univ fun k : Fin 16 => reached ER (cell c k) 0)) ∗ toks (F := F) c) := by
  unfold G
  iintro ⟨Hos, Hus, Hst, Hat, Htok⟩
  ihave Hv := (Entails.of_eq (sems_eq (F := F) c)) $$ [Hos Hus]
  · isplitl [Hos] <;> iassumption
  imod (show iprop((bigSep Finset.univ fun k : Fin 16 => semVal (cell c k) 0) ∗ bigSep Finset.univ fun k : Fin 16 => roundState ER (Rd m ρ) (cell c k) 0)
      ⊢ (|={Set.univ}=> bigSep Finset.univ fun k => iprop(∃ κ : ℕ, cellInv ER (Rd m ρ) κ (cell c k)) : sProp 𝕄) from by
        rw [← bigSep_sep']
        exact (bigSep_mono fun k _ => (Rounds.body_intro ER (Rd m ρ) (cell c k)).trans inv_alloc).trans (bigSep_fupd _ _)) $$ [Hv Hst] with Hinv
  · isplitl [Hv] <;> iassumption
  imodintro
  isplitl [Hinv]; · iexact Hinv
  isplitl [Hat]; · iexact Hat
  iexact Htok

/-- The rights go from the cells they belong to, to the devices that pay. -/
theorem toks_swap : (bigSep Finset.univ fun c : Dev nD => toks (F := F) c) = bigSep Finset.univ fun c : Dev nD => bigSep Finset.univ fun k => payT (F := F) c k := by
  unfold toks payT
  rw [BI.bigSep_univ_comm (fun (c : Dev nD) (k : Fin 16) => bigSep Finset.univ fun d : Dev nD => if pays k d c = true then tok (F := F) c k d else iprop(emp)),
    BI.bigSep_univ_comm (fun (c : Dev nD) (k : Fin 16) => bigSep Finset.univ fun n : Dev nD => if pays k c n = true then tok (F := F) n k c else iprop(emp))]
  exact bigSep_congr fun k _ => BI.bigSep_univ_comm (fun (c : Dev nD) (d : Dev nD) => if pays k d c = true then tok (F := F) c k d else iprop(emp))

theorem to_each {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd (F := F) m ρ) κ (cell c k)))
          ∗ ((bigSep Finset.univ fun k : Fin 16 => at0 (F := F) c k) ∗ (bigSep Finset.univ fun k : Fin 16 => reached ER (cell c k) 0)) ∗ toks (F := F) c) : sProp 𝕄)
      ⊢ bigSep Finset.univ (G' m ρ) := by
  rw [bigSep_sep', bigSep_sep', bigSep_sep', toks_swap,
    ← bigSep_univ_prod (fun p : Dev nD × Fin 16 => iprop(∃ κ : ℕ, cellInv ER (Rd (F := F) m ρ) κ (cell p.1 p.2))),
    ← bigSep_univ_prod (fun p : Dev nD × Fin 16 => (reached ER (cell p.1 p.2) 0 : sProp 𝕄))]
  iintro ⟨HI, ⟨Hat, #HR⟩, Htok⟩
  ihave HK := (BI.bigSep_exists_pi Finset.univ (fun (p : Dev nD × Fin 16) (κ : ℕ) => (cellInv ER (Rd (F := F) m ρ) κ (cell p.1 p.2) : sProp 𝕄))) $$ HI
  icases HK with ⟨%K, #HI⟩
  iapply (to_each (R := records m ρ K) (Φ := fun c => iprop((bigSep Finset.univ fun k => at0 (F := F) c k) ∗ bigSep Finset.univ fun k => payT (F := F) c k))
    (fun c _ => show _ ⊢ G' m ρ c from by unfold G'; iintro ⟨#HR, HL⟩; iexists K; isplitr; · iexact HR
                                          iexact HL))
  isplitr
  · unfold records
    rw [bigSep_sep']
    isplitl; · iexact HI
    iexact HR
  · rw [bigSep_sep']
    isplitl [Hat]; · iexact Hat
    iexact Htok

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

theorem tally_cell (x : Dev nD) (k' : Fin 16) (a : ℕ) (c : Dev nD) (k : Fin 16) :
    (tallyAt (cell x k') () a : CellTallies nD τ sig Unit) (cell c k) () = if c = x ∧ k = k' then a else 0 := by
  rw [tallyAt_apply]
  refine if_congr ⟨fun h => cell_inj h.1, fun h => ⟨by rw [h.1, h.2], rfl⟩⟩ rfl rfl

theorem bar_part (d c : Dev nD) (k : Fin 16) : barO d (cell c k) () = if k = br then (if d ≠ c then 1 else 0) else 0 := by
  have h : ∀ n : Dev nD, sB d n (cell c k) () = if d ≠ n ∧ c = n ∧ k = br then 1 else 0 := fun n => by
    unfold sB
    by_cases hn : d = n
    · rw [if_pos hn, if_neg (fun h => h.1 hn)]; rfl
    · rw [if_neg hn, tally_cell]; exact if_congr ⟨fun h => ⟨hn, h⟩, fun h => h.2⟩ rfl rfl
  unfold barO
  simp only [Pi.add_apply, Finsupp.add_apply, h]
  clear h
  revert d c k; decide +kernel
theorem ka_part (d c : Dev nD) (k : Fin 16) :
    kaO d (cell c k) () = if k = kR then (if d = 0 ∧ c ≠ 0 then Nkv else 0) else if k = ak then (if d ≠ 0 ∧ c = 0 then 1 else 0) else 0 := by
  unfold kaO
  by_cases hd : d = 0
  · subst hd
    rw [if_pos rfl]
    unfold kvO kvT
    simp only [Pi.add_apply, Finsupp.add_apply, tally_cell]
    generalize Nkv = N
    fin_cases c <;> by_cases hk : k = kR <;> simp (decide := true) [hk, rcv]
  · rw [if_neg hd, tally_cell]
    by_cases hk : k = ak
    · subst hk; simp (decide := true) [hd]
    · by_cases hk' : k = kR <;> simp (decide := true) [hk, hk', hd]
theorem bf_part (d c : Dev nD) (k : Fin 16) :
    bfO d (cell c k) () = if k = bR 0 then (if c = pt 0 d then Nbf else 0) else if k = bR 1 then (if c = pt 1 d then Nbf else 0)
      else if k = bR 2 then (if c = pt 2 d then Nbf else 0) else 0 := by
  unfold bfO bfT
  simp only [Pi.add_apply, Finsupp.add_apply, tally_cell]
  generalize Nbf = N
  by_cases h0 : k = bR 0
  · subst h0; simp
  · by_cases h1 : k = bR 1
    · subst h1; simp
    · by_cases h2 : k = bR 2
      · subst h2; simp
      · simp [h0, h1, h2]

theorem due_of (c : Dev nD) (k : Fin 16) : ∑ d : Dev nD, O₀ d (cell c k) () = dueTo c k := by
  have h : ∀ d : Dev nD, O₀ d (cell c k) () = bfO d (cell c k) () + kaO d (cell c k) () + barO d (cell c k) () := fun d => rfl
  rw [Finset.sum_congr rfl fun d _ => h d]
  simp only [bar_part, ka_part, bf_part]
  unfold dueTo
  generalize Nkv = N
  generalize Nbf = N'
  rw [Fin.sum_univ_eight]
  fin_cases k <;> fin_cases c <;> simp (decide := true)

theorem launch_due (c : Dev nD) (k : Fin 16) :
    tallyOn (cell c k) (launchCredit (Pipeline.owing O₀) 0 (cell c k)) = (tallyAt (cell c k) () (dueTo c k) : CellTallies nD τ sig Unit) := by
  unfold tallyAt; refine congrArg _ (Finsupp.ext fun u => ?_); cases u
  rw [Pipeline.launchCredit_owing, Finsupp.single_eq_same, due_of]

theorem creds (c : Dev nD) : (Pipeline.launchCred O₀ c : sProp 𝕄) ⊢ bigSep Finset.univ fun k => crT (F := F) c k := by
  unfold Pipeline.launchCred
  have h : (bigSep ((Finset.univ : Finset (Fin 16)).map ⟨ksem, ksem_inj⟩) fun sm : SemLoc sig => (cred (tallyOn ((c : Thread nD τ), sm) (launchCredit (Pipeline.owing O₀) 0 ((c : Thread nD τ), sm))) : sProp 𝕄))
      = bigSep Finset.univ fun k => crT (F := F) c k := by
    rw [bigSep_map]
    exact bigSep_congr fun k _ => by show cred (tallyOn (cell c k) (launchCredit (Pipeline.owing O₀) 0 (cell c k))) = crT c k; rw [launch_due]
  rw [← h]
  exact (Entails.of_eq rfl).trans (BI.bigSep_subset (Finset.subset_univ _))

/-! ## The side conditions of the launch -/

theorem ownSemFacts : Pipeline.OwnSemFacts cfg0.spec osem := by decide

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scrAll someAll
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scopedRest0_eq]
  unfold Φ₁
  rw [← sems_eq]
  unfold scrAll someAll
  iintro ⟨⟨Ho, Hu⟩, Hr⟩
  isplitl [Hu]; · iexact Hu
  isplitl [Ho]; · iexact Ho
  iexact Hr

theorem stage_level (c : Dev nD) (w : Fin 6) (s : Fin (spec0 w).nbuf) : lv ((c : Thread nD τ), SemLoc.dma ((spec0 w).sem s)) () ≤ 0 := by
  have h : kindOf (SemLoc.dma ((spec0 w).sem s)) = none := by clear c; fin_cases w <;> fin_cases s <;> decide
  unfold lv; rw [h]

theorem waits (c : Dev nD) : (levAts L lv : sProp 𝕄) ⊢ Pipeline.cellsWaits cfgs (dats m ρ) () 0 c :=
  Pipeline.cellsWaits_intro cfgs (dats m ρ) () 0 c fun w s t =>
    mayWait_of c _ 0 (stage_level c w s) _ (by
      rcases t with ⟨_ | _, ht⟩
      · exact above_O₀ c
      · exact Above.zero 0)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters, every weakly fair execution of the program ends, with every array at the
    contents the pipeline's data give it and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdealRun
-- ==== Proof.KernelIdeal.Final.lean ====
/-
# The arrays at the end

What a run leaves in the arrays of each device: the arguments as they were, and in the result the value named in `Vals`.
-/
module

public import proofs.«01_k».proof.Proof.KernelIdeal.Launch
public import Idealize.ShloMosaic.Lib.Pipeline.ValueKit

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

theorem finalA_in (c : Dev nD) (w : Fin cfg0.W) (h : (cfg0.win w).isOut = false) :
    finalA m ρ c w = (s₀ m ρ).mem ((cfg0.win w).arr.view.loc (c : Thread nD τ)) :=
  (dats m ρ 0 c).arrAt_in w h _

/-- The result array after the run is what the body left in its window: the window is the whole array. -/
theorem finalA_out (c : Dev nD) : finalA m ρ c (5 : Fin 6) = outC m ρ c := by
  funext i
  exact (dats m ρ 0 c).arrAt_emb_eq_after_last (5 : Fin 6) t0_0 (by decide +kernel) i

/-- From any memory with zero counters every fair execution ends with the result of each device at `outC`, its arguments as
    they were, and every counter at zero. -/
theorem run_value : θ_run defs (onTc (τ := τ) (main (F := F))) (s₀ m ρ) (fun r => (∀ c : Dev nD,
      r.2.mem ((c : Thread nD τ).loc main_v1) = outC m ρ c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4))
      ∧ r.2.sem = fun _ => 0) :=
  (θ_run defs _ _).mono (fun _ h => ⟨fun c => ⟨(h.1 c (5 : Fin 6)).trans (finalA_out m ρ c),
    (h.1 c (0 : Fin 6)).trans (finalA_in m ρ c 0 rfl), (h.1 c (1 : Fin 6)).trans (finalA_in m ρ c 1 rfl),
    (h.1 c (2 : Fin 6)).trans (finalA_in m ρ c 2 rfl), (h.1 c (3 : Fin 6)).trans (finalA_in m ρ c 3 rfl),
    (h.1 c (4 : Fin 6)).trans (finalA_in m ρ c 4 rfl)⟩, h.2⟩) (run_main m ρ)

end Cert.KernelIdealRun
-- ==== Proof.Claims.lean ====
/-
# The claims of running, and the ledger

Each program ends without a fault, with its arguments as they were and its counters at zero; and the ideal program differs
from the kernel in the named mask alone.
-/
module

public import proofs.«01_k».proof.Defs
public import proofs.«01_k».proof.Proof.Kernel.Final
public import proofs.«01_k».proof.Proof.KernelIdeal.Final
public import proofs.«01_k».proof.Proof.Gen.ReferenceIdeal.Run
public import Idealize.ShloMosaic.Lib.Quiescent

@[expose] public section

noncomputable section

namespace Cert.Attn

open Idealize.ShloMosaic Idealize.SL.Sem

/-- The kernel at its words. -/
theorem frame_p : Cert.quiescent_Kernel := fun m ρ _ =>
  (θ_run Cert.Kernel.defs _ _).mono (fun _ h => ⟨fun c => (h.1 c).2, h.2⟩) (Cert.KernelRun.run_value (F := Bits) m ρ)

/-- The kernel over the extended reals. -/
theorem frame_pi : Cert.quiescent_KernelIdeal := fun m ρ _ =>
  (θ_run Cert.KernelIdeal.defs _ _).mono (fun _ h => ⟨fun c => (h.1 c).2, h.2⟩) (Cert.KernelIdealRun.run_value (F := Ideal) m ρ)

/-- The reference over the extended reals: it has no semaphores. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The ideal program's one kind of change: the mask's number is minus infinity. -/
theorem ledger : Cert.preserves_Kernel_KernelIdeal :=
  IdealRules.named_const.statement Cert.KernelIdeal.κ "mask" .f32 0xCE6E6B28#32 ⊥ rfl

end Cert.Attn
-- ==== Proof.Value.Head.lean ====
/-
# One head of attention, as the kernel computes it

The kernel's eight heads (four for each batch entry) are the same computation on other slices. `headV` is that
computation; `top_eq` and `bot_eq` say that the accumulated rows are four of them in a row, starting at zero.
-/
module

public import proofs.«01_k».proof.Proof.KernelIdeal.Vals
public import Idealize.ShloMosaic.Lib.Pointwise

@[expose] public section

noncomputable section

namespace Cert.Attn

open Cert.KernelIdeal Cert.KernelIdeal.Gen Cert.KernelIdealRun

open Idealize.ShloMosaic
open Idealize.ShloMosaic.TcCoe

variable {F : FTy → Type} [FloatOps F] [Named F]

/-- The scores: an eighth of the products of queries and keys, the mask where the key lies in a later block. -/
def scoreV (q : FVec F S128x64 .bf16) (k : Vec F S1x1x128x1x64 .bf16) : FVec F S128x128 .f32 :=
  select mk
    (mulf (matmul dot_S128x64_S128x64_S128x128_1_1_0_0_n_n none q (shapeCast S128x64 k shapeCasts_S1x1x128x1x64_S128x64 : FVec F S128x64 .bf16)
      (constant S128x128 .f32 0x00000000#32)) (broadcast S128x128 (Scalar.ofBits .f32 0x3E000000#32 : F .f32)))
    (broadcast S128x128 (Named.named κ "mask" 0xCE6E6B28#32 : F .f32))

/-- The exponentials of the scores less their row's greatest. -/
def expV (s : FVec F S128x128 .f32) : FVec F S128x128 .f32 :=
  exp (subf s (broadcastTo S128x128
    (shapeCast S128x1 (multiReduction .maximumf [1] S128 s 0xFF800000#32 reduces_S128x128_S128 (.inl rfl) rfl) shapeCasts_S128_S128x1 : FVec F S128x1 .f32)
    broadcasts_S128x1_S128x128))

/-- The weights: each row's exponentials divided by their sum. -/
def weightV (e : FVec F S128x128 .f32) : FVec F S128x128 .f32 :=
  divf e (broadcastTo S128x128
    (shapeCast S128x1 (multiReduction .add [1] S128 e 0x00000000#32 reduces_S128x128_S128 (.inl rfl) rfl) shapeCasts_S128_S128x1 : FVec F S128x1 .f32)
    broadcasts_S128x1_S128x128)

/-- One head: weights times values times the head's rows of the output projection, added to what was there. -/
def headV (q : FVec F S128x64 .bf16) (k v : Vec F S1x1x128x1x64 .bf16) (w : FVec F S64x512 .f32) (acc : FVec F S128x512 .f32) :
    FVec F S128x512 .f32 :=
  addf acc (matmul dot_S128x64_S64x512_S128x512_1_0_0_1_n_n none
    (matmul dot_S128x128_S128x64_S128x64_1_0_0_1_n_n none (truncf .bf16 (weightV (expV (scoreV q k))) bitsLt_bf16_f32)
      (shapeCast S128x64 v shapeCasts_S1x1x128x1x64_S128x64 : FVec F S128x64 .bf16) (constant S128x64 .f32 0x00000000#32))
    w (constant S128x512 .f32 0x00000000#32))

section
variable (q : FVec F S256x256 .bf16) (w : FVec F S256x512 .f32) (acc : FVec F S128x512 .f32) (k v k' v' : Vec F S1x1x128x1x64 .bf16)

theorem step28 : k0_pay28 q mk w acc (k0_pay25 v) (k0_pay26 q k0_pay20 col 64#32 k0_pay21 0#32 k) (k0_pay27 q k0_pay20 col 64#32 k0_pay21 0#32 k) k' v' =
    headV (extractStridedSlice S128x64 ![0, 64] q slices_S256x256_o0_64_S128x64) k' v'
      (extractStridedSlice S64x512 ![64, 0] w slices_S256x512_o64_0_S64x512)
    (headV (extractStridedSlice S128x64 ![0, 0] q slices_S256x256_o0_0_S128x64) k v
      (extractStridedSlice S64x512 ![0, 0] w slices_S256x512_o0_0_S64x512) acc) := rfl
theorem step30 : k0_pay30 mk w acc (k0_pay29 q) k v =
    headV (extractStridedSlice S128x64 ![0, 128] q slices_S256x256_o0_128_S128x64) k v
      (extractStridedSlice S64x512 ![128, 0] w slices_S256x512_o128_0_S64x512) acc := rfl
theorem step33 : k0_pay33 w acc (k0_pay31 v) (k0_pay32 q mk k) =
    shapeCast S128x512 (headV (extractStridedSlice S128x64 ![0, 192] q slices_S256x256_o0_192_S128x64) k v
      (extractStridedSlice S64x512 ![192, 0] w slices_S256x512_o192_0_S64x512) acc) shapeCasts_S128x512_S128x512 := rfl
theorem step37 : k0_pay37 q mk w acc (k0_pay35 v) (k0_pay36 q mk k) k' v' =
    headV (extractStridedSlice S128x64 ![128, 64] q slices_S256x256_o128_64_S128x64) k' v'
      (extractStridedSlice S64x512 ![64, 0] w slices_S256x512_o64_0_S64x512)
    (headV (extractStridedSlice S128x64 ![128, 0] q slices_S256x256_o128_0_S128x64) k v
      (extractStridedSlice S64x512 ![0, 0] w slices_S256x512_o0_0_S64x512) acc) := rfl
theorem step40 : k0_pay40 mk w acc (k0_pay38 q) (k0_pay39 k) v =
    headV (extractStridedSlice S128x64 ![128, 128] q slices_S256x256_o128_128_S128x64) k v
      (extractStridedSlice S64x512 ![128, 0] w slices_S256x512_o128_0_S64x512) acc := rfl
theorem step44 : k0_pay44 w acc (k0_pay41 v) (k0_pay42 q mk k) (k0_pay43 q mk k) =
    shapeCast S128x512 (headV (extractStridedSlice S128x64 ![128, 192] q slices_S256x256_o128_192_S128x64) k v
      (extractStridedSlice S64x512 ![192, 0] w slices_S256x512_o192_0_S64x512) acc) shapeCasts_S128x512_S128x512 := rfl

end

/-! ## Read at an index, over the extended reals -/

/-- The scores of one row. -/
def sc {n : Nat} (q : Fin 64 → EReal) (k : Fin n → Fin 64 → EReal) (vis : Fin n → Bool) (j : Fin n) : EReal :=
  if vis j then (∑ d, q d * k j d) * ((1 / 8 : ℝ) : EReal) else ⊥

/-- The exponential of a score less the greatest. -/
def ex {n : Nat} (s : Fin n → EReal) (j : Fin n) : EReal := Ideal.exp (s j - Finset.univ.fold max ⊥ s)

/-- The weight of a key. -/
def wt {n : Nat} (s : Fin n → EReal) (j : Fin n) : EReal := Ideal.div (ex s j) (∑ j', ex s j')

/-- Whether query `i` may look at key `j`: the key's block of 64 is the query's or an earlier one. -/
def vis (i j : Nat) : Bool := decide (j / 64 ≤ i / 64)

/-- A quotient rounded down, as both programs spell it on words: the quotient, less one where the signs differ and
    the division leaves a rest. -/
theorem fdiv64 : ∀ x : Fin 1024, Scalar.select
    (IntOp.andi
      (IntOp.cmpi CmpIPredicate.ne
        (IntOp.subi (BitVec.setWidth 32 (IntOp.cmpi CmpIPredicate.sgt (BitVec.ofNat 32 x) 0#32))
          (BitVec.setWidth 32 (IntOp.cmpi CmpIPredicate.slt (BitVec.ofNat 32 x) 0#32)))
        (Scalar.subi (Scalar.extui (Scalar.cmpi CmpIPredicate.sgt 64#32 0#32))
          (Scalar.extui (Scalar.cmpi CmpIPredicate.slt 64#32 0#32))))
      (IntOp.cmpi CmpIPredicate.ne (IntOp.remsi ArithUnit.vector (BitVec.ofNat 32 x) 64#32) 0#32))
    (IntOp.subi (IntOp.divsi ArithUnit.vector (BitVec.ofNat 32 x) 64#32) 1#32)
    (IntOp.divsi ArithUnit.vector (BitVec.ofNat 32 x) 64#32) = BitVec.ofNat 32 (x.val / 64) := by
  decide +kernel

theorem sle_word : ∀ a b : Fin 16, IntOp.cmpi CmpIPredicate.sle (BitVec.ofNat 32 a) (BitVec.ofNat 32 b) = BitVec.ofBool (decide (a.val ≤ b.val)) := by
  decide +kernel

set_option maxRecDepth 16384 in
theorem mk_apply (i j : Fin 128) : mk (ix2 i j) = BitVec.ofBool (vis i j) := by
  pointwise [mk, k0_pay22, k0_pay20, k0_pay21]
  have hi := fdiv64 ⟨i.val, by omega⟩
  have hj := fdiv64 ⟨j.val, by omega⟩
  dsimp only at hi hj
  rw [hi, hj]
  exact sle_word ⟨j.val / 64, by omega⟩ ⟨i.val / 64, by omega⟩

theorem neg_inf : Ideal.ofBits .f32 0xFF800000#32 = ⊥ := by simp [Ideal.ofBits, Ideal.ieee]

/-- An eighth. -/
theorem eighth : Ideal.ofBits .f32 0x3E000000#32 = ((1 / 8 : ℝ) : EReal) := by
  simp [Ideal.ofBits, Ideal.ieee, -EReal.coe_mul]; norm_num

theorem mask_word : (Named.named κ "mask" 0xCE6E6B28#32 : Ideal .f32) = (⊥ : EReal) :=
  IdealRules.named_const.ideal_named_scalar _ _ _ _ rfl

set_option maxRecDepth 16384 in
theorem scoreV_apply (q : FVec Ideal S128x64 .bf16) (k : Vec Ideal S1x1x128x1x64 .bf16) (i j : Fin 128) :
    scoreV q k (ix2 i j) = sc (fun d => q (ix2 i d)) (fun j d => k (ix5 0 0 j 0 d)) (fun j => vis i j) j := by
  unfold scoreV
  pointwise
  rw [mk_apply, mask_word, eighth, Scalar.select_ofBool]
  rfl

set_option maxRecDepth 16384 in
theorem expV_apply (s : FVec Ideal S128x128 .f32) (i j : Fin 128) :
    expV s (ix2 i j) = ex (fun j => s (ix2 i j)) j := by
  unfold expV ex
  pointwise
  rw [neg_inf]

set_option maxRecDepth 16384 in
theorem weightV_apply (s : FVec Ideal S128x128 .f32) (i j : Fin 128) :
    weightV (expV s) (ix2 i j) = wt (fun j => s (ix2 i j)) j := by
  unfold weightV wt
  pointwise
  simp only [expV_apply]

set_option maxRecDepth 16384 in
theorem headV_apply (q : FVec Ideal S128x64 .bf16) (k v : Vec Ideal S1x1x128x1x64 .bf16) (w : FVec Ideal S64x512 .f32) (acc : FVec Ideal S128x512 .f32)
    (i : Fin 128) (n : Fin 512) :
    headV q k v w acc (ix2 i n) = acc (ix2 i n) + ∑ d : Fin 64, (∑ j : Fin 128, wt (sc (fun d => q (ix2 i d)) (fun j d => k (ix5 0 0 j 0 d)) (fun j => vis i j)) j * v (ix5 0 0 j 0 d)) * w (ix2 d n) := by
  unfold headV
  pointwise
  simp only [weightV_apply, scoreV_apply]

end Cert.Attn
-- ==== Proof.Value.Share.lean ====
/-
# The share of one device, element by element
-/
module

public import proofs.«01_k».proof.Proof.Value.Head

@[expose] public section

noncomputable section

namespace Cert.Attn

open Cert.KernelIdeal Cert.KernelIdeal.Gen Cert.KernelIdealRun

open Idealize.ShloMosaic
open Idealize.ShloMosaic.TcCoe

/-- One head's contribution to an element of a device's share. -/
def hd (q : Fin 64 → EReal) (k v : Fin 128 → Fin 64 → EReal) (w : Fin 64 → EReal) (i : Fin 128) : EReal :=
  ∑ d : Fin 64, (∑ j : Fin 128, wt (sc q k (fun j => vis i j)) j * v j d) * w d

section
variable (q : FVec Ideal S256x256 .bf16) (w : FVec Ideal S256x512 .f32) (kv : (cc0_scratch1 : Ref sig .tc).ty.Contents (Elt Ideal))

/-- The contribution of head `h` of batch entry `b`. -/
def hdAt (b : Fin 2) (h : Fin 4) (i : Fin 128) (n : Fin 512) : EReal :=
  hd (fun d => q (ix2 ⟨128 * b + i, by omega⟩ ⟨64 * h + d, by omega⟩)) (fun j d => kv (ix5 0 b j h d)) (fun j d => kv (ix5 1 b j h d))
    (fun d => w (ix2 ⟨64 * h + d, by omega⟩ n)) i

theorem kvAt_apply (a b : Fin 2) (h : Fin 4) (hi) (j : Fin 128) (d : Fin 64) :
    kvAt (F := Ideal) kv ![a.val, b.val, 0, h.val, 0] hi (ix5 0 0 j 0 d) = kv (ix5 a b j h d) := by
  refine congrArg kv (funext fun x => ?_)
  fin_cases x <;> apply Fin.ext
  · exact Nat.add_zero _
  · exact Nat.add_zero _
  · show 0 + 1 * j.val = j.val; omega
  · exact Nat.add_zero _
  · show 0 + 1 * d.val = d.val; omega

set_option maxRecDepth 16384 in
theorem headV_at (b : Fin 2) (h : Fin 4) (oq : Fin 2 → Nat) (ok ov : Fin 5 → Nat) (ow : Fin 2 → Nat) (hq) (hk) (hv) (hw) (acc : FVec Ideal S128x512 .f32)
    (i : Fin 128) (n : Fin 512) (eq : oq = ![128 * b.val, 64 * h.val]) (ek : ok = ![0, b.val, 0, h.val, 0]) (ev : ov = ![1, b.val, 0, h.val, 0]) (ew : ow = ![64 * h.val, 0]) :
    headV (extractStridedSlice S128x64 oq q hq) (kvAt kv ok hk) (kvAt kv ov hv) (extractStridedSlice S64x512 ow w hw) acc (ix2 i n)
      = acc (ix2 i n) + hdAt q w kv b h i n := by
  subst eq ek ev ew
  have ek : ∀ (j : Fin 128) (d : Fin 64), kvAt (F := Ideal) kv ![0, b.val, 0, h.val, 0] hk (ix5 0 0 j 0 d) = kv (ix5 0 b j h d) :=
    fun j d => kvAt_apply kv 0 b h hk j d
  have ev : ∀ (j : Fin 128) (d : Fin 64), kvAt (F := Ideal) kv ![1, b.val, 0, h.val, 0] hv (ix5 0 0 j 0 d) = kv (ix5 1 b j h d) :=
    fun j d => kvAt_apply kv 1 b h hv j d
  rw [headV_apply]
  simp only [ek, ev]
  pointwise [hdAt, hd]

set_option maxRecDepth 16384 in
theorem top_apply (i : Fin 128) (n : Fin 512) : top q w kv (ix2 i n) = ∑ h : Fin 4, hdAt q w kv 0 h i n := by
  unfold top t2 t1
  rw [step33, step30, step28, Fin.sum_univ_four]
  pointwise
  rw [headV_at (b := 0) (h := 3), headV_at (b := 0) (h := 2), headV_at (b := 0) (h := 1), headV_at (b := 0) (h := 0)]
  · pointwise [k0_pay24]
  all_goals rfl

set_option maxRecDepth 16384 in
theorem bot_apply (i : Fin 128) (n : Fin 512) : bot q w kv (ix2 i n) = ∑ h : Fin 4, hdAt q w kv 1 h i n := by
  unfold bot b2 b1
  rw [step44, step40, step37, Fin.sum_univ_four]
  pointwise
  rw [headV_at (b := 1) (h := 3), headV_at (b := 1) (h := 2), headV_at (b := 1) (h := 1), headV_at (b := 1) (h := 0)]
  · pointwise [k0_pay34]
  all_goals rfl

end

section
variable (m : (ℓ : Loc nD τ sig) → Buf (Elt Ideal) ℓ) (ρ : Dev nD → PrngReg)

theorem stack_top (a b : FVec Ideal S128x512 .f32) (i : Fin 128) (n : Fin 512) :
    stack (F := Ideal) a b (ix2 ⟨128 * 0 + i.val, by omega⟩ n) = a (ix2 i n) := by
  unfold stack
  refine (dif_pos (show 128 * 0 + i.val < 128 by omega)).trans ?_
  refine congrArg a (funext fun x => ?_)
  fin_cases x <;> apply Fin.ext
  · show 128 * 0 + i.val = i.val; omega
  · rfl

theorem stack_bot (a b : FVec Ideal S128x512 .f32) (i : Fin 128) (n : Fin 512) :
    stack (F := Ideal) a b (ix2 ⟨128 * 1 + i.val, by omega⟩ n) = b (ix2 i n) := by
  unfold stack
  refine (dif_neg (show ¬ 128 * 1 + i.val < 128 by omega)).trans ?_
  refine congrArg b (funext fun x => ?_)
  fin_cases x <;> apply Fin.ext
  · show 128 * 1 + i.val - 128 = i.val; omega
  · rfl

/-- A device's share at batch entry `b`, row `i`. -/
theorem acc0_apply (c : Dev nD) (b : Fin 2) (i : Fin 128) (n : Fin 512) :
    acc0 m ρ c (ix2 ⟨128 * b + i, by omega⟩ n) = ∑ h : Fin 4, hdAt (qC m ρ c) (wC m ρ c) (kvC m ρ c) b h i n := by
  unfold acc0
  fin_cases b
  · exact (stack_top _ _ i n).trans (top_apply _ _ _ i n)
  · exact (stack_bot _ _ i n).trans (bot_apply _ _ _ i n)

/-- The arrays a device starts with, at their literal shapes. -/
abbrev xA (c : Dev nD) : S2x128x512.Idx → EReal := X0 m ρ c
abbrev wqA (c : Dev nD) : S512x256.Idx → EReal := X1 m ρ c
abbrev kA (c : Dev nD) : S2x128x32x64.Idx → EReal := X2 m ρ c
abbrev vA (c : Dev nD) : S2x128x32x64.Idx → EReal := X3 m ρ c
abbrev woA (c : Dev nD) : S256x512.Idx → EReal := X4 m ρ c

theorem qC_apply (c : Dev nD) (b : Fin 2) (i : Fin 128) (l : Fin 256) :
    qC m ρ c (ix2 ⟨128 * b + i, by omega⟩ l) = ∑ e : Fin 512, xA m ρ c (ix3 b i e) * wqA m ρ c (ix2 e l) := by
  unfold qC
  pointwise [k0_pay19]

theorem wC_apply (c : Dev nD) (l : Fin 256) (n : Fin 512) : wC m ρ c (ix2 l n) = woA m ρ c (ix2 l n) := by
  unfold wC
  pointwise [k0_pay23]

theorem kvC_apply0 (c : Fin 8) (b : Fin 2) (j : Fin 128) (h : Fin 4) (d : Fin 64) :
    kvC m ρ c (ix5 0 b j h d) = kA m ρ 0 (ix4 b j ⟨4 * c.val + h, by omega⟩ d) := by
  show headsK (X2 m ρ 0) c (ix4 b j h d) = _
  unfold headsK
  pointwise
  refine congrArg (X2 m ρ 0) (funext fun x => ?_)
  fin_cases x <;> apply Fin.ext
  · show 0 + 1 * b.val = b.val; omega
  · show 0 + 1 * j.val = j.val; omega
  · show 4 * c.val + 1 * h.val = 4 * c.val + h.val; omega
  · show 0 + 1 * d.val = d.val; omega

theorem kvC_apply1 (c : Fin 8) (b : Fin 2) (j : Fin 128) (h : Fin 4) (d : Fin 64) :
    kvC m ρ c (ix5 1 b j h d) = vA m ρ 0 (ix4 b j ⟨4 * c.val + h, by omega⟩ d) := by
  show headsV (X3 m ρ 0) c (ix4 b j h d) = _
  unfold headsV
  pointwise
  refine congrArg (X3 m ρ 0) (funext fun x => ?_)
  fin_cases x <;> apply Fin.ext
  · show 0 + 1 * b.val = b.val; omega
  · show 0 + 1 * j.val = j.val; omega
  · show 4 * c.val + 1 * h.val = 4 * c.val + h.val; omega
  · show 0 + 1 * d.val = d.val; omega

/-! ## The exchanges add all the shares -/

theorem unsq_apply (x : S256x512.Idx → Elt Ideal .bf16) (r : Fin 256) (n : Fin 512) : unsq (F := Ideal) x (ix3 0 r n) = x (ix2 r n) := by
  unfold unsq
  refine congrArg x ?_
  rw [Equiv.symm_apply_eq]
  pointwise

/-- The accumulator before and after each exchange, at its literal shape. -/
abbrev a0 (c : Dev nD) : S256x512.Idx → EReal := acc0 m ρ c
abbrev a1 (c : Dev nD) : S256x512.Idx → EReal := acc1 m ρ c
abbrev a2 (c : Dev nD) : S256x512.Idx → EReal := acc2 m ρ c
abbrev a3 (c : Dev nD) : S256x512.Idx → EReal := acc3 m ρ c

theorem acc1_apply (c : Dev nD) (r : Fin 256) (n : Fin 512) :
    a1 m ρ c (ix2 r n) = a0 m ρ c (ix2 r n) + a0 m ρ (pt 0 c) (ix2 r n) := by
  unfold a1 acc1 sb0
  pointwise [k0_pay46, k0_pay45, unsq_apply]
theorem acc2_apply (c : Dev nD) (r : Fin 256) (n : Fin 512) :
    a2 m ρ c (ix2 r n) = a1 m ρ c (ix2 r n) + a1 m ρ (pt 1 c) (ix2 r n) := by
  unfold a2 acc2 sb1
  pointwise [k0_pay48, k0_pay47, unsq_apply]
theorem acc3_apply (c : Dev nD) (r : Fin 256) (n : Fin 512) :
    a3 m ρ c (ix2 r n) = a2 m ρ c (ix2 r n) + a2 m ρ (pt 2 c) (ix2 r n) := by
  unfold a3 acc3 sb2
  pointwise [k0_pay50, k0_pay49, unsq_apply]

/-- The partners by difference 1, 3 and 4 reach every device once. -/
theorem partners (f : Fin 8 → EReal) (c : Fin 8) :
    f c + f (pt 0 c) + (f (pt 1 c) + f (pt 0 (pt 1 c))) + (f (pt 2 c) + f (pt 0 (pt 2 c)) + (f (pt 1 (pt 2 c)) + f (pt 0 (pt 1 (pt 2 c)))))
      = ∑ d : Fin 8, f d := by
  rw [Fin.sum_univ_eight]
  fin_cases c
  · show f 0 + f 1 + (f 3 + f 2) + (f 4 + f 5 + (f 7 + f 6)) = _; abel
  · show f 1 + f 0 + (f 2 + f 3) + (f 5 + f 4 + (f 6 + f 7)) = _; abel
  · show f 2 + f 3 + (f 1 + f 0) + (f 6 + f 7 + (f 5 + f 4)) = _; abel
  · show f 3 + f 2 + (f 0 + f 1) + (f 7 + f 6 + (f 4 + f 5)) = _; abel
  · show f 4 + f 5 + (f 7 + f 6) + (f 0 + f 1 + (f 3 + f 2)) = _; abel
  · show f 5 + f 4 + (f 6 + f 7) + (f 1 + f 0 + (f 2 + f 3)) = _; abel
  · show f 6 + f 7 + (f 5 + f 4) + (f 2 + f 3 + (f 1 + f 0)) = _; abel
  · show f 7 + f 6 + (f 4 + f 5) + (f 3 + f 2 + (f 0 + f 1)) = _; abel

theorem acc3_sum (c : Dev nD) (r : Fin 256) (n : Fin 512) :
    a3 m ρ c (ix2 r n) = ∑ d : Fin 8, a0 m ρ d (ix2 r n) := by
  rw [acc3_apply, acc2_apply, acc2_apply, acc1_apply, acc1_apply, acc1_apply, acc1_apply]
  exact partners (fun d => a0 m ρ d (ix2 r n)) c

/-- The result on a device, at its literal shape. -/
abbrev oA (c : Dev nD) : S2x128x512.Idx → EReal := outC m ρ c

theorem outC_apply (c : Dev nD) (b : Fin 2) (i : Fin 128) (n : Fin 512) :
    oA m ρ c (ix3 b i n) = ∑ d : Fin 8, ∑ h : Fin 4, hdAt (qC m ρ d) (wC m ρ d) (kvC m ρ d) b h i n := by
  have e : oA m ρ c (ix3 b i n) = a3 m ρ c (ix2 ⟨128 * b + i, by omega⟩ n) := by
    unfold oA outC
    pointwise [k0_pay51]
    exact congrArg (fun r => a3 m ρ c (ix2 r n)) (Fin.ext (congrArg (· + i.val) (Nat.mul_comm b.val 128)))
  rw [e, acc3_sum]
  exact Finset.sum_congr rfl fun d _ => acc0_apply m ρ d b i n

/-- An element of the result: over the devices and their heads, the weights times the values times the projection. -/
theorem outC_value (c : Dev nD) (b : Fin 2) (i : Fin 128) (n : Fin 512) :
    oA m ρ c (ix3 b i n) = ∑ p : Fin 8, ∑ h : Fin 4,
      hd (fun d => ∑ e : Fin 512, xA m ρ p (ix3 b i e) * wqA m ρ p (ix2 e ⟨64 * h + d, by omega⟩))
        (fun j d => kA m ρ 0 (ix4 b j ⟨4 * p.val + h, by omega⟩ d)) (fun j d => vA m ρ 0 (ix4 b j ⟨4 * p.val + h, by omega⟩ d))
        (fun d => woA m ρ p (ix2 ⟨64 * h + d, by omega⟩ n)) i := by
  rw [outC_apply]
  refine Finset.sum_congr rfl fun p _ => Finset.sum_congr rfl fun h _ => ?_
  unfold hdAt
  simp only [qC_apply, wC_apply, kvC_apply0, kvC_apply1]

end

end Cert.Attn
-- ==== Proof.Value.Ref.lean ====
/-
# What the reference computes, element by element
-/
module

public import proofs.«01_k».proof.Proof.Value.Head
public import proofs.«01_k».proof.Proof.Gen.ReferenceIdeal.Run
public import Idealize.ShloMosaic.Lib.Routing.OpsOrder

@[expose] public section

noncomputable section

namespace Cert.AttnRef

open Cert.ReferenceIdeal Cert.ReferenceIdeal.Gen

open Idealize.ShloMosaic
open Idealize.ShloMosaic.TcCoe
open Cert.Attn (sc ex wt vis fdiv64 sle_word neg_inf eighth)

variable {F : FTy → Type} [FloatOps F]

/-- A vector's entries divided by 64 and rounded down, as the program spells it (128 entries). -/
def fdQ : IVec S128 32 :=
  select (andi (cmpi .ne (signi (iotaInDim S128 32 0)) (broadcastInDim S128 ![] bcast_S_S128 (signi (constantI S_ 32 64#32))))
      (cmpi .ne (Host.remsi (iotaInDim S128 32 0) (broadcastInDim S128 ![] bcast_S_S128 (constantI S_ 32 64#32)))
        (broadcastInDim S128 ![] bcast_S_S128 (constantI S_ 32 0#32))))
    (subi (Host.divsi (iotaInDim S128 32 0) (broadcastInDim S128 ![] bcast_S_S128 (constantI S_ 32 64#32)))
      (broadcastInDim S128 ![] bcast_S_S128 (constantI S_ 32 1#32)))
    (Host.divsi (iotaInDim S128 32 0) (broadcastInDim S128 ![] bcast_S_S128 (constantI S_ 32 64#32)))

/-- The same for 1024 entries. -/
def fdK : IVec S1024 32 :=
  select (andi (cmpi .ne (signi (iotaInDim S1024 32 0)) (broadcastInDim S1024 ![] bcast_S_S1024 (signi (constantI S_ 32 64#32))))
      (cmpi .ne (Host.remsi (iotaInDim S1024 32 0) (broadcastInDim S1024 ![] bcast_S_S1024 (constantI S_ 32 64#32)))
        (broadcastInDim S1024 ![] bcast_S_S1024 (constantI S_ 32 0#32))))
    (subi (Host.divsi (iotaInDim S1024 32 0) (broadcastInDim S1024 ![] bcast_S_S1024 (constantI S_ 32 64#32)))
      (broadcastInDim S1024 ![] bcast_S_S1024 (constantI S_ 32 1#32)))
    (Host.divsi (iotaInDim S1024 32 0) (broadcastInDim S1024 ![] bcast_S_S1024 (constantI S_ 32 64#32)))

/-- Whether a query may look at a key. -/
def maskR : IVec S128x1024 1 :=
  cmpi .sle (broadcastInDim S128x1024 ![0, 1] bcast_S1x1024_S128x1024_0_1 (broadcastInDim S1x1024 ![1] bcast_S1024_S1x1024_1 fdK))
    (broadcastInDim S128x1024 ![0, 1] bcast_S128x1_S128x1024_0_1 (broadcastInDim S128x1 ![0] bcast_S128_S128x1_0 fdQ))

/-- The masked scores. -/
def scoreR (x : FVec F S2x128x512 .f32) (wq : FVec F S512x2048 .f32) (k : FVec F S2x1024x32x64 .f32) : FVec F S2x32x128x1024 .f32 :=
  select (broadcastInDim S2x32x128x1024 ![0, 1, 2, 3] bcast_S1x1x128x1024_S2x32x128x1024_0_1_2_3
      (broadcastInDim S1x1x128x1024 ![2, 3] bcast_S128x1024_S1x1x128x1024_2_3 maskR))
    (mulf (Host.dotGeneral dot_S2x128x32x64_S2x1024x32x64_S2x32x128x1024_3_3_1_1_02_02 none
        (shapeCast S2x128x32x64 (Host.dotGeneral dot_S2x128x512_S512x2048_S2x128x2048_2_0_01_1_n_n none x wq : FVec F S2x128x2048 .f32)
          shapeCasts_S2x128x2048_S2x128x32x64) k)
      (broadcastInDim S2x32x128x1024 ![] bcast_S_S2x32x128x1024 (constant S_ .f32 0x3E000000#32)))
    (broadcastInDim S2x32x128x1024 ![] bcast_S_S2x32x128x1024 (constant S_ .f32 0xFF800000#32))

/-- The exponentials of the scores less their row's greatest. -/
def expR (s : FVec F S2x32x128x1024 .f32) : FVec F S2x32x128x1024 .f32 :=
  Host.exp (subf s (broadcastInDim S2x32x128x1024 ![0, 1, 2, 3] bcast_S2x32x128x1_S2x32x128x1024_0_1_2_3
    (broadcastInDim S2x32x128x1 ![0, 1, 2] bcast_S2x32x128_S2x32x128x1_0_1_2
      (Host.reduce FloatOps.maximumf s (constant S_ .f32 0xFF800000#32) reducesTo_S2x32x128x1024_S2x32x128_d3 h_S_))))

/-- Whether a row sees any key: it always does. -/
def keepR : IVec S1x1x128x1 1 :=
  broadcastInDim S1x1x128x1 ![2] bcast_S128_S1x1x128x1_2 (Host.reduce IntOp.ori maskR (constantI S_ 1 0#1) reducesTo_S128x1024_S128_d1 h_S_)

/-- The weights. -/
def weightR (e : FVec F S2x32x128x1024 .f32) : FVec F S2x32x128x1024 .f32 :=
  select (broadcastInDim S2x32x128x1024 ![0, 1, 2, 3] bcast_S1x1x128x1_S2x32x128x1024_0_1_2_3 keepR)
    (Host.divf e (broadcastInDim S2x32x128x1024 ![0, 1, 2, 3] bcast_S2x32x128x1_S2x32x128x1024_0_1_2_3
      (select (broadcastInDim S2x32x128x1 ![0, 1, 2, 3] bcast_S1x1x128x1_S2x32x128x1_0_1_2_3 keepR)
        (broadcastInDim S2x32x128x1 ![0, 1, 2] bcast_S2x32x128_S2x32x128x1_0_1_2
          (Host.reduceAdd e (constant S_ .f32 0x00000000#32) reducesTo_S2x32x128x1024_S2x32x128_d3 h_S_))
        (broadcastInDim S2x32x128x1 ![] bcast_S_S2x32x128x1 (constant S_ .f32 0x3F800000#32)))))
    (broadcastInDim S2x32x128x1024 ![] bcast_S_S2x32x128x1024 (constant S_ .f32 0x00000000#32))

/-- The result: weights times values, the heads side by side, times the output projection. -/
def outR (x : FVec F S2x128x512 .f32) (wq : FVec F S512x2048 .f32) (k v : FVec F S2x1024x32x64 .f32) (wo : FVec F S2048x512 .f32) :
    FVec F S2x128x512 .f32 :=
  Host.dotGeneral dot_S2x128x2048_S2048x512_S2x128x512_2_0_01_1_n_n none
    (shapeCast S2x128x2048 (transpose S2x128x32x64 [0, 3, 1, 2]
      (Host.dotGeneral dot_S2x1024x32x64_S2x32x128x1024_S2x32x64x128_1_3_3_2_02_01 none v (weightR (expR (scoreR x wq k))) : FVec F S2x32x64x128 .f32)
      transposes_S2x32x64x128_S2x128x32x64_0_3_1_2) shapeCasts_S2x128x32x64_S2x128x2048) wo

set_option maxRecDepth 16384 in
theorem res_eq (m : (ℓ : Loc nD τ sig) → Buf (Elt F) ℓ) (c : Dev nD) :
    Value.res_main_v33 m c = outR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := rfl

theorem fdiv64_host : ∀ x : Fin 1024, Scalar.select
    (IntOp.andi
      (IntOp.cmpi CmpIPredicate.ne
        (if BitVec.ofNat 32 x.val = 0 then (0 : BitVec 32) else if (BitVec.ofNat 32 x.val).msb = true then -1 else 1)
        (if 64#32 = 0 then (0 : BitVec 32) else if (64#32).msb = true then -1 else 1))
      (IntOp.cmpi CmpIPredicate.ne (IntOp.remsi ArithUnit.host (BitVec.ofNat 32 x.val) 64#32) 0#32))
    (IntOp.subi (IntOp.divsi ArithUnit.host (BitVec.ofNat 32 x.val) 64#32) 1#32)
    (IntOp.divsi ArithUnit.host (BitVec.ofNat 32 x.val) 64#32) = BitVec.ofNat 32 (x.val / 64) := by
  decide +kernel

theorem fdQ_apply (i : Fin 128) : fdQ (ix1 i) = BitVec.ofNat 32 (i.val / 64) := by
  pointwise [fdQ]
  exact fdiv64_host ⟨i.val, by omega⟩

theorem fdK_apply (i : Fin 1024) : fdK (ix1 i) = BitVec.ofNat 32 (i.val / 64) := by
  pointwise [fdK]
  exact fdiv64_host i

theorem maskR_apply (i : Fin 128) (j : Fin 1024) : maskR (ix2 i j) = BitVec.ofBool (vis i j) := by
  pointwise [maskR, fdQ_apply, fdK_apply]
  exact sle_word ⟨j.val / 64, by omega⟩ ⟨i.val / 64, by omega⟩

theorem keepR_apply (i : Fin 128) : keepR (ix4 0 0 i 0) = 1#1 := by
  pointwise [keepR]
  rw [Routing.fold_ori]
  refine ⟨0, Finset.mem_univ _, ?_⟩
  rw [maskR_apply]
  simp [vis]

theorem scoreR_apply (x : FVec Ideal S2x128x512 .f32) (wq : FVec Ideal S512x2048 .f32) (k : FVec Ideal S2x1024x32x64 .f32)
    (b : Fin 2) (h : Fin 32) (i : Fin 128) (j : Fin 1024) :
    scoreR x wq k (ix4 b h i j) = sc (fun d : Fin 64 => ∑ e : Fin 512, x (ix3 b i e) * wq (ix2 e ⟨h.val * 64 + d.val, by omega⟩))
      (fun j d => k (ix4 b j h d)) (fun j => vis i j) j := by
  pointwise [scoreR]
  rw [maskR_apply, neg_inf, eighth, Scalar.select_ofBool]
  rfl

theorem expR_apply (s : FVec Ideal S2x32x128x1024 .f32) (b : Fin 2) (h : Fin 32) (i : Fin 128) (j : Fin 1024) :
    expR s (ix4 b h i j) = ex (fun j => s (ix4 b h i j)) j := by
  unfold ex
  pointwise [expR]
  rw [neg_inf]

theorem weightR_apply (s : FVec Ideal S2x32x128x1024 .f32) (b : Fin 2) (h : Fin 32) (i : Fin 128) (j : Fin 1024) :
    weightR (expR s) (ix4 b h i j) = wt (fun j => s (ix4 b h i j)) j := by
  unfold wt
  pointwise [weightR]
  rw [keepR_apply]
  simp only [expR_apply]
  rfl

/-- An element of the reference's result. -/
theorem outR_apply (x : FVec Ideal S2x128x512 .f32) (wq : FVec Ideal S512x2048 .f32) (k v : FVec Ideal S2x1024x32x64 .f32) (wo : FVec Ideal S2048x512 .f32)
    (b : Fin 2) (i : Fin 128) (n : Fin 512) :
    outR x wq k v wo (ix3 b i n) = ∑ r : Fin 2048,
      (∑ j : Fin 1024, v (ix4 b j ⟨r.val / 64, by omega⟩ ⟨r.val % 64, by omega⟩) *
        wt (sc (fun d : Fin 64 => ∑ e : Fin 512, x (ix3 b i e) * wq (ix2 e ⟨r.val / 64 * 64 + d.val, by omega⟩))
          (fun j d => k (ix4 b j ⟨r.val / 64, by omega⟩ d)) (fun j => vis i j)) j) * wo (ix2 r n) := by
  pointwise [outR]
  simp only [weightR_apply, scoreR_apply]

end Cert.AttnRef
-- ==== Proof.Value.Softmax.lean ====
/-
# Keys that are masked weigh nothing

A row of scores whose entries past the first 128 are all minus infinity, whose first entry is above minus infinity and
none of whose entries is plus infinity, has the weights of its first 128 entries, and weight zero past them. The
conditions are needed: were every exponential of the row zero, each weight would be a quotient of zeros.
-/
module

public import proofs.«01_k».proof.Proof.Value.Head

@[expose] public section

noncomputable section

namespace Cert.Attn

open Idealize.ShloMosaic

/-- An extended real that is a real number. -/
def IsR (x : EReal) : Prop := ∃ r : ℝ, x = (r : EReal)

theorem IsR.mul {x y : EReal} (hx : IsR x) (hy : IsR y) : IsR (x * y) := by
  obtain ⟨a, rfl⟩ := hx; obtain ⟨b, rfl⟩ := hy
  exact ⟨a * b, (EReal.coe_mul a b).symm⟩

theorem IsR.add {x y : EReal} (hx : IsR x) (hy : IsR y) : IsR (x + y) := by
  obtain ⟨a, rfl⟩ := hx; obtain ⟨b, rfl⟩ := hy
  exact ⟨a + b, (EReal.coe_add a b).symm⟩

theorem IsR.sum {ι : Type} (s : Finset ι) (f : ι → EReal) (h : ∀ i, IsR (f i)) : IsR (∑ i ∈ s, f i) := by
  classical
  induction s using Finset.induction_on with
  | empty => exact ⟨0, by simp⟩
  | insert a s ha ih => rw [Finset.sum_insert ha]; exact (h a).add ih

/-- A key of the first block is a key of the whole. -/
theorem lt_keys (j : Fin 128) : j.val < 1024 := by omega

theorem exp_nonneg (x : EReal) : 0 ≤ Ideal.exp x := by
  induction x using EReal.rec with
  | bot => exact le_refl _
  | top => exact le_top
  | coe r => exact EReal.coe_nonneg.mpr (Real.exp_pos r).le

theorem exp_coe_pos (r : ℝ) : 0 < Ideal.exp (r : EReal) := EReal.coe_pos.mpr (Real.exp_pos r)

theorem fold_eq_sup {n : Nat} (s : Fin n → EReal) : Finset.univ.fold max ⊥ s = Finset.univ.sup s := rfl

section
variable (s : Fin 1024 → EReal) (t : Fin 128 → EReal) (hst : ∀ j : Fin 128, s ⟨j.val, lt_keys j⟩ = t j)
  (hbot : ∀ j : Fin 1024, 128 ≤ j.val → s j = ⊥) (h0 : t 0 ≠ ⊥) (htop : ∀ j, t j ≠ ⊤)
include hst hbot

theorem sup_eq : Finset.univ.sup s = Finset.univ.sup t := by
  apply le_antisymm
  · refine Finset.sup_le fun j _ => ?_
    by_cases h : j.val < 128
    · rw [show j = ⟨(⟨j.val, h⟩ : Fin 128).val, lt_keys _⟩ from rfl, hst]
      exact Finset.le_sup (f := t) (Finset.mem_univ _)
    · rw [hbot j (by omega)]; exact bot_le
  · refine Finset.sup_le fun j _ => ?_
    rw [← hst]
    exact Finset.le_sup (f := s) (Finset.mem_univ _)

theorem ex_head (j : Fin 128) : ex s ⟨j.val, lt_keys j⟩ = ex t j := by
  unfold ex
  rw [fold_eq_sup, fold_eq_sup, sup_eq s t hst hbot, hst]

theorem ex_tail (j : Fin 1024) (h : 128 ≤ j.val) : ex s j = 0 := by
  unfold ex
  rw [hbot j h, EReal.bot_sub]
  rfl

theorem sum_eq : ∑ j, ex s j = ∑ j, ex t j := by
  rw [Fin.sum_univ_two_halves 128 896 rfl]
  rw [Finset.sum_congr rfl fun j _ => ex_head s t hst hbot j]
  rw [Finset.sum_eq_zero fun (j : Fin 896) _ => ex_tail s t hst hbot ⟨128 + j.val, by omega⟩ (by show 128 ≤ 128 + j.val; omega), add_zero]

theorem wt_head (j : Fin 128) : wt s ⟨j.val, lt_keys j⟩ = wt t j := by
  unfold wt
  rw [ex_head s t hst hbot, sum_eq s t hst hbot]

omit hst hbot in
include h0 htop in
theorem sum_pos : 0 < ∑ j, ex t j := by
  refine lt_of_lt_of_le ?_ (Finset.single_le_sum (f := ex t) (fun j _ => exp_nonneg _) (Finset.mem_univ (0 : Fin 128)))
  unfold ex
  rw [fold_eq_sup]
  have hs : Finset.univ.sup t ≠ ⊤ := (Finset.sup_lt_iff bot_lt_top).mpr (fun j _ => lt_top_iff_ne_top.mpr (htop j)) |>.ne
  have hb : Finset.univ.sup t ≠ ⊥ := fun h => h0 (le_bot_iff.mp (h ▸ Finset.le_sup (f := t) (Finset.mem_univ 0)))
  rw [← EReal.coe_toReal hs hb, ← EReal.coe_toReal (htop 0) h0, ← EReal.coe_sub]
  exact exp_coe_pos _

include h0 htop in
theorem wt_tail (j : Fin 1024) (h : 128 ≤ j.val) : wt s j = 0 := by
  unfold wt
  rw [ex_tail s t hst hbot j h, sum_eq s t hst hbot]
  unfold Ideal.div
  rw [if_neg (sum_pos t h0 htop).ne', zero_mul]

include h0 htop in
/-- A weighted sum over the 1024 keys is the one over the first 128. -/
theorem weighted (v : Fin 1024 → EReal) : ∑ j, v j * wt s j = ∑ j : Fin 128, wt t j * v ⟨j.val, lt_keys j⟩ := by
  rw [Fin.sum_univ_two_halves 128 896 rfl]
  rw [Finset.sum_congr rfl fun j _ => by rw [wt_head s t hst hbot j, mul_comm]]
  rw [Finset.sum_eq_zero fun (j : Fin 896) _ => by
    rw [wt_tail s t hst hbot h0 htop ⟨128 + j.val, by omega⟩ (by show 128 ≤ 128 + j.val; omega), mul_zero], add_zero]

end

/-- A row of the kernel's scores over real numbers: no entry is plus infinity, and the first is a number. -/
theorem sc_ne_top {n : Nat} (q : Fin 64 → EReal) (k : Fin n → Fin 64 → EReal) (vis : Fin n → Bool) (hq : ∀ d, IsR (q d)) (hk : ∀ j d, IsR (k j d))
    (j : Fin n) : sc q k vis j ≠ ⊤ := by
  unfold sc
  split
  · obtain ⟨r, hr⟩ := (IsR.sum Finset.univ (fun d => q d * k j d) fun d => (hq d).mul (hk j d)).mul ⟨1 / 8, rfl⟩
    rw [hr]; exact EReal.coe_ne_top r
  · exact bot_ne_top

theorem sc_ne_bot {n : Nat} (q : Fin 64 → EReal) (k : Fin n → Fin 64 → EReal) (vis : Fin n → Bool) (hq : ∀ d, IsR (q d)) (hk : ∀ j d, IsR (k j d))
    (j : Fin n) (hv : vis j = true) : sc q k vis j ≠ ⊥ := by
  unfold sc
  rw [if_pos hv]
  obtain ⟨r, hr⟩ := (IsR.sum Finset.univ (fun d => q d * k j d) fun d => (hq d).mul (hk j d)).mul ⟨1 / 8, rfl⟩
  rw [hr]; exact EReal.coe_ne_bot r

/-- One head of one row: the sum over 1024 keys is the kernel's over 128. -/
theorem weighted_sc (q : Fin 64 → EReal) (k : Fin 1024 → Fin 64 → EReal) (v : Fin 1024 → EReal) (hq : ∀ d, IsR (q d))
    (hk : ∀ (j : Fin 128) d, IsR (k ⟨j.val, lt_keys j⟩ d)) (i : Fin 128) :
    ∑ j, v j * wt (sc q k fun j => vis i j) j
      = ∑ j : Fin 128, wt (sc q (fun (j : Fin 128) d => k ⟨j.val, lt_keys j⟩ d) fun j => vis i j) j * v ⟨j.val, lt_keys j⟩ := by
  refine weighted _ _ (fun j => rfl) (fun j hj => ?_) ?_ ?_ v
  · unfold sc
    rw [if_neg]
    have := i.isLt
    simp only [vis, decide_eq_true_eq]
    omega
  · refine sc_ne_bot _ _ (fun j : Fin 128 => vis i j) hq hk 0 ?_
    exact decide_eq_true (show (0 : Nat) / 64 ≤ i.val / 64 by rw [Nat.zero_div]; exact Nat.zero_le _)
  · exact sc_ne_top _ _ (fun j : Fin 128 => vis i j) hq hk

end Cert.Attn
-- ==== Proof.Value.Meet.lean ====
/-
# The two programs meet

The reference sums over the 2048 columns of all heads; the kernel sums over the devices, over the heads of a device, and over
the 64 columns of a head. Each column of the reference is one head's column of one device, and the reference's sum over 1024
keys is the kernel's over the 128 that the row can see.
-/
module

public import proofs.«01_k».proof.Proof.Value.Share
public import proofs.«01_k».proof.Proof.Value.Ref
public import proofs.«01_k».proof.Proof.Value.Softmax

@[expose] public section

noncomputable section

namespace Cert.AttnRef

open Idealize.ShloMosaic Cert.Attn Cert.ReferenceIdeal

section
variable (x : FVec Ideal S2x128x512 .f32) (wq : FVec Ideal S512x2048 .f32) (k v : FVec Ideal S2x1024x32x64 .f32)
  (wo : FVec Ideal S2048x512 .f32) (b : Fin 2) (i : Fin 128) (n : Fin 512)

/-- One column of the reference: head `H`, its column `d`, and the row `r` of the last projection. -/
def colR (H : Fin 32) (d : Fin 64) (r : Fin 2048) : EReal :=
  (∑ j : Fin 1024, v (ix4 b j H d) *
    wt (sc (fun d : Fin 64 => ∑ e : Fin 512, x (ix3 b i e) * wq (ix2 e ⟨H.val * 64 + d.val, by omega⟩))
      (fun j d => k (ix4 b j H d)) (fun j => vis i j)) j) * wo (ix2 r n)

theorem colR_of (H : Fin 32) (d : Fin 64) (r : Fin 2048) (H' : Fin 32) (d' : Fin 64) (r' : Fin 2048) (h1 : H = H') (h2 : d = d') (h3 : r = r') :
    colR x wq k v wo b i n H d r = colR x wq k v wo b i n H' d' r' := by
  subst h1 h2 h3; rfl

theorem outR_cols : outR x wq k v wo (ix3 b i n) = ∑ p : Fin 8, ∑ h : Fin 4, ∑ d : Fin 64,
    colR x wq k v wo b i n ⟨4 * p.val + h.val, by omega⟩ d ⟨256 * p.val + (64 * h.val + d.val), by omega⟩ := by
  rw [outR_apply]
  refine (Fin.sum_univ_tiles 32 64 rfl _).trans ?_
  refine (Fin.sum_univ_tiles 8 4 rfl _).trans ?_
  refine Finset.sum_congr rfl fun p _ => Finset.sum_congr rfl fun h _ => Finset.sum_congr rfl fun d _ => ?_
  refine colR_of x wq k v wo b i n _ _ _ _ _ _ (Fin.ext ?_) (Fin.ext ?_) (Fin.ext ?_)
  · show ((p.val * 4 + h.val) * 64 + d.val) / 64 = 4 * p.val + h.val; omega
  · show ((p.val * 4 + h.val) * 64 + d.val) % 64 = d.val; omega
  · show (p.val * 4 + h.val) * 64 + d.val = 256 * p.val + (64 * h.val + d.val); omega

/-- The kernel's sum over devices and heads is the reference's element. -/
theorem meet (hq : ∀ l : Fin 2048, IsR (∑ e : Fin 512, x (ix3 b i e) * wq (ix2 e l)))
    (hk : ∀ (j : Fin 128) (H : Fin 32) (d : Fin 64), IsR (k (ix4 b ⟨j.val, lt_keys j⟩ H d))) :
    ∑ p : Fin 8, ∑ h : Fin 4,
      hd (fun d => ∑ e : Fin 512, x (ix3 b i e) * wq (ix2 e ⟨256 * p.val + (64 * h.val + d.val), by omega⟩))
        (fun j d => k (ix4 b ⟨j.val, lt_keys j⟩ ⟨4 * p.val + h.val, by omega⟩ d))
        (fun j d => v (ix4 b ⟨j.val, lt_keys j⟩ ⟨4 * p.val + h.val, by omega⟩ d))
        (fun d => wo (ix2 ⟨256 * p.val + (64 * h.val + d.val), by omega⟩ n)) i
      = outR x wq k v wo (ix3 b i n) := by
  rw [outR_cols]
  refine Finset.sum_congr rfl fun p _ => Finset.sum_congr rfl fun h _ => Finset.sum_congr rfl fun d _ => ?_
  unfold colR
  refine congrArg (· * wo _) ?_
  refine Eq.trans ?_ (weighted_sc _ _ _ (fun d => hq _) (fun j d => hk j _ d) i).symm
  refine Finset.sum_congr rfl fun j _ => congrArg (· * v _) ?_
  refine congrArg (fun q => wt (sc q _ _) j) (funext fun d => Finset.sum_congr rfl fun e _ => ?_)
  refine congrArg (fun l => x _ * wq (ix2 e l)) (Fin.ext ?_)
  show 256 * p.val + (64 * h.val + d.val) = (4 * p.val + h.val) * 64 + d.val
  omega

end

end Cert.AttnRef
-- ==== Proof.Value.Finite.lean ====
/-
# What the precondition says
-/
module

public import proofs.«01_k».proof.Defs
public import proofs.«01_k».proof.Proof.Value.Softmax
public import Idealize.ShloMosaic.Lib.ReduceAll

@[expose] public section

noncomputable section

namespace Cert.Attn

open Idealize.ShloMosaic

theorem and_one (a b : BitVec 1) (h : IntOp.andi a b = 1#1) : a = 1#1 ∧ b = 1#1 := by
  revert a b; decide

theorem finite_of_lt (x : EReal) (h : FloatOps.cmpf (F := Ideal) (φ := .f32) .olt (FloatOps.hostAbsf (F := Ideal) (φ := .f32) x) (Ideal.ofBits .f32 0x7F800000#32) = 1#1) : IsR x := by
  have ht : Ideal.ofBits .f32 0x7F800000#32 = ⊤ := by simp [Ideal.ofBits, Ideal.ieee]
  rw [ht] at h
  have hl : max x (-x) < ⊤ := by
    by_contra hn
    have e : FloatOps.cmpf (F := Ideal) (φ := .f32) .olt (FloatOps.hostAbsf (F := Ideal) (φ := .f32) x) ⊤ = BitVec.ofBool (decide (max x (-x) < ⊤)) := rfl
    rw [e, decide_eq_false hn] at h
    exact absurd h (by decide)
  obtain ⟨h1, h2⟩ := max_lt_iff.mp hl
  refine ⟨x.toReal, (EReal.coe_toReal h1.ne ?_).symm⟩
  rintro rfl
  exact h2.ne EReal.neg_bot

section
variable [Cert.Pre_finite_scores_KernelIdeal.Facts]
open Cert.Pre_finite_scores_KernelIdeal

/-- The precondition says that every element of the inputs, of the query projection and of the keys is a number. -/
theorem finite_of_pre (x : FVec Ideal S2x128x512 .f32) (wq : FVec Ideal S512x256 .f32) (k v : FVec Ideal S2x128x32x64 .f32) (wo : FVec Ideal S256x512 .f32)
    (h : fn (F := Ideal) x wq k v wo = fun _ => 1#1) : (∀ i, IsR (x i)) ∧ (∀ i, IsR (wq i)) ∧ (∀ i, IsR (k i)) := by
  have e := congrFun h ix0
  unfold fn at e
  obtain ⟨e, e3⟩ := and_one _ _ e
  obtain ⟨e1, e2⟩ := and_one _ _ e
  haveI : Subsingleton S_.Idx := ⟨fun a b => funext fun x => x.elim0⟩
  refine ⟨fun i => ?_, fun i => ?_, fun i => ?_⟩
  · have e := Host.reduce_andi_all _ _ _ _ _ e1 i
    exact finite_of_lt _ e
  · have e := Host.reduce_andi_all _ _ _ _ _ e2 i
    exact finite_of_lt _ e
  · have e := Host.reduce_andi_all _ _ _ _ _ e3 i
    exact finite_of_lt _ e

end

end Cert.Attn
-- ==== Proof.Value.lean ====
/-
# The value

From argument arrays of which the devices hold their parts, with numbers in the inputs, the query projection and the keys, each
device of the kernel ends with the reference's result.
-/
module

public import proofs.«01_k».proof.Proof.Claims
public import proofs.«01_k».proof.Proof.Value.Meet
public import proofs.«01_k».proof.Proof.Value.Finite
public import proofs.«01_k».proof.Proof.Gen.Pre_finite_scores_KernelIdeal
public import Idealize.ShloMosaic.Lib.Layout

@[expose] public section

noncomputable section

namespace Cert.Attn

open Idealize.ShloMosaic Idealize.SL.Sem
open Cert.KernelIdeal Cert.KernelIdealRun Idealize.ShloMosaic.Pipeline

section
variable (m : (ℓ : Loc nD τ sig) → Buf (Elt Ideal) ℓ) (ρ : Dev nD → PrngReg)

/-! ## Each window is its whole array -/

theorem xA_eq (c : Dev nD) : xA m ρ c = m ((c.tc : Thread nD τ).loc main_arg0) := by
  funext i
  refine congrArg (m ((c.tc : Thread nD τ).loc main_arg0)) (funext fun a => Fin.ext ?_)
  exact Window.rect_emb_val_of_index_zero win0_0 (0 : Fin 1) a (by fin_cases a <;> rfl) i
theorem wqA_eq (c : Dev nD) : wqA m ρ c = m ((c.tc : Thread nD τ).loc main_arg1) := by
  funext i
  refine congrArg (m ((c.tc : Thread nD τ).loc main_arg1)) (funext fun a => Fin.ext ?_)
  exact Window.rect_emb_val_of_index_zero win0_1 (0 : Fin 1) a (by fin_cases a <;> rfl) i
theorem kA_eq (c : Dev nD) : kA m ρ c = m ((c.tc : Thread nD τ).loc main_arg2) := by
  funext i
  refine congrArg (m ((c.tc : Thread nD τ).loc main_arg2)) (funext fun a => Fin.ext ?_)
  exact Window.rect_emb_val_of_index_zero win0_2 (0 : Fin 1) a (by fin_cases a <;> rfl) i
theorem vA_eq (c : Dev nD) : vA m ρ c = m ((c.tc : Thread nD τ).loc main_arg3) := by
  funext i
  refine congrArg (m ((c.tc : Thread nD τ).loc main_arg3)) (funext fun a => Fin.ext ?_)
  exact Window.rect_emb_val_of_index_zero win0_3 (0 : Fin 1) a (by fin_cases a <;> rfl) i
theorem woA_eq (c : Dev nD) : woA m ρ c = m ((c.tc : Thread nD τ).loc main_arg4) := by
  funext i
  refine congrArg (m ((c.tc : Thread nD τ).loc main_arg4)) (funext fun a => Fin.ext ?_)
  exact Window.rect_emb_val_of_index_zero win0_4 (0 : Fin 1) a (by fin_cases a <;> rfl) i

/-! ## Each device's part of the whole arrays -/

theorem block_wq (v : Cert.ReferenceIdeal.S512x2048.Idx → EReal) (p : Fin 8) (e : Fin 512) (l : Fin 256) :
    Layout.block ⟨2, ![512, 256]⟩ ⟨2, ![512, 2048]⟩ 1 8 p v (by decide) (ix2 e l) = v (ix2 e ⟨256 * p.val + l.val, by omega⟩) := by
  refine congrArg v (funext fun a => Fin.ext ?_)
  fin_cases a
  · rfl
  · show p.val * 256 + l.val = 256 * p.val + l.val; omega
theorem block_wo (v : Cert.ReferenceIdeal.S2048x512.Idx → EReal) (p : Fin 8) (l : Fin 256) (n : Fin 512) :
    Layout.block ⟨2, ![256, 512]⟩ ⟨2, ![2048, 512]⟩ 0 8 p v (by decide) (ix2 l n) = v (ix2 ⟨256 * p.val + l.val, by omega⟩ n) := by
  refine congrArg v (funext fun a => Fin.ext ?_)
  fin_cases a
  · show p.val * 256 + l.val = 256 * p.val + l.val; omega
  · rfl
/-- The keys and the values of the first device are the first 128 rows. -/
theorem block_kv (v : Cert.ReferenceIdeal.S2x1024x32x64.Idx → EReal) (b : Fin 2) (j : Fin 128) (h : Fin 32) (d : Fin 64) :
    Layout.block ⟨4, ![2, 128, 32, 64]⟩ ⟨4, ![2, 1024, 32, 64]⟩ 1 8 (0 : Fin 8) v (by decide) (ix4 b j h d) = v (ix4 b ⟨j.val, lt_keys j⟩ h d) := by
  refine congrArg v (funext fun a => Fin.ext ?_)
  fin_cases a
  · rfl
  · show 0 * 128 + j.val = j.val; omega
  · rfl
  · rfl

end

/-- The arrays of the reference, and what the devices hold of them. -/
theorem value_eq (m : (ℓ : Loc nD τ sig) → Buf (Elt Ideal) ℓ) (ρ : Dev nD → PrngReg)
    (x : FVec Ideal Cert.ReferenceIdeal.S2x128x512 .f32) (wq : FVec Ideal Cert.ReferenceIdeal.S512x2048 .f32)
    (k v : FVec Ideal Cert.ReferenceIdeal.S2x1024x32x64 .f32) (wo : FVec Ideal Cert.ReferenceIdeal.S2048x512 .f32)
    (hpre : Cert.Pre_KernelIdeal_finite_scores_KernelIdeal m)
    (h0 : ∀ c : Dev nD, m ((c.tc : Thread nD τ).loc main_arg0) = x)
    (h1 : ∀ c : Dev nD, m ((c.tc : Thread nD τ).loc main_arg1) = Layout.block ⟨2, ![512, 256]⟩ ⟨2, ![512, 2048]⟩ 1 8 c wq)
    (h2 : ∀ c : Dev nD, m ((c.tc : Thread nD τ).loc main_arg2) = Layout.block ⟨4, ![2, 128, 32, 64]⟩ ⟨4, ![2, 1024, 32, 64]⟩ 1 8 c k)
    (h3 : ∀ c : Dev nD, m ((c.tc : Thread nD τ).loc main_arg3) = Layout.block ⟨4, ![2, 128, 32, 64]⟩ ⟨4, ![2, 1024, 32, 64]⟩ 1 8 c v)
    (h4 : ∀ c : Dev nD, m ((c.tc : Thread nD τ).loc main_arg4) = Layout.block ⟨2, ![256, 512]⟩ ⟨2, ![2048, 512]⟩ 0 8 c wo)
    (c : Dev nD) : oA m ρ c = Cert.AttnRef.outR x wq k v wo := by
  have hx (c : Dev nD) (b : Fin 2) (i : Fin 128) (e : Fin 512) : xA m ρ c (ix3 b i e) = x (ix3 b i e) :=
    congrFun ((xA_eq m ρ c).trans (h0 c)) _
  have hw (c : Fin 8) (e : Fin 512) (l : Fin 256) : wqA m ρ c (ix2 e l) = wq (ix2 e ⟨256 * c.val + l.val, by omega⟩) :=
    (congrFun ((wqA_eq m ρ c).trans (h1 c)) _).trans (block_wq wq c e l)
  have hk (b : Fin 2) (j : Fin 128) (h : Fin 32) (d : Fin 64) : kA m ρ 0 (ix4 b j h d) = k (ix4 b ⟨j.val, lt_keys j⟩ h d) :=
    (congrFun ((kA_eq m ρ 0).trans (h2 0)) _).trans (block_kv k b j h d)
  have hv (b : Fin 2) (j : Fin 128) (h : Fin 32) (d : Fin 64) : vA m ρ 0 (ix4 b j h d) = v (ix4 b ⟨j.val, lt_keys j⟩ h d) :=
    (congrFun ((vA_eq m ρ 0).trans (h3 0)) _).trans (block_kv v b j h d)
  have ho (c : Fin 8) (l : Fin 256) (n : Fin 512) : woA m ρ c (ix2 l n) = wo (ix2 ⟨256 * c.val + l.val, by omega⟩ n) :=
    (congrFun ((woA_eq m ρ c).trans (h4 c)) _).trans (block_wo wo c l n)
  have fx (i) : IsR (x i) := by
    have := (finite_of_pre _ _ _ _ _ (hpre 0)).1 i
    rw [h0 0] at this
    exact this
  have fw (e : Fin 512) (l : Fin 2048) : IsR (wq (ix2 e l)) := by
    have f := (finite_of_pre _ _ _ _ _ (hpre (⟨l.val / 256, by omega⟩ : Fin 8))).2.1 (ix2 e ⟨l.val % 256, by omega⟩)
    rw [← wqA_eq m ρ, hw] at f
    have e' : (⟨256 * (l.val / 256) + l.val % 256, by omega⟩ : Fin 2048) = l := Fin.ext (by show 256 * (l.val / 256) + l.val % 256 = l.val; omega)
    rw [← e']
    exact f
  have fk (b : Fin 2) (j : Fin 128) (h : Fin 32) (d : Fin 64) : IsR (k (ix4 b ⟨j.val, lt_keys j⟩ h d)) := by
    rw [← hk, kA_eq]
    exact (finite_of_pre _ _ _ _ _ (hpre 0)).2.2 _
  funext idx
  obtain ⟨b, i, n, rfl⟩ : ∃ (b : Fin 2) (i : Fin 128) (n : Fin 512), idx = ix3 b i n := ⟨idx 0, idx 1, idx 2, eq_ix3 idx⟩
  rw [outC_value]
  simp only [hx, hw, hk, hv, ho]
  exact Cert.AttnRef.meet x wq k v wo b i n (fun l => IsR.sum _ _ fun e => (fx _).mul (fw e l)) (fun j H d => fk b j H d)

/-- The kernel's value is the reference's. -/
theorem algebraic : Cert.algebraic_KernelIdeal_ReferenceIdeal_pre_finite_scores_KernelIdeal := by
  intro m g m' g' hpre hm
  refine ⟨Cert.ReferenceIdeal.Value.res_main_v33 m' 0, ?_, ?_⟩
  · refine (θ_run Cert.KernelIdeal.defs _ _).mono (fun r h c => ⟨?_, (h.1 c).2⟩) (run_value (F := Ideal) m g)
    refine (h.1 c).1.trans ?_
    refine Eq.trans ?_ (Cert.AttnRef.res_eq m' 0).symm
    exact value_eq m g _ _ _ _ _ hpre (fun c => (hm c).1) (fun c => (hm c).2.1) (fun c => (hm c).2.2.1) (fun c => (hm c).2.2.2.1)
      (fun c => (hm c).2.2.2.2) c
  · exact (θ_run Cert.ReferenceIdeal.defs _ _).mono (fun r h => h 0) (Cert.ReferenceIdeal.Value.run (F := Ideal) m' g')

end Cert.Attn
-- ==== Proof.lean ====
/- The proof of what `Defs` claims: each program runs, the ideal program is the kernel with its mask named, and kernel and
   reference compute one function over the extended reals. -/
module

public import proofs.«01_k».proof.Defs
public import proofs.«01_k».proof.Proof.Claims
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_scores_KernelIdeal
public import proofs.«01_k».proof.Proof.Gen.Pre_finite_scores_ReferenceIdeal
public import proofs.«01_k».proof.Proof.Value

@[expose] public section

noncomputable section

namespace Cert.Proof

theorem claim : Cert.Claim := ⟨Cert.Kernel.Gen.facts, Cert.KernelIdeal.Gen.facts, Cert.ReferenceIdeal.Gen.facts,
  Cert.Pre_finite_scores_KernelIdeal.Gen.facts, Cert.Pre_finite_scores_ReferenceIdeal.Gen.facts,
  Cert.Attn.frame_p, Cert.Attn.frame_pi, fun m ρ _ => Cert.Attn.frame_pi m ρ trivial,
  Cert.Attn.frame_ri, fun m ρ _ => Cert.Attn.frame_ri m ρ trivial, Cert.Attn.ledger, Cert.Attn.algebraic⟩

end Cert.Proof

end
